-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)) (v3 : (c : Dev Cert.FfnIdeal.nD) → Buf (Elt Ideal) ((c.tc : Thread Cert.FfnIdeal.nD Cert.FfnIdeal.τ).loc Cert.FfnIdeal.main_v0_3)) (v4 : (c : Dev Cert.FfnIdeal.nD) → Buf (Elt Ideal) ((c.tc : Thread Cert.FfnIdeal.nD Cert.FfnIdeal.τ).loc Cert.FfnIdeal.main_v0_4)) (v5 : (c : Dev Cert.FfnIdeal.nD) → Buf (Elt Ideal) ((c.tc : Thread Cert.FfnIdeal.nD Cert.FfnIdeal.τ).loc Cert.FfnIdeal.main_v0_5)) (v6 : (c : Dev Cert.FfnIdeal.nD) → Buf (Elt Ideal) ((c.tc : Thread Cert.FfnIdeal.nD Cert.FfnIdeal.τ).loc Cert.FfnIdeal.main_v0_6)) (v7 : (c : Dev Cert.FfnIdeal.nD) → Buf (Elt Ideal) ((c.tc : Thread Cert.FfnIdeal.nD Cert.FfnIdeal.τ).loc Cert.FfnIdeal.main_v0_7)) (v8 : (c : Dev Cert.FfnIdeal.nD) → Buf (Elt Ideal) ((c.tc : Thread Cert.FfnIdeal.nD Cert.FfnIdeal.τ).loc Cert.FfnIdeal.main_v0_8)) (v9 : (c : Dev Cert.FfnIdeal.nD) → Buf (Elt Ideal) ((c.tc : Thread Cert.FfnIdeal.nD Cert.FfnIdeal.τ).loc Cert.FfnIdeal.main_v0_9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_v0_3) = v3 c
          ∧ r.2.mem ((c.tc : Thread Cert.FfnIdeal.nD Cert.FfnIdeal.τ).loc Cert.FfnIdeal.main_v0_4) = v4 c
          ∧ r.2.mem ((c.tc : Thread Cert.FfnIdeal.nD Cert.FfnIdeal.τ).loc Cert.FfnIdeal.main_v0_5) = v5 c
          ∧ r.2.mem ((c.tc : Thread Cert.FfnIdeal.nD Cert.FfnIdeal.τ).loc Cert.FfnIdeal.main_v0_6) = v6 c
          ∧ r.2.mem ((c.tc : Thread Cert.FfnIdeal.nD Cert.FfnIdeal.τ).loc Cert.FfnIdeal.main_v0_7) = v7 c
          ∧ r.2.mem ((c.tc : Thread Cert.FfnIdeal.nD Cert.FfnIdeal.τ).loc Cert.FfnIdeal.main_v0_8) = v8 c
          ∧ r.2.mem ((c.tc : Thread Cert.FfnIdeal.nD Cert.FfnIdeal.τ).loc Cert.FfnIdeal.main_v0_9) = v9 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v0_0) = v0 c
          ∧ r.2.mem ((c.tc : Thread Cert.FfnRefIdeal.nD Cert.FfnRefIdeal.τ).loc Cert.FfnRefIdeal.main_v0_1) = v1 c
          ∧ r.2.mem ((c.tc : Thread Cert.FfnRefIdeal.nD Cert.FfnRefIdeal.τ).loc Cert.FfnRefIdeal.main_v0_2) = v2 c
          ∧ r.2.mem ((c.tc : Thread Cert.FfnRefIdeal.nD Cert.FfnRefIdeal.τ).loc Cert.FfnRefIdeal.main_v0_3) = v3 c
          ∧ r.2.mem ((c.tc : Thread Cert.FfnRefIdeal.nD Cert.FfnRefIdeal.τ).loc Cert.FfnRefIdeal.main_v0_4) = v4 c
          ∧ r.2.mem ((c.tc : Thread Cert.FfnRefIdeal.nD Cert.FfnRefIdeal.τ).loc Cert.FfnRefIdeal.main_v0_5) = v5 c
          ∧ r.2.mem ((c.tc : Thread Cert.FfnRefIdeal.nD Cert.FfnRefIdeal.τ).loc Cert.FfnRefIdeal.main_v0_6) = v6 c
          ∧ r.2.mem ((c.tc : Thread Cert.FfnRefIdeal.nD Cert.FfnRefIdeal.τ).loc Cert.FfnRefIdeal.main_v0_7) = v7 c
          ∧ r.2.mem ((c.tc : Thread Cert.FfnRefIdeal.nD Cert.FfnRefIdeal.τ).loc Cert.FfnRefIdeal.main_v0_8) = v8 c
          ∧ r.2.mem ((c.tc : Thread Cert.FfnRefIdeal.nD Cert.FfnRefIdeal.τ).loc Cert.FfnRefIdeal.main_v0_9) = v9 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)
      ∧ m' ((c.tc : Thread Cert.DxRefIdeal.nD Cert.DxRefIdeal.τ).loc Cert.DxRefIdeal.main_arg7) = m ((c.tc : Thread Cert.DxIdeal.nD Cert.DxIdeal.τ).loc Cert.DxIdeal.main_arg7)) →
    ∃ (v0 : (c : Dev Cert.DxIdeal.nD) → Buf (Elt Ideal) ((c.tc : Thread Cert.DxIdeal.nD Cert.DxIdeal.τ).loc Cert.DxIdeal.main_v0_0)) (v1 : (c : Dev Cert.DxIdeal.nD) → Buf (Elt Ideal) ((c.tc : Thread Cert.DxIdeal.nD Cert.DxIdeal.τ).loc Cert.DxIdeal.main_v0_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0_0) = v0 c
          ∧ r.2.mem ((c.tc : Thread Cert.DxIdeal.nD Cert.DxIdeal.τ).loc Cert.DxIdeal.main_v0_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v21) = v0 c
          ∧ r.2.mem ((c.tc : Thread Cert.DxRefIdeal.nD Cert.DxRefIdeal.τ).loc Cert.DxRefIdeal.main_v11) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6)
          ∧ r.2.mem ((c.tc : Thread Cert.DxRefIdeal.nD Cert.DxRefIdeal.τ).loc Cert.DxRefIdeal.main_arg7) = m' ((c.tc : Thread Cert.DxRefIdeal.nD Cert.DxRefIdeal.τ).loc Cert.DxRefIdeal.main_arg7))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def Claim : Prop :=
  ∃ (hFfn : Cert.Ffn.Facts) (hFfnIdeal : Cert.FfnIdeal.Facts) (hFfnRefIdeal : Cert.FfnRefIdeal.Facts) (hDx : Cert.Dx.Facts) (hDxIdeal : Cert.DxIdeal.Facts) (hDxRefIdeal : Cert.DxRefIdeal.Facts) (hDown : Cert.Down.Facts) (hDownIdeal : Cert.DownIdeal.Facts) (hDownRefIdeal : Cert.DownRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Dx (hDx := hDx)
    ∧ quiescent_DxIdeal (hDxIdeal := hDxIdeal)
    ∧ quiescent_DxRefIdeal (hDxRefIdeal := hDxRefIdeal)
    ∧ quiescent_Down (hDown := hDown)
    ∧ quiescent_DownIdeal (hDownIdeal := hDownIdeal)
    ∧ quiescent_DownRefIdeal (hDownRefIdeal := hDownRefIdeal)
    ∧ preserves_Ffn_FfnIdeal
    ∧ algebraic_FfnIdeal_FfnRefIdeal (hFfnIdeal := hFfnIdeal) (hFfnRefIdeal := hFfnRefIdeal)
    ∧ preserves_Dx_DxIdeal
    ∧ algebraic_DxIdeal_DxRefIdeal (hDxIdeal := hDxIdeal) (hDxRefIdeal := hDxRefIdeal)
    ∧ preserves_Down_DownIdeal
    ∧ algebraic_DownIdeal_DownRefIdeal (hDownIdeal := hDownIdeal) (hDownRefIdeal := hDownRefIdeal)
-- ==== Ffn.lean ====
abbrev S6144x4096 : Shape := ⟨2, ![6144, 4096]⟩
abbrev S4096x11008 : Shape := ⟨2, ![4096, 11008]⟩
abbrev S11008x4096 : Shape := ⟨2, ![11008, 4096]⟩
abbrev S6144x11008 : Shape := ⟨2, ![6144, 11008]⟩
abbrev S11008x6144 : Shape := ⟨2, ![11008, 6144]⟩
abbrev S43x1x256 : Shape := ⟨3, ![43, 1, 256]⟩
abbrev S512x4096 : Shape := ⟨2, ![512, 4096]⟩
abbrev S4096x256 : Shape := ⟨2, ![4096, 256]⟩
abbrev S256x4096 : Shape := ⟨2, ![256, 4096]⟩
abbrev S512x256 : Shape := ⟨2, ![512, 256]⟩
abbrev S256x512 : Shape := ⟨2, ![256, 512]⟩
abbrev S1x1x256 : Shape := ⟨3, ![1, 1, 256]⟩
abbrev S6144x256 : Shape := ⟨2, ![6144, 256]⟩
abbrev S3x8x256 : Shape := ⟨3, ![3, 8, 256]⟩
abbrev S3x1x256 : Shape := ⟨3, ![3, 1, 256]⟩
abbrev S1x8x256 : Shape := ⟨3, ![1, 8, 256]⟩
abbrev S8x256 : Shape := ⟨2, ![8, 256]⟩
abbrev S256 : Shape := ⟨1, ![256]⟩
abbrev S1x256 : Shape := ⟨2, ![1, 256]⟩
abbrev S64x8x256 : Shape := ⟨3, ![64, 8, 256]⟩

abbrev nBuf : Space → Nat
  | .hbm => 15
  | .vmem => 35
  | .smem => 0
  | _ => 0

abbrev bufTy : (tb : Table) → Fin (tcTables nBuf tb) → BufTy
  | .hbm, ⟨0, _⟩ => ⟨S6144x4096, .bf16⟩
  | .hbm, ⟨1, _⟩ => ⟨S6144x4096, .bf16⟩
  | .hbm, ⟨2, _⟩ => ⟨S4096x11008, .bf16⟩
  | .hbm, ⟨3, _⟩ => ⟨S4096x11008, .bf16⟩
  | .hbm, ⟨4, _⟩ => ⟨S11008x4096, .bf16⟩
  | .hbm, ⟨5, _⟩ => ⟨S6144x11008, .bf16⟩
  | .hbm, ⟨6, _⟩ => ⟨S6144x11008, .bf16⟩
  | .hbm, ⟨7, _⟩ => ⟨S6144x11008, .bf16⟩
  | .hbm, ⟨8, _⟩ => ⟨S6144x11008, .fp8e4m3⟩
  | .hbm, ⟨9, _⟩ => ⟨S11008x6144, .fp8e4m3⟩
  | .hbm, ⟨10, _⟩ => ⟨S6144x11008, .fp8e4m3⟩
  | .hbm, ⟨11, _⟩ => ⟨S6144x11008, .fp8e4m3⟩
  | .hbm, ⟨12, _⟩ => ⟨S43x1x256, .f32⟩
  | .hbm, ⟨13, _⟩ => ⟨S43x1x256, .f32⟩
  | .hbm, ⟨14, _⟩ => ⟨S43x1x256, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S256x4096, .bf16⟩
  | .local _ .vmem, ⟨9, _⟩ => ⟨S256x4096, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .fp8e4m3⟩
  | .local _ .vmem, ⟨17, _⟩ => ⟨S512x256, .fp8e4m3⟩
  | .local _ .vmem, ⟨18, _⟩ => ⟨S256x512, .fp8e4m3⟩
  | .local _ .vmem, ⟨19, _⟩ => ⟨S256x512, .fp8e4m3⟩
  | .local _ .vmem, ⟨20, _⟩ => ⟨S512x256, .fp8e4m3⟩
  | .local _ .vmem, ⟨21, _⟩ => ⟨S512x256, .fp8e4m3⟩
  | .local _ .vmem, ⟨22, _⟩ => ⟨S512x256, .fp8e4m3⟩
  | .local _ .vmem, ⟨23, _⟩ => ⟨S512x256, .fp8e4m3⟩
  | .local _ .vmem, ⟨24, _⟩ => ⟨S1x1x256, .f32⟩
  | .local _ .vmem, ⟨25, _⟩ => ⟨S1x1x256, .f32⟩
  | .local _ .vmem, ⟨26, _⟩ => ⟨S1x1x256, .f32⟩
  | .local _ .vmem, ⟨27, _⟩ => ⟨S1x1x256, .f32⟩
  | .local _ .vmem, ⟨28, _⟩ => ⟨S1x1x256, .f32⟩
  | .local _ .vmem, ⟨29, _⟩ => ⟨S1x1x256, .f32⟩
  | .local _ .vmem, ⟨30, _⟩ => ⟨S6144x256, .f32⟩
  | .local _ .vmem, ⟨31, _⟩ => ⟨S6144x256, .f32⟩
  | .local _ .vmem, ⟨32, _⟩ => ⟨S6144x256, .f32⟩
  | .local _ .vmem, ⟨33, _⟩ => ⟨S3x8x256, .f32⟩
  | .local _ .vmem, ⟨34, _⟩ => ⟨S3x1x256, .f32⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev main_v0_8 : Ref sig .tc := ⟨.hbm, 13, rfl⟩
abbrev main_v0_9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![44, 12], ![false, false]⟩

def k0_cond3 (i : grid0.Coords) : BitVec 1 :=
  let arg0 : BitVec 32 := BitVec.ofNat 32 (i 0).val
  let c43_i32 : BitVec 32 := 43#32
  let v9 : BitVec 1 := Scalar.cmpi .slt arg0 c43_i32
  let v10 : BitVec 32 := Scalar.extui v9
  let c0_i32_4 : BitVec 32 := 0#32
  let v11 : BitVec 1 := Scalar.cmpi .ne v10 c0_i32_4
  v11

def k0_off1 (i : grid0.Coords) : Fin 2 → Nat :=
  let arg1 : BitVec 32 := BitVec.ofNat 32 (i 1).val
  let c512_i32 : BitVec 32 := 512#32
  let v0 : BitVec 32 := Scalar.muli arg1 c512_i32
  let v15 : Index := Scalar.indexCast v0
  let c0 : Index := 0#32
  ![v15.toNat, 0]
def k0_cond4 (i : grid0.Coords) : BitVec 1 :=
  let arg0 : BitVec 32 := BitVec.ofNat 32 (i 0).val
  let c43_i32_5 : BitVec 32 := 43#32
  let v12 : BitVec 1 := Scalar.cmpi .eq arg0 c43_i32_5
  let v13 : BitVec 32 := Scalar.extui v12
  let c0_i32_6 : BitVec 32 := 0#32
  let v14 : BitVec 1 := Scalar.cmpi .ne v13 c0_i32_6
  v14

def k0_off2 (i : grid0.Coords) : Fin 2 → Nat :=
  let arg1 : BitVec 32 := BitVec.ofNat 32 (i 1).val
  let c512_i32 : BitVec 32 := 512#32
  let v0 : BitVec 32 := Scalar.muli arg1 c512_i32
  let v15 : Index := Scalar.indexCast v0
  let c0 : Index := 0#32
  ![v15.toNat, 0]
def k0_cond2 (i : grid0.Coords) : BitVec 1 :=
  let arg1 : BitVec 32 := BitVec.ofNat 32 (i 1).val
  let c0_i32_2 : BitVec 32 := 0#32
  let v6 : BitVec 1 := Scalar.cmpi .eq arg1 c0_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 1 := Scalar.cmpi .slt arg0 c43_i32
  let c11_i32 : BitVec 32 := 11#32
  let v1 : BitVec 32 := Scalar.select v0 arg1 c11_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 1 := Scalar.cmpi .slt arg0 c43_i32
  let c11_i32 : BitVec 32 := 11#32
  let v1 : BitVec 32 := Scalar.select v0 arg1 c11_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg0 c42_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg0 c42_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg0 c42_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 1 := Scalar.cmpi .slt arg0 c43_i32
  let c11_i32 : BitVec 32 := 11#32
  let v1 : BitVec 32 := Scalar.select v0 arg1 c11_i32
  let c42_i32 : BitVec 32 := 42#32
  let v2 : BitVec 32 := Scalar.minsi arg0 c42_i32
  let c0_i32 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 1 := Scalar.cmpi .slt arg0 c43_i32
  let c11_i32 : BitVec 32 := 11#32
  let v1 : BitVec 32 := Scalar.select v0 arg1 c11_i32
  let c42_i32 : BitVec 32 := 42#32
  let v2 : BitVec 32 := Scalar.minsi arg0 c42_i32
  let c0_i32 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 1 := Scalar.cmpi .slt arg0 c43_i32
  let c11_i32 : BitVec 32 := 11#32
  let v1 : BitVec 32 := Scalar.select v0 arg1 c11_i32
  let c42_i32 : BitVec 32 := 42#32
  let v2 : BitVec 32 := Scalar.minsi arg0 c42_i32
  let c0_i32 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FfnRefIdeal.lean ====
abbrev S6144x4096 : Shape := ⟨2, ![6144, 4096]⟩
abbrev S4096x11008 : Shape := ⟨2, ![4096, 11008]⟩
abbrev S11008x4096 : Shape := ⟨2, ![11008, 4096]⟩
abbrev S6144x11008 : Shape := ⟨2, ![6144, 11008]⟩
abbrev S11008x6144 : Shape := ⟨2, ![11008, 6144]⟩
abbrev S43x1x256 : Shape := ⟨3, ![43, 1, 256]⟩
abbrev S11008 : Shape := ⟨1, ![11008]⟩
abbrev S1x11008 : Shape := ⟨2, ![1, 11008]⟩

abbrev nBuf : Space → Nat
  | .hbm => 15
  | .vmem => 15
  | .smem => 0
  | _ => 0

abbrev bufTy : (tb : Table) → Fin (tcTables nBuf tb) → BufTy
  | .hbm, ⟨0, _⟩ => ⟨S6144x4096, .bf16⟩
  | .hbm, ⟨1, _⟩ => ⟨S6144x4096, .bf16⟩
  | .hbm, ⟨2, _⟩ => ⟨S4096x11008, .bf16⟩
  | .hbm, ⟨3, _⟩ => ⟨S4096x11008, .bf16⟩
  | .hbm, ⟨4, _⟩ => ⟨S11008x4096, .bf16⟩
  | .hbm, ⟨5, _⟩ => ⟨S6144x11008, .bf16⟩
  | .hbm, ⟨6, _⟩ => ⟨S6144x11008, .bf16⟩
  | .hbm, ⟨7, _⟩ => ⟨S6144x11008, .bf16⟩
  | .hbm, ⟨8, _⟩ => ⟨S6144x11008, .fp8e4m3⟩
  | .hbm, ⟨9, _⟩ => ⟨S11008x6144, .fp8e4m3⟩
  | .hbm, ⟨10, _⟩ => ⟨S6144x11008, .fp8e4m3⟩
  | .hbm, ⟨11, _⟩ => ⟨S6144x11008, .fp8e4m3⟩
  | .hbm, ⟨12, _⟩ => ⟨S43x1x256, .f32⟩
  | .hbm, ⟨13, _⟩ => ⟨S43x1x256, .f32⟩
  | .hbm, ⟨14, _⟩ => ⟨S43x1x256, .f32⟩
  | .local _ .vmem, ⟨0, _⟩ => ⟨S6144x4096, .bf16⟩
  | .local _ .vmem, ⟨1, _⟩ => ⟨S6144x4096, .bf16⟩
  | .local _ .vmem, ⟨2, _⟩ => ⟨S4096x11008, .bf16⟩
  | .local _ .vmem, ⟨3, _⟩ => ⟨S4096x11008, .bf16⟩
  | .local _ .vmem, ⟨4, _⟩ => ⟨S11008x4096, .bf16⟩
  | .local _ .vmem, ⟨5, _⟩ => ⟨S6144x11008, .bf16⟩
  | .local _ .vmem, ⟨6, _⟩ => ⟨S6144x11008, .bf16⟩
  | .local _ .vmem, ⟨7, _⟩ => ⟨S6144x11008, .bf16⟩
  | .local _ .vmem, ⟨8, _⟩ => ⟨S6144x11008, .fp8e4m3⟩
  | .local _ .vmem, ⟨9, _⟩ => ⟨S11008x6144, .fp8e4m3⟩
  | .local _ .vmem, ⟨10, _⟩ => ⟨S6144x11008, .fp8e4m3⟩
  | .local _ .vmem, ⟨11, _⟩ => ⟨S6144x11008, .fp8e4m3⟩
  | .local _ .vmem, ⟨12, _⟩ => ⟨S43x1x256, .f32⟩
  | .local _ .vmem, ⟨13, _⟩ => ⟨S43x1x256, .f32⟩
  | .local _ .vmem, ⟨14, _⟩ => ⟨S43x1x256, .f32⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev main_v0_8 : Ref sig .tc := ⟨.hbm, 13, rfl⟩
abbrev main_v0_9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S6144x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x11008 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x11008 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11008x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x11008 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x11008 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x11008 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x11008 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S11008x6144 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6144x11008 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6144x11008 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S43x1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S43x1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S43x1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Dx.lean ====
abbrev S6144x11008 : Shape := ⟨2, ![6144, 11008]⟩
abbrev S4096x11008 : Shape := ⟨2, ![4096, 11008]⟩
abbrev S6144x4096 : Shape := ⟨2, ![6144, 4096]⟩
abbrev S6144x1 : Shape := ⟨2, ![6144, 1]⟩
abbrev S1x4096 : Shape := ⟨2, ![1, 4096]⟩
abbrev S512x256 : Shape := ⟨2, ![512, 256]⟩
abbrev S4096x256 : Shape := ⟨2, ![4096, 256]⟩
abbrev S512x4096 : Shape := ⟨2, ![512, 4096]⟩
abbrev S512x1 : Shape := ⟨2, ![512, 1]⟩
abbrev S64x4096 : Shape := ⟨2, ![64, 4096]⟩
abbrev S64x1 : Shape := ⟨2, ![64, 1]⟩
abbrev S64 : Shape := ⟨1, ![64]⟩

abbrev nBuf : Space → Nat
  | .hbm => 10
  | .vmem => 20
  | .smem => 0
  | _ => 0

abbrev bufTy : (tb : Table) → Fin (tcTables nBuf tb) → BufTy
  | .hbm, ⟨0, _⟩ => ⟨S6144x11008, .bf16⟩
  | .hbm, ⟨1, _⟩ => ⟨S6144x11008, .bf16⟩
  | .hbm, ⟨2, _⟩ => ⟨S4096x11008, .bf16⟩
  | .hbm, ⟨3, _⟩ => ⟨S4096x11008, .bf16⟩
  | .hbm, ⟨4, _⟩ => ⟨S6144x4096, .bf16⟩
  | .hbm, ⟨5, _⟩ => ⟨S6144x4096, .bf16⟩
  | .hbm, ⟨6, _⟩ => ⟨S6144x1, .f32⟩
  | .hbm, ⟨7, _⟩ => ⟨S1x4096, .f32⟩
  | .hbm, ⟨8, _⟩ => ⟨S6144x4096, .bf16⟩
  | .hbm, ⟨9, _⟩ => ⟨S6144x1, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S512x4096, .bf16⟩
  | .local _ .vmem, ⟨9, _⟩ => ⟨S512x4096, .bf16⟩
  | .local _ .vmem, ⟨10, _⟩ => ⟨S512x4096, .bf16⟩
  | .local _ .vmem, ⟨11, _⟩ => ⟨S512x4096, .bf16⟩
  | .local _ .vmem, ⟨12, _⟩ => ⟨S512x1, .f32⟩
  | .local _ .vmem, ⟨13, _⟩ => ⟨S512x1, .f32⟩
  | .local _ .vmem, ⟨14, _⟩ => ⟨S1x4096, .f32⟩
  | .local _ .vmem, ⟨15, _⟩ => ⟨S512x4096, .bf16⟩
  | .local _ .vmem, ⟨16, _⟩ => ⟨S512x4096, .bf16⟩
  | .local _ .vmem, ⟨17, _⟩ => ⟨S512x1, .f32⟩
  | .local _ .vmem, ⟨18, _⟩ => ⟨S512x1, .f32⟩
  | .local _ .vmem, ⟨19, _⟩ => ⟨S512x4096, .f32⟩
  | _, _ => ⟨S6144x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![12, 43], ![false, false]⟩

def k0_cond2 (i : grid0.Coords) : BitVec 1 :=
  let arg1 : BitVec 32 := BitVec.ofNat 32 (i 1).val
  let c42_i32 : BitVec 32 := 42#32
  let v15 : BitVec 1 := Scalar.cmpi .eq arg1 c42_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== DxRefIdeal.lean ====
abbrev S6144x11008 : Shape := ⟨2, ![6144, 11008]⟩
abbrev S4096x11008 : Shape := ⟨2, ![4096, 11008]⟩
abbrev S6144x4096 : Shape := ⟨2, ![6144, 4096]⟩
abbrev S6144x1 : Shape := ⟨2, ![6144, 1]⟩
abbrev S1x4096 : Shape := ⟨2, ![1, 4096]⟩
abbrev S_ : Shape := ⟨0, ![]⟩
abbrev S6144 : Shape := ⟨1, ![6144]⟩

abbrev nBuf : Space → Nat
  | .hbm => 32
  | .vmem => 0
  | .smem => 0
  | _ => 0

abbrev bufTy : (tb : Table) → Fin (tcTables nBuf tb) → BufTy
  | .hbm, ⟨0, _⟩ => ⟨S6144x11008, .bf16⟩
  | .hbm, ⟨1, _⟩ => ⟨S6144x11008, .bf16⟩
  | .hbm, ⟨2, _⟩ => ⟨S4096x11008, .bf16⟩
  | .hbm, ⟨3, _⟩ => ⟨S4096x11008, .bf16⟩
  | .hbm, ⟨4, _⟩ => ⟨S6144x4096, .bf16⟩
  | .hbm, ⟨5, _⟩ => ⟨S6144x4096, .bf16⟩
  | .hbm, ⟨6, _⟩ => ⟨S6144x1, .f32⟩
  | .hbm, ⟨7, _⟩ => ⟨S1x4096, .f32⟩
  | .hbm, ⟨8, _⟩ => ⟨S6144x4096, .f32⟩
  | .hbm, ⟨9, _⟩ => ⟨S6144x4096, .f32⟩
  | .hbm, ⟨10, _⟩ => ⟨S6144x4096, .f32⟩
  | .hbm, ⟨11, _⟩ => ⟨S6144x4096, .f32⟩
  | .hbm, ⟨12, _⟩ => ⟨S6144x4096, .f32⟩
  | .hbm, ⟨13, _⟩ => ⟨S6144x4096, .f32⟩
  | .hbm, ⟨14, _⟩ => ⟨S6144x4096, .f32⟩
  | .hbm, ⟨15, _⟩ => ⟨S_, .f32⟩
  | .hbm, ⟨16, _⟩ => ⟨S6144, .f32⟩
  | .hbm, ⟨17, _⟩ => ⟨S6144x1, .f32⟩
  | .hbm, ⟨18, _⟩ => ⟨S_, .f32⟩
  | .hbm, ⟨19, _⟩ => ⟨S6144x1, .f32⟩
  | .hbm, ⟨20, _⟩ => ⟨S6144x1, .f32⟩
  | .hbm, ⟨21, _⟩ => ⟨S6144x1, .f32⟩
  | .hbm, ⟨22, _⟩ => ⟨S6144x4096, .f32⟩
  | .hbm, ⟨23, _⟩ => ⟨S6144x4096, .f32⟩
  | .hbm, ⟨24, _⟩ => ⟨S6144x4096, .f32⟩
  | .hbm, ⟨25, _⟩ => ⟨S6144x4096, .f32⟩
  | .hbm, ⟨26, _⟩ => ⟨S6144x4096, .f32⟩
  | .hbm, ⟨27, _⟩ => ⟨S6144x4096, .f32⟩
  | .hbm, ⟨28, _⟩ => ⟨S6144x4096, .f32⟩
  | .hbm, ⟨29, _⟩ => ⟨S6144x4096, .f32⟩
  | .hbm, ⟨30, _⟩ => ⟨S6144x4096, .f32⟩
  | .hbm, ⟨31, _⟩ => ⟨S6144x4096, .bf16⟩
  | _, _ => ⟨S6144x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Down.lean ====
abbrev S6144x11008 : Shape := ⟨2, ![6144, 11008]⟩
abbrev S11008x4096 : Shape := ⟨2, ![11008, 4096]⟩
abbrev S6144x4096 : Shape := ⟨2, ![6144, 4096]⟩
abbrev S1024x256 : Shape := ⟨2, ![1024, 256]⟩
abbrev S256x4096 : Shape := ⟨2, ![256, 4096]⟩
abbrev S1024x4096 : Shape := ⟨2, ![1024, 4096]⟩

abbrev nBuf : Space → Nat
  | .hbm => 4
  | .vmem => 9
  | .smem => 0
  | _ => 0

abbrev bufTy : (tb : Table) → Fin (tcTables nBuf tb) → BufTy
  | .hbm, ⟨0, _⟩ => ⟨S6144x11008, .bf16⟩
  | .hbm, ⟨1, _⟩ => ⟨S11008x4096, .bf16⟩
  | .hbm, ⟨2, _⟩ => ⟨S6144x4096, .bf16⟩
  | .hbm, ⟨3, _⟩ => ⟨S6144x4096, .bf16⟩
  | .local _ .vmem, ⟨0, _⟩ => ⟨S1024x256, .bf16⟩
  | .local _ .vmem, ⟨1, _⟩ => ⟨S1024x256, .bf16⟩
  | .local _ .vmem, ⟨2, _⟩ => ⟨S256x4096, .bf16⟩
  | .local _ .vmem, ⟨3, _⟩ => ⟨S256x4096, .bf16⟩
  | .local _ .vmem, ⟨4, _⟩ => ⟨S1024x4096, .bf16⟩
  | .local _ .vmem, ⟨5, _⟩ => ⟨S1024x4096, .bf16⟩
  | .local _ .vmem, ⟨6, _⟩ => ⟨S1024x4096, .bf16⟩
  | .local _ .vmem, ⟨7, _⟩ => ⟨S1024x4096, .bf16⟩
  | .local _ .vmem, ⟨8, _⟩ => ⟨S1024x4096, .f32⟩
  | _, _ => ⟨S6144x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 43], ![false, false]⟩

def k0_cond2 (i : grid0.Coords) : BitVec 1 :=
  let arg1 : BitVec 32 := BitVec.ofNat 32 (i 1).val
  let c42_i32 : BitVec 32 := 42#32
  let v11 : BitVec 1 := Scalar.cmpi .eq arg1 c42_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DownRefIdeal.lean ====
abbrev S6144x11008 : Shape := ⟨2, ![6144, 11008]⟩
abbrev S11008x4096 : Shape := ⟨2, ![11008, 4096]⟩
abbrev S6144x4096 : Shape := ⟨2, ![6144, 4096]⟩

abbrev nBuf : Space → Nat
  | .hbm => 7
  | .vmem => 0
  | .smem => 0
  | _ => 0

abbrev bufTy : (tb : Table) → Fin (tcTables nBuf tb) → BufTy
  | .hbm, ⟨0, _⟩ => ⟨S6144x11008, .bf16⟩
  | .hbm, ⟨1, _⟩ => ⟨S11008x4096, .bf16⟩
  | .hbm, ⟨2, _⟩ => ⟨S6144x4096, .bf16⟩
  | .hbm, ⟨3, _⟩ => ⟨S6144x4096, .f32⟩
  | .hbm, ⟨4, _⟩ => ⟨S6144x4096, .f32⟩
  | .hbm, ⟨5, _⟩ => ⟨S6144x4096, .f32⟩
  | .hbm, ⟨6, _⟩ => ⟨S6144x4096, .bf16⟩
  | _, _ => ⟨S6144x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Common.lean ====
/-
  Shared by the proofs of the three calls: a matrix read at natural-number coordinates, the sum over a long axis cut
  into blocks, and the zero offsets of a load or store of a whole buffer.
-/
module

public import Idealize.ShloMosaic.Lib.Pointwise
public import Idealize.ShloMosaic.Lib.Pointwise.Sums
public import Idealize.ShloMosaic.Lib.Pipeline.Value
public import Idealize.ShloMosaic.PureOps.Ideal.Laws

@[expose] public section

noncomputable section

namespace Cert.Common

open Idealize.ShloMosaic

/-- The matrix `X` at row `r` and column `c`, zero outside. -/
def at2 {R C : ℕ} (X : (⟨2, ![R, C]⟩ : Shape).Idx → EReal) (r c : ℕ) : EReal :=
  if h : r < R ∧ c < C then X (ix2 ⟨r, h.1⟩ ⟨c, h.2⟩) else 0

theorem at2_of_lt {R C : ℕ} (X : (⟨2, ![R, C]⟩ : Shape).Idx → EReal) {r c : ℕ} (hr : r < R) (hc : c < C) :
    at2 X r c = X (ix2 ⟨r, hr⟩ ⟨c, hc⟩) := dif_pos ⟨hr, hc⟩

/-- Reading at an index is reading at its two coordinates. -/
theorem at2_idx {R C : ℕ} (X : (⟨2, ![R, C]⟩ : Shape).Idx → EReal) (i : (⟨2, ![R, C]⟩ : Shape).Idx) :
    at2 X (i 0).val (i 1).val = X i := by
  rw [at2_of_lt X (i 0).isLt (i 1).isLt]
  exact congrArg X (funext fun a => by match a with | ⟨0, _⟩ => rfl | ⟨1, _⟩ => rfl)

/-- A read at an index whose coordinates are known. -/
theorem eq_at2 {R C : ℕ} (X : (⟨2, ![R, C]⟩ : Shape).Idx → EReal) (i : (⟨2, ![R, C]⟩ : Shape).Idx) {r c : ℕ}
    (hr : (i 0).val = r) (hc : (i 1).val = c) : X i = at2 X r c := by
  rw [← hr, ← hc, at2_idx]

/-- A sum over `J * T` positions, as the sum over the blocks of the sums within a block. -/
theorem sum_blocks (J T : ℕ) (g : ℕ → EReal) :
    ∑ j ∈ Finset.range J, ∑ t : Fin T, g (T * j + t.val) = ∑ k : Fin (J * T), g k.val := by
  rw [Finset.sum_range, Fin.sum_univ_tiles J T rfl (fun k => g k.val)]
  exact Finset.sum_congr rfl fun j _ => Finset.sum_congr rfl fun t _ => by rw [Nat.mul_comm]

/-- The zero offsets of a two-axis access. -/
theorem hz2 : (![0, 0] : Fin 2 → Nat) = fun _ => 0 := funext fun a => by fin_cases a <;> rfl

end Cert.Common

end
-- ==== Proof.DownValue.lean ====
/-
  The down projection with its residual: what the call leaves in its result is `x + hb · wd`, the inner axis cut into
  43 blocks of 256 that a grid axis accumulates.
-/
module

public import proofs.«01_k».proof.Proof.Common
public import proofs.«01_k».proof.Defs
public import proofs.«01_k».proof.Proof.Gen.DownIdeal.Value
public import proofs.«01_k».proof.Proof.Gen.DownRefIdeal.Read
public import Idealize.ShloMosaic.Lib.Tactic

@[expose] public section

set_option maxRecDepth 16384

noncomputable section

open Idealize.ShloMosaic Idealize.ShloMosaic.TcCoe Idealize.SL.Sem

namespace Cert.DownIdeal.Sum

open Cert.DownIdeal Cert.DownIdeal.Gen Cert.Common

/-- One accumulation step at an entry. -/
theorem pay2_apply (v3 : Vec Ideal S1024x4096 .f32) (v4 : Vec Ideal S1024x256 .bf16) (v5 : Vec Ideal S256x4096 .bf16) (y : S1024x4096.Idx) :
    k0_pay2 v3 v4 v5 y = v3 y + ∑ l : Fin 256, v4 (ix2 (y 0) l) * v5 (ix2 l (y 1)) := by
  pointwise [k0_pay2]

theorem pay1_apply (y : S1024x4096.Idx) : k0_pay1 (F := Ideal) y = 0 := by
  pointwise [k0_pay1]

theorem pay3_apply (v14 : Vec Ideal S1024x4096 .bf16) (v16 : Vec Ideal S1024x4096 .f32) (y : S1024x4096.Idx) :
    k0_pay3 v14 v16 y = v14 y + v16 y := by
  pointwise [k0_pay3]

section Cases
variable {F : FTy → Type} [FloatOps F]
variable (c : Dev nD) (i : grid0.Coords) (arg2 : Memref sig .tc .vmem S1024x256 .bf16) (harg2 : arg2.IsWhole) (arg3 : Memref sig .tc .vmem S256x4096 .bf16) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1024x4096 .f32) (harg6 : arg6.IsWhole)
  (x0 : Vec F S1024x256 .bf16) (x1 : Vec F S256x4096 .bf16) (x2 : Vec F S1024x4096 .bf16) (xs0 : Vec F S1024x4096 .f32)

/-- The first block's point: the accumulator restarts at zero. -/
theorem acc_A (hc0 : cond0_0 i) (hc1 : ¬cond0_1 i) :
    sout0_A_0 c i arg2 harg2 arg3 harg3 arg4 harg4 arg5 harg5 arg6 harg6 hc0 hc1 x0 x1 x2 = k0_pay2 (k0_pay1 (F := F)) x0 x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x4096) hz2, View.readCov_unit_zero (S := S1024x4096) _ hz2]
  simp only [View.readAt_eq_ld, harg2.read_unread, harg3.read_unread, View.ld_unit_zero (S := S1024x256) hz2, View.ld_unit_zero (S := S256x4096) hz2]

/-- A middle block's point adds its product. -/
theorem acc_B (hc0 : ¬cond0_0 i) (hc1 : ¬cond0_1 i) :
    sout0_B_0 c i arg2 harg2 arg3 harg3 arg4 harg4 arg5 harg5 arg6 harg6 hc0 hc1 x0 x1 x2 xs0 = k0_pay2 xs0 x0 x1 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_cons_unit_zero (S := S1024x4096) hz2]
  simp only [View.readAt_eq_ld, harg2.read_unread, harg3.read_unread, harg6.read_unread, View.ld_unit_zero (S := S1024x256) hz2, View.ld_unit_zero (S := S256x4096) hz2, View.ld_unit_zero (S := S1024x4096) hz2]

/-- The last block's point adds its product … -/
theorem acc_C (hc0 : ¬cond0_0 i) (hc1 : cond0_1 i) :
    sout0_C_0 c i arg2 harg2 arg3 harg3 arg4 harg4 arg5 harg5 arg6 harg6 hc0 hc1 x0 x1 x2 xs0 = k0_pay2 xs0 x0 x1 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_cons_unit_zero (S := S1024x4096) hz2]
  simp only [View.readAt_eq_ld, harg2.read_unread, harg3.read_unread, harg6.read_unread, View.ld_unit_zero (S := S1024x256) hz2, View.ld_unit_zero (S := S256x4096) hz2, View.ld_unit_zero (S := S1024x4096) hz2]

/-- … and stores the accumulator plus the residual. -/
theorem out_C (hc0 : ¬cond0_0 i) (hc1 : cond0_1 i) :
    out0_C_3 c i arg2 harg2 arg3 harg3 arg4 harg4 arg5 harg5 arg6 harg6 hc0 hc1 x0 x1 x2 xs0 = k0_pay3 x2 (k0_pay2 xs0 x0 x1) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_cons_unit_zero (S := S1024x4096) hz2, View.readCov_unit_zero (S := S1024x4096) _ hz2]
  simp only [View.readAt_eq_ld, harg2.read_unread, harg3.read_unread, harg4.read_unread, harg6.read_unread, View.ld_unit_zero (S := S1024x256) hz2, View.ld_unit_zero (S := S256x4096) hz2, View.ld_unit_zero (S := S1024x4096) hz2]

end Cases

variable (m : (ℓ : Loc nD τ sig) → Buf (Elt Ideal) ℓ) (ρ : Dev nD → PrngReg)

/-- The three arguments. -/
abbrev hb (c : Dev nD) : S6144x11008.Idx → EReal := m ((c : Thread nD τ).loc main_arg0)
abbrev wd (c : Dev nD) : S11008x4096.Idx → EReal := m ((c : Thread nD τ).loc main_arg1)
abbrev xx (c : Dev nD) : S6144x4096.Idx → EReal := m ((c : Thread nD τ).loc main_arg2)

/-- Which block each point reads, decided over the grid. -/
theorem idx0 : ∀ t : Fin cfg0.N, win0_0.index t (0 : Fin 2) = t.val / 43 ∧ win0_0.index t (1 : Fin 2) = t.val % 43 :=
  (by decide +kernel : ∀ t : Fin grid0.N, _)
theorem idx1 : ∀ t : Fin cfg0.N, win0_1.index t (0 : Fin 2) = t.val % 43 ∧ win0_1.index t (1 : Fin 2) = 0 :=
  (by decide +kernel : ∀ t : Fin grid0.N, _)
theorem idx2 : ∀ t : Fin cfg0.N, win0_2.index t (0 : Fin 2) = t.val / 43 ∧ win0_2.index t (1 : Fin 2) = 0 :=
  (by decide +kernel : ∀ t : Fin grid0.N, _)

theorem blk0 (c : Dev nD) (t : Fin cfg0.N) (y : S1024x256.Idx) :
    iblk m c 0 t y = at2 (hb m c) (1024 * (t.val / 43) + (y 0).val) (256 * (t.val % 43) + (y 1).val) := by
  obtain ⟨e0, e1⟩ := idx0 t
  refine Eq.trans (b := hb m c (((cfg0.win 0).blk t).view.emb y)) ?_ (eq_at2 _ _ ?_ ?_)
  · show V m c (Pipeline.arrRef spec0 0) _ = _
    rfl
  · show win0_0.index t (0 : Fin 2) * 1024 + 1 * (y 0).val = _; rw [e0]; omega
  · show win0_0.index t (1 : Fin 2) * 256 + 1 * (y 1).val = _; rw [e1]; omega

theorem blk1 (c : Dev nD) (t : Fin cfg0.N) (y : S256x4096.Idx) :
    iblk m c 1 t y = at2 (wd m c) (256 * (t.val % 43) + (y 0).val) (y 1).val := by
  obtain ⟨e0, e1⟩ := idx1 t
  refine Eq.trans (b := wd m c (((cfg0.win 1).blk t).view.emb y)) ?_ (eq_at2 _ _ ?_ ?_)
  · show V m c (Pipeline.arrRef spec0 1) _ = _
    rfl
  · show win0_1.index t (0 : Fin 2) * 256 + 1 * (y 0).val = _; rw [e0]; omega
  · show win0_1.index t (1 : Fin 2) * 4096 + 1 * (y 1).val = _; rw [e1]; omega

theorem blk2 (c : Dev nD) (t : Fin cfg0.N) (y : S1024x4096.Idx) :
    iblk m c 2 t y = at2 (xx m c) (1024 * (t.val / 43) + (y 0).val) (y 1).val := by
  obtain ⟨e0, e1⟩ := idx2 t
  refine Eq.trans (b := xx m c (((cfg0.win 2).blk t).view.emb y)) ?_ (eq_at2 _ _ ?_ ?_)
  · show V m c (Pipeline.arrRef spec0 2) _ = _
    rfl
  · show win0_2.index t (0 : Fin 2) * 1024 + 1 * (y 0).val = _; rw [e0]; omega
  · show win0_2.index t (1 : Fin 2) * 4096 + 1 * (y 1).val = _; rw [e1]; omega

/-- The inner product of row `r` of `hb` and column `q` of `wd` over the first `n` blocks of 256. -/
def part (c : Dev nD) (r q n : ℕ) : EReal :=
  ∑ k ∈ Finset.range n, ∑ l : Fin 256, at2 (hb m c) r (256 * k + l.val) * at2 (wd m c) (256 * k + l.val) q

theorem part_succ (c : Dev nD) (r q n : ℕ) :
    part m c r q (n + 1) = part m c r q n + ∑ l : Fin 256, at2 (hb m c) r (256 * n + l.val) * at2 (wd m c) (256 * n + l.val) q :=
  Finset.sum_range_succ _ _

/-- One step, over an accumulator holding the first blocks. -/
theorem step_apply (c : Dev nD) (t : Fin cfg0.N) (v : Vec Ideal S1024x4096 .f32)
    (hv : ∀ y : S1024x4096.Idx, v y = part m c (1024 * (t.val / 43) + (y 0).val) (y 1).val (t.val % 43)) (y : S1024x4096.Idx) :
    k0_pay2 v (iblk m c 0 t) (iblk m c 1 t) y = part m c (1024 * (t.val / 43) + (y 0).val) (y 1).val (t.val % 43 + 1) := by
  rw [pay2_apply, hv, part_succ]
  exact congrArg _ (Finset.sum_congr rfl fun l _ => by rw [blk0, blk1]; rfl)

/-- What the accumulator holds after each point. -/
theorem acc_eq (c : Dev nD) : ∀ (n : ℕ) (h : n < cfg0.N) (y : S1024x4096.Idx),
    (outsAt0 m c n h).2 y = part m c (1024 * (n / 43) + (y 0).val) (y 1).val (n % 43 + 1) := by
  intro n
  induction n with
  | zero =>
    intro h y
    rw [outsAt0_A m c ⟨0, h⟩ (Nat.zero_mod 43) (by show ¬0 % 43 = 42; omega)]
    dsimp only
    rw [acc_A]
    refine step_apply m c ⟨0, h⟩ _ (fun y => ?_) y
    rw [pay1_apply]; exact (Finset.sum_range_zero _).symm
  | succ n ih =>
    intro h y
    by_cases h0 : (n + 1) % 43 = 0
    · rw [outsAt0_A m c ⟨n + 1, h⟩ h0 (by show ¬(n + 1) % 43 = 42; omega)]
      dsimp only
      rw [acc_A]
      refine step_apply m c ⟨n + 1, h⟩ _ (fun y => ?_) y
      rw [pay1_apply]; show 0 = part m c _ _ ((n + 1) % 43); rw [h0]; exact (Finset.sum_range_zero _).symm
    · have e1 : (n + 1) / 43 = n / 43 := by omega
      have e2 : (n + 1) % 43 = n % 43 + 1 := by omega
      have hv : ∀ y : S1024x4096.Idx, (outsAt0 m c n (Nat.lt_of_succ_lt h)).2 y
          = part m c (1024 * ((⟨n + 1, h⟩ : Fin cfg0.N).val / 43) + (y 0).val) (y 1).val ((⟨n + 1, h⟩ : Fin cfg0.N).val % 43) := by
        intro y; dsimp only; rw [ih, e1, e2]
      by_cases h1 : (n + 1) % 43 = 42
      · rw [outsAt0_C m c ⟨n + 1, h⟩ h0 h1]
        dsimp only
        rw [acc_C]
        exact step_apply m c ⟨n + 1, h⟩ _ hv y
      · rw [outsAt0_B m c ⟨n + 1, h⟩ h0 h1]
        dsimp only
        rw [acc_B]
        exact step_apply m c ⟨n + 1, h⟩ _ hv y

/-- What the last block's point leaves in the output block. -/
theorem out_eq (c : Dev nD) (t : Fin cfg0.N) (h1 : t.val % 43 = 42) (y : S1024x4096.Idx) :
    (outsAt0 m c t.val t.isLt).1 y
      = at2 (xx m c) (1024 * (t.val / 43) + (y 0).val) (y 1).val + part m c (1024 * (t.val / 43) + (y 0).val) (y 1).val 43 := by
  have h0 : ¬ t.val % 43 = 0 := by omega
  have hs := acc_eq m c t.val t.isLt y
  rw [outsAt0_C m c t h0 h1] at hs ⊢
  dsimp only at hs ⊢
  rw [acc_C] at hs
  rw [out_C, pay3_apply, hs, blk2, h1]

/-- The result, entry by entry. -/
theorem result_apply (c : Dev nD) (i : S6144x4096.Idx) :
    Value.G3 m c i = xx m c i + ∑ k : Fin 11008, hb m c (ix2 (i 0) k) * wd m c (ix2 k (i 1)) := by
  have hi0 : (i 0).val < 6144 := (i 0).isLt
  have hi1 : (i 1).val < 4096 := (i 1).isLt
  have hp : Value.pt3Of i < cfg0.N := by
    rw [show cfg0.N = 258 from N_0]; show 43 * (1 * ((i 0).val / 1024 - 0) + 1 * ((i 1).val / 4096 - 0)) + 42 < 258; omega
  have hq : Value.pt3Of i = 43 * ((i 0).val / 1024) + 42 := by
    show 43 * (1 * ((i 0).val / 1024 - 0) + 1 * ((i 1).val / 4096 - 0)) + 42 = _; omega
  have e := out_eq m c ⟨Value.pt3Of i, hp⟩ (by dsimp only; rw [hq]; omega) (Value.loc3Of i)
  have hr : 1024 * (Value.pt3Of i / 43) + (Value.loc3Of i 0).val = (i 0).val := by
    rw [hq]; show _ + (i 0).val % 1024 = _; omega
  have hc : (Value.loc3Of i 1).val = (i 1).val := by show (i 1).val % 4096 = _; omega
  replace e : (outsAt0 m c (Value.pt3Of i) hp).1 (Value.loc3Of i) = xx m c i + part m c (i 0).val (i 1).val 43 := by
    refine e.trans ?_
    show at2 (xx m c) (1024 * (Value.pt3Of i / 43) + (Value.loc3Of i 0).val) (Value.loc3Of i 1).val
      + part m c (1024 * (Value.pt3Of i / 43) + (Value.loc3Of i 0).val) (Value.loc3Of i 1).val 43 = _
    rw [hr, hc, at2_idx]
  unfold Value.G3
  rw [dif_pos hp, ← Value.outsAt0_sweep m c (Value.pt3Of i) hp, e]
  refine congrArg _ ?_
  unfold part
  rw [sum_blocks 43 256 (fun k => at2 (hb m c) (i 0).val k * at2 (wd m c) k (i 1).val)]
  exact Finset.sum_congr rfl fun k _ => by
    rw [at2_of_lt (hb m c) hi0 k.isLt, at2_of_lt (wd m c) k.isLt hi1]; rfl

end Cert.DownIdeal.Sum

namespace Cert.DownValue

/-- The reference's value, entry by entry. -/
theorem ref_apply (x0 : (⟨DownRefIdeal.S6144x11008, .bf16⟩ : BufTy).Contents (Elt Ideal)) (x1 : (⟨DownRefIdeal.S11008x4096, .bf16⟩ : BufTy).Contents (Elt Ideal)) (x2 : (⟨DownRefIdeal.S6144x4096, .bf16⟩ : BufTy).Contents (Elt Ideal)) (i : DownRefIdeal.S6144x4096.Idx) :
    DownRefIdeal.Read.val_main_v3 (F := Ideal) x0 x1 x2 i = x2 i + ∑ k : Fin 11008, x0 (ix2 (i 0) k) * x1 (ix2 k (i 1)) := by
  pointwise [DownRefIdeal.Read.val_main_v3, DownRefIdeal.Read.val_main_v2, DownRefIdeal.Read.val_main_v1, DownRefIdeal.Read.val_main_v0]

/-- The claim: the two runs leave the same result. -/
theorem algebraic : algebraic_DownIdeal_DownRefIdeal :=
  fun m ρ m' ρ' _ hag => ⟨fun c => DownIdeal.Value.G3 m c, DownIdeal.Value.run m ρ,
    (θ_run _ _ _).mono (fun _ h c => ⟨(h c).1.trans (by
      rw [(hag c).1, (hag c).2.1, (hag c).2.2]
      funext i
      exact (ref_apply _ _ _ i).trans (DownIdeal.Sum.result_apply m c i).symm), (h c).2⟩) (DownRefIdeal.Value.run m' ρ')⟩

end Cert.DownValue

end
-- ==== Proof.DxValue.lean ====
/-
  The gradient through the two projections and the normalisation: the call accumulates `dg · wgᵀ + du · wuᵀ` over 43
  blocks of 256 columns and finishes with the normalisation's pull-back, eight bands of 64 rows at a time.
-/
module

public import proofs.«01_k».proof.Proof.Common
public import proofs.«01_k».proof.Defs
public import proofs.«01_k».proof.Proof.Gen.DxIdeal.Value
public import proofs.«01_k».proof.Proof.Gen.DxRefIdeal.Read
public import Idealize.ShloMosaic.Lib.Tactic

@[expose] public section

set_option maxRecDepth 16384

noncomputable section

open Idealize.ShloMosaic Idealize.ShloMosaic.TcCoe Idealize.SL.Sem

namespace Cert.DxIdeal.Sum

open Cert.DxIdeal Cert.DxIdeal.Gen Cert.Common

/-- One accumulation step at an entry. -/
theorem pay2_apply (v3 : Vec Ideal S512x4096 .f32) (v4 : Vec Ideal S512x256 .bf16) (v5 : Vec Ideal S4096x256 .bf16) (v7 : Vec Ideal S512x256 .bf16) (v8 : Vec Ideal S4096x256 .bf16) (y : S512x4096.Idx) :
    k0_pay2 v3 v4 v5 v7 v8 y = v3 y + (∑ l : Fin 256, v4 (ix2 (y 0) l) * v5 (ix2 (y 1) l) + ∑ l : Fin 256, v7 (ix2 (y 0) l) * v8 (ix2 (y 1) l)) := by
  pointwise [k0_pay2]

theorem pay1_apply (y : S512x4096.Idx) : k0_pay1 (F := Ideal) y = 0 := by
  pointwise [k0_pay1]

/-- The normalisation's coefficient at a row, from the whole accumulated gradient. -/
def coef (acc : Vec Ideal S512x4096 .f32) (x : Vec Ideal S512x4096 .bf16) (r : Vec Ideal S512x1 .f32) (nw : Vec Ideal S1x4096 .f32) (a : Fin 512) : EReal :=
  r (ix2 a (0 : Fin 1)) * Ideal.div (∑ l : Fin 4096, acc (ix2 a l) * nw (ix2 (0 : Fin 1) l) * x (ix2 a l)) (Ideal.ofBits .f32 0x45800000#32)

/-- The gradient handed on at an entry. -/
def grad (acc : Vec Ideal S512x4096 .f32) (x dy : Vec Ideal S512x4096 .bf16) (r : Vec Ideal S512x1 .f32) (nw : Vec Ideal S1x4096 .f32) (a : Fin 512) (b : Fin 4096) : EReal :=
  dy (ix2 a b) + r (ix2 a (0 : Fin 1)) * (acc (ix2 a b) * nw (ix2 (0 : Fin 1) b) - x (ix2 a b) * r (ix2 a (0 : Fin 1)) * coef acc x r nw a)

/-- A band's coefficient at a row. -/
theorem pay9_apply (v18 : Vec Ideal S64x4096 .bf16) (v20 : Vec Ideal S64x1 .f32) (v21 : Vec Ideal S64x4096 .f32) (v22 : Vec Ideal S1x4096 .f32) (z : S64x1.Idx) :
    k0_pay9 v18 v20 v21 v22 z = v20 z * Ideal.div (∑ l : Fin 4096, v21 (ix2 (z 0) l) * v22 (ix2 (0 : Fin 1) l) * v18 (ix2 (z 0) l)) (Ideal.ofBits .f32 0x45800000#32) := by
  pointwise [k0_pay9, k0_pay8, k0_pay7]

/-- A band's gradient at an entry. -/
theorem pay10_apply (v18 : Vec Ideal S64x4096 .bf16) (v20 : Vec Ideal S64x1 .f32) (v21 : Vec Ideal S64x4096 .f32) (v22 : Vec Ideal S1x4096 .f32) (v38 : Vec Ideal S64x4096 .bf16) (z : S64x4096.Idx) :
    k0_pay10 v18 v20 v21 v22 v38 z = v38 z + v20 (ix2 (z 0) (0 : Fin 1)) * (v21 z * v22 (ix2 (0 : Fin 1) (z 1)) - v18 z * v20 (ix2 (z 0) (0 : Fin 1)) * k0_pay9 v18 v20 v21 v22 (ix2 (z 0) (0 : Fin 1))) := by
  pointwise [k0_pay10, k0_pay8, k0_pay7]

/-- A band's entries are the block's at its offset. -/
theorem band_idx (o : ℕ) (inb : ∀ a, (![o, 0] : Fin 2 → ℕ) a + (![64, 4096] : Fin 2 → ℕ) a ≤ S512x4096.size a) (j : Fin 64) (a : Fin 512) (ha : a.val = o + j.val) (l : Fin 4096) :
    (Rect.unit (s := S512x4096) ![o, 0] ![64, 4096] inb).idx (ix2 j l : S64x4096.Idx) = ix2 a l := by
  funext k; apply Fin.ext
  match k with
  | 0 => show o + 1 * j.val = a.val; omega
  | 1 => show 0 + 1 * l.val = l.val; omega

theorem band_idx1 (o : ℕ) (inb : ∀ a, (![o, 0] : Fin 2 → ℕ) a + (![64, 1] : Fin 2 → ℕ) a ≤ S512x1.size a) (j : Fin 64) (a : Fin 512) (ha : a.val = o + j.val) :
    (Rect.unit (s := S512x1) ![o, 0] ![64, 1] inb).idx (ix2 j (0 : Fin 1) : S64x1.Idx) = ix2 a (0 : Fin 1) := by
  funext k; apply Fin.ext
  match k with
  | 0 => show o + 1 * j.val = a.val; omega
  | 1 => rfl

section Bands
variable (acc : Vec Ideal S512x4096 .f32) (x dy : Vec Ideal S512x4096 .bf16) (r : Vec Ideal S512x1 .f32) (nw : Vec Ideal S1x4096 .f32)
  (o : ℕ) (inb : ∀ a, (![o, 0] : Fin 2 → ℕ) a + (![64, 4096] : Fin 2 → ℕ) a ≤ S512x4096.size a) (inb1 : ∀ a, (![o, 0] : Fin 2 → ℕ) a + (![64, 1] : Fin 2 → ℕ) a ≤ S512x1.size a)

theorem band_coef (j : Fin 64) (a : Fin 512) (ha : a.val = o + j.val) :
    k0_pay9 (View.ld x (Rect.unit (s := S512x4096) ![o, 0] ![64, 4096] inb)) (View.ld r (Rect.unit (s := S512x1) ![o, 0] ![64, 1] inb1)) (View.ld acc (Rect.unit (s := S512x4096) ![o, 0] ![64, 4096] inb)) nw (ix2 j (0 : Fin 1))
      = coef acc x r nw a := by
  rw [pay9_apply]
  have e : ∀ l : Fin 4096, (Rect.unit (s := S512x4096) ![o, 0] ![64, 4096] inb).idx (ix2 j l : S64x4096.Idx) = ix2 a l := fun l => band_idx o inb j a ha l
  unfold coef
  refine congrArg₂ (· * ·) (congrArg r (band_idx1 o inb1 j a ha)) (congrArg₂ Ideal.div (Finset.sum_congr rfl fun l _ => ?_) rfl)
  exact congrArg₂ (· * ·) (congrArg₂ (· * ·) (congrArg acc (e l)) rfl) (congrArg x (e l))

theorem band_coef' (z : (Rect.unit (s := S512x1) ![o, 0] ![64, 1] inb1).shape.Idx) :
    k0_pay9 (View.ld x (Rect.unit (s := S512x4096) ![o, 0] ![64, 4096] inb)) (View.ld r (Rect.unit (s := S512x1) ![o, 0] ![64, 1] inb1)) (View.ld acc (Rect.unit (s := S512x4096) ![o, 0] ![64, 4096] inb)) nw z
      = coef acc x r nw ((Rect.unit (s := S512x1) ![o, 0] ![64, 1] inb1).emb z 0) := by
  have ha : ((Rect.unit (s := S512x1) ![o, 0] ![64, 1] inb1).emb z 0).val = o + (z 0).val := by
    show o + 1 * (z 0).val = _; omega
  have e : z = (ix2 (z 0) (0 : Fin 1) : S64x1.Idx) := by
    funext k
    match k with
    | 0 => rfl
    | 1 => exact Subsingleton.elim (α := Fin 1) _ _
  rw [e]
  exact band_coef acc x r nw o inb inb1 (z 0) _ ha

theorem band_grad (z : (Rect.unit (s := S512x4096) ![o, 0] ![64, 4096] inb).shape.Idx) :
    k0_pay10 (View.ld x (Rect.unit (s := S512x4096) ![o, 0] ![64, 4096] inb)) (View.ld r (Rect.unit (s := S512x1) ![o, 0] ![64, 1] inb1)) (View.ld acc (Rect.unit (s := S512x4096) ![o, 0] ![64, 4096] inb)) nw (View.ld dy (Rect.unit (s := S512x4096) ![o, 0] ![64, 4096] inb)) z
      = grad acc x dy r nw ((Rect.unit (s := S512x4096) ![o, 0] ![64, 4096] inb).emb z 0) ((Rect.unit (s := S512x4096) ![o, 0] ![64, 4096] inb).emb z 1) := by
  have ha : ((Rect.unit (s := S512x4096) ![o, 0] ![64, 4096] inb).emb z 0).val = o + (z 0).val := by
    show o + 1 * (z 0).val = _; omega
  have e : (Rect.unit (s := S512x4096) ![o, 0] ![64, 4096] inb).idx z
      = ix2 ((Rect.unit (s := S512x4096) ![o, 0] ![64, 4096] inb).emb z 0) ((Rect.unit (s := S512x4096) ![o, 0] ![64, 4096] inb).emb z 1) := by
    funext k; match k with | 0 => rfl | 1 => rfl
  have e1 : (ix2 (0 : Fin 1) (z 1) : S1x4096.Idx) = ix2 (0 : Fin 1) ((Rect.unit (s := S512x4096) ![o, 0] ![64, 4096] inb).emb z 1) := by
    funext k; apply Fin.ext
    match k with
    | 0 => rfl
    | 1 => show (z 1).val = 0 + 1 * (z 1).val; omega
  have e2 := congrArg r (band_idx1 o inb1 (z 0) _ ha)
  rw [pay10_apply]
  unfold grad
  refine congrArg₂ (· + ·) (congrArg dy e) (congrArg₂ (· * ·) e2 (congrArg₂ (· - ·) (congrArg₂ (· * ·) (congrArg acc e) (congrArg nw e1)) (congrArg₂ (· * ·) (congrArg₂ (· * ·) (congrArg x e) e2) ?_)))
  exact band_coef acc x r nw o inb inb1 (z 0) _ ha

end Bands

/-- A part read back from a buffer that was just stored whole. -/
theorem part_back {κ : Kind} {sp : Space} {S : Shape} {e : EltTy} {F : FTy → Type} [FloatOps F] (v : View sig κ sp S e) (w : S.Idx → Elt F e) {off : Fin S.rank → ℕ}
    (h : off = fun _ => 0) (inb : ∀ a, off a + S.size a ≤ S.size a) (r : Rect S) :
    v.readCov [⟨Rect.unit off S.size inb, w⟩] r.toLoadRect = View.ld w r := by
  rw [View.readCov_eq_canon_ld _ _ _ (fun y => ⟨_, List.mem_singleton_self _, View.mem_set_unit_zero h inb y⟩), View.canon_unit_zero h]

theorem band_back {F : FTy → Type} [FloatOps F] (v : View sig .tc .vmem S512x4096 .f32) (w : Vec F S512x4096 .f32) (o : ℕ) (inb : ∀ a, (![o, 0] : Fin 2 → ℕ) a + (![64, 4096] : Fin 2 → ℕ) a ≤ S512x4096.size a) :
    v.readCov [⟨Rect.unit ![0, 0] ![512, 4096] inb_S512x4096_S512x4096_0_0, w⟩] (Rect.unit (s := S512x4096) ![o, 0] ![64, 4096] inb).toLoadRect = View.ld w (Rect.unit ![o, 0] ![64, 4096] inb) :=
  part_back (S := S512x4096) v w hz2 inb_S512x4096_S512x4096_0_0 _

section Stored
variable (v : View sig .tc .vmem S512x4096 .f32) (acc : Vec Ideal S512x4096 .f32) (x dy : Vec Ideal S512x4096 .bf16) (r : Vec Ideal S512x1 .f32) (nw : Vec Ideal S1x4096 .f32)
  (o : ℕ) (inb : ∀ a, (![o, 0] : Fin 2 → ℕ) a + (![64, 4096] : Fin 2 → ℕ) a ≤ S512x4096.size a) (inb1 : ∀ a, (![o, 0] : Fin 2 → ℕ) a + (![64, 1] : Fin 2 → ℕ) a ≤ S512x1.size a)

/-! The same two bands with the accumulator read back after its last store. -/

theorem stored_grad (z : (Rect.unit (s := S512x4096) ![o, 0] ![64, 4096] inb).shape.Idx) :
    k0_pay10 (View.ld x (Rect.unit (s := S512x4096) ![o, 0] ![64, 4096] inb)) (View.ld r (Rect.unit (s := S512x1) ![o, 0] ![64, 1] inb1))
        (v.readCov [⟨Rect.unit ![0, 0] ![512, 4096] inb_S512x4096_S512x4096_0_0, acc⟩] (Rect.unit (s := S512x4096) ![o, 0] ![64, 4096] inb).toLoadRect) nw (View.ld dy (Rect.unit (s := S512x4096) ![o, 0] ![64, 4096] inb)) z
      = grad acc x dy r nw ((Rect.unit (s := S512x4096) ![o, 0] ![64, 4096] inb).emb z 0) ((Rect.unit (s := S512x4096) ![o, 0] ![64, 4096] inb).emb z 1) := by
  rw [band_back v acc o inb]
  exact band_grad acc x dy r nw o inb inb1 z

theorem stored_coef (z : (Rect.unit (s := S512x1) ![o, 0] ![64, 1] inb1).shape.Idx) :
    k0_pay9 (View.ld x (Rect.unit (s := S512x4096) ![o, 0] ![64, 4096] inb)) (View.ld r (Rect.unit (s := S512x1) ![o, 0] ![64, 1] inb1))
        (v.readCov [⟨Rect.unit ![0, 0] ![512, 4096] inb_S512x4096_S512x4096_0_0, acc⟩] (Rect.unit (s := S512x4096) ![o, 0] ![64, 4096] inb).toLoadRect) nw z
      = coef acc x r nw ((Rect.unit (s := S512x1) ![o, 0] ![64, 1] inb1).emb z 0) := by
  rw [band_back v acc o inb]
  exact band_coef' acc x r nw o inb inb1 z

end Stored

section Same
variable {F : FTy → Type} [FloatOps F] (x dy : Vec F S64x4096 .bf16) (r : Vec F S64x1 .f32) (acc : Vec F S64x4096 .f32) (nw : Vec F S1x4096 .f32)

/-! Every band computes the same two functions. -/
theorem same7 : k0_pay6 x r acc nw dy = k0_pay10 x r acc nw dy := rfl
theorem same6 : k0_pay37 x r acc nw dy = k0_pay10 x r acc nw dy := rfl
theorem same5 : k0_pay33 (k0_pay29 x) r (k0_pay30 acc nw) (k0_pay31 x acc nw) (FloatOps.ofBits .f32 1166016512#32) dy = k0_pay10 x r acc nw dy := rfl
theorem same4 : k0_pay28 (k0_pay25 x) r acc nw dy = k0_pay10 x r acc nw dy := rfl
theorem same3 : k0_pay24 x r acc nw dy = k0_pay10 x r acc nw dy := rfl
theorem same2 : k0_pay20 (k0_pay19 x r acc nw) dy = k0_pay10 x r acc nw dy := rfl
theorem same1 : k0_pay15 (k0_pay11 x) r (k0_pay12 acc nw) (k0_pay13 x acc nw) dy = k0_pay10 x r acc nw dy := rfl
theorem coef7 : k0_pay5 x r acc nw = k0_pay9 x r acc nw := rfl
theorem coef6 : k0_pay36 x r acc nw = k0_pay9 x r acc nw := rfl
theorem coef5 : k0_pay32 r (k0_pay31 x acc nw) (FloatOps.ofBits .f32 1166016512#32) = k0_pay9 x r acc nw := rfl
theorem coef4 : k0_pay27 (k0_pay25 x) r acc nw = k0_pay9 x r acc nw := rfl
theorem coef3 : k0_pay23 x r acc nw = k0_pay9 x r acc nw := rfl
theorem coef2 : k0_pay18 x r acc nw = k0_pay9 x r acc nw := rfl
theorem coef1 : k0_pay14 r (k0_pay13 x acc nw) = k0_pay9 x r acc nw := rfl

end Same

section Cases
variable {F : FTy → Type} [FloatOps F]
variable (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x4096 .bf16) (harg6 : arg6.IsWhole) (arg7 : Memref sig .tc .vmem S512x4096 .bf16) (harg7 : arg7.IsWhole) (arg8 : Memref sig .tc .vmem S512x1 .f32) (harg8 : arg8.IsWhole) (arg9 : Memref sig .tc .vmem S1x4096 .f32) (harg9 : arg9.IsWhole) (arg10 : Memref sig .tc .vmem S512x4096 .bf16) (harg10 : arg10.IsWhole) (arg11 : Memref sig .tc .vmem S512x1 .f32) (harg11 : arg11.IsWhole) (arg12 : Memref sig .tc .vmem S512x4096 .f32) (harg12 : arg12.IsWhole)
  (x0 : Vec F S512x256 .bf16) (x1 : Vec F S512x256 .bf16) (x2 : Vec F S4096x256 .bf16) (x3 : Vec F S4096x256 .bf16) (x4 : Vec F S512x4096 .bf16) (x5 : Vec F S512x4096 .bf16) (x6 : Vec F S512x1 .f32) (x7 : Vec F S1x4096 .f32) (xs0 : Vec F S512x4096 .f32)

/-- The first block's point: the accumulator restarts at zero. -/
theorem acc_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay2 (k0_pay1 (F := F)) x0 x2 x1 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S512x4096) hz2, View.readCov_unit_zero (S := S512x4096) _ hz2]
  simp only [View.readAt_eq_ld, harg2.read_unread, harg3.read_unread, harg4.read_unread, harg5.read_unread, harg6.read_unread, harg7.read_unread, harg8.read_unread, harg9.read_unread, harg12.read_unread, View.ld_unit_zero (S := S512x256) hz2, View.ld_unit_zero (S := S4096x256) hz2, View.ld_unit_zero (S := S512x4096) hz2, View.ld_unit_zero (S := S1x4096) hz2]

/-- A middle block's point adds its products. -/
theorem acc_B (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k0_pay2 xs0 x0 x2 x1 x3 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  dsimp only
  sl_unfold_words
  rw [View.canon_cons_unit_zero (S := S512x4096) hz2]
  simp only [View.readAt_eq_ld, harg2.read_unread, harg3.read_unread, harg4.read_unread, harg5.read_unread, harg6.read_unread, harg7.read_unread, harg8.read_unread, harg9.read_unread, harg12.read_unread, View.ld_unit_zero (S := S512x256) hz2, View.ld_unit_zero (S := S4096x256) hz2, View.ld_unit_zero (S := S512x4096) hz2, View.ld_unit_zero (S := S1x4096) hz2]

/-- The last block's point adds its products too. -/
theorem acc_C (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k0_pay2 xs0 x0 x2 x1 x3 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  rw [View.canon_cons_unit_zero (S := S512x4096) hz2]
  simp only [View.readAt_eq_ld, harg2.read_unread, harg3.read_unread, harg4.read_unread, harg5.read_unread, harg6.read_unread, harg7.read_unread, harg8.read_unread, harg9.read_unread, harg12.read_unread, View.ld_unit_zero (S := S512x256) hz2, View.ld_unit_zero (S := S4096x256) hz2, View.ld_unit_zero (S := S512x4096) hz2, View.ld_unit_zero (S := S1x4096) hz2]

end Cases

section Finish
variable (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x4096 .bf16) (harg6 : arg6.IsWhole) (arg7 : Memref sig .tc .vmem S512x4096 .bf16) (harg7 : arg7.IsWhole) (arg8 : Memref sig .tc .vmem S512x1 .f32) (harg8 : arg8.IsWhole) (arg9 : Memref sig .tc .vmem S1x4096 .f32) (harg9 : arg9.IsWhole) (arg10 : Memref sig .tc .vmem S512x4096 .bf16) (harg10 : arg10.IsWhole) (arg11 : Memref sig .tc .vmem S512x1 .f32) (harg11 : arg11.IsWhole) (arg12 : Memref sig .tc .vmem S512x4096 .f32) (harg12 : arg12.IsWhole)
  (x0 : Vec Ideal S512x256 .bf16) (x1 : Vec Ideal S512x256 .bf16) (x2 : Vec Ideal S4096x256 .bf16) (x3 : Vec Ideal S4096x256 .bf16) (x4 : Vec Ideal S512x4096 .bf16) (x5 : Vec Ideal S512x4096 .bf16) (x6 : Vec Ideal S512x1 .f32) (x7 : Vec Ideal S1x4096 .f32) (xs0 : Vec Ideal S512x4096 .f32)

/-- The last block's point stores the gradient, eight bands … -/
theorem out8_C (hc0 : ¬cond0_0 i) (hc1 : cond0_1 i) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = fun y => grad (k0_pay2 xs0 x0 x2 x1 x3) x4 x5 x6 x7 (y 0) (y 1) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  funext y
  refine View.canon_apply_of_pieces (fun y => grad (k0_pay2 xs0 x0 x2 x1 x3) x4 x5 x6 x7 (y 0) (y 1)) _ ?_ y (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 y)
  unfold kernelRun0_C
  dsimp only
  sl_unfold_words
  simp only [List.forall_mem_cons, View.readAt_eq_ld, same1, same2, same3, same4, same5, same6, same7, coef1, coef2, coef3, coef4, coef5, coef6, coef7, harg2.read_unread, harg3.read_unread, harg4.read_unread, harg5.read_unread, harg6.read_unread, harg7.read_unread, harg8.read_unread, harg9.read_unread, harg12.read_unread, View.ld_unit_zero (S := S512x256) hz2, View.ld_unit_zero (S := S4096x256) hz2, View.ld_unit_zero (S := S512x4096) hz2, View.ld_unit_zero (S := S1x4096) hz2]
  exact ⟨stored_grad arg12.view (k0_pay2 xs0 x0 x2 x1 x3) x4 x5 x6 x7 448 _ _, stored_grad arg12.view (k0_pay2 xs0 x0 x2 x1 x3) x4 x5 x6 x7 384 _ _, stored_grad arg12.view (k0_pay2 xs0 x0 x2 x1 x3) x4 x5 x6 x7 320 _ _, stored_grad arg12.view (k0_pay2 xs0 x0 x2 x1 x3) x4 x5 x6 x7 256 _ _, stored_grad arg12.view (k0_pay2 xs0 x0 x2 x1 x3) x4 x5 x6 x7 192 _ _, stored_grad arg12.view (k0_pay2 xs0 x0 x2 x1 x3) x4 x5 x6 x7 128 _ _, stored_grad arg12.view (k0_pay2 xs0 x0 x2 x1 x3) x4 x5 x6 x7 64 _ _, stored_grad arg12.view (k0_pay2 xs0 x0 x2 x1 x3) x4 x5 x6 x7 0 _ _, fun p h => absurd h List.not_mem_nil⟩

/-- … and the coefficients. -/
theorem out9_C (hc0 : ¬cond0_0 i) (hc1 : cond0_1 i) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = fun y => coef (k0_pay2 xs0 x0 x2 x1 x3) x4 x6 x7 (y 0) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  funext y
  refine View.canon_apply_of_pieces (fun y => coef (k0_pay2 xs0 x0 x2 x1 x3) x4 x6 x7 (y 0)) _ ?_ y (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 y)
  unfold kernelRun0_C
  dsimp only
  sl_unfold_words
  simp only [List.forall_mem_cons, View.readAt_eq_ld, same1, same2, same3, same4, same5, same6, same7, coef1, coef2, coef3, coef4, coef5, coef6, coef7, harg2.read_unread, harg3.read_unread, harg4.read_unread, harg5.read_unread, harg6.read_unread, harg7.read_unread, harg8.read_unread, harg9.read_unread, harg12.read_unread, View.ld_unit_zero (S := S512x256) hz2, View.ld_unit_zero (S := S4096x256) hz2, View.ld_unit_zero (S := S512x4096) hz2, View.ld_unit_zero (S := S1x4096) hz2]
  exact ⟨stored_coef arg12.view (k0_pay2 xs0 x0 x2 x1 x3) x4 x6 x7 448 _ _, stored_coef arg12.view (k0_pay2 xs0 x0 x2 x1 x3) x4 x6 x7 384 _ _, stored_coef arg12.view (k0_pay2 xs0 x0 x2 x1 x3) x4 x6 x7 320 _ _, stored_coef arg12.view (k0_pay2 xs0 x0 x2 x1 x3) x4 x6 x7 256 _ _, stored_coef arg12.view (k0_pay2 xs0 x0 x2 x1 x3) x4 x6 x7 192 _ _, stored_coef arg12.view (k0_pay2 xs0 x0 x2 x1 x3) x4 x6 x7 128 _ _, stored_coef arg12.view (k0_pay2 xs0 x0 x2 x1 x3) x4 x6 x7 64 _ _, stored_coef arg12.view (k0_pay2 xs0 x0 x2 x1 x3) x4 x6 x7 0 _ _, fun p h => absurd h List.not_mem_nil⟩

end Finish

variable (m : (ℓ : Loc nD τ sig) → Buf (Elt Ideal) ℓ) (ρ : Dev nD → PrngReg)

/-- The eight arguments. -/
abbrev dg (c : Dev nD) : S6144x11008.Idx → EReal := m ((c : Thread nD τ).loc main_arg0)
abbrev du (c : Dev nD) : S6144x11008.Idx → EReal := m ((c : Thread nD τ).loc main_arg1)
abbrev wg (c : Dev nD) : S4096x11008.Idx → EReal := m ((c : Thread nD τ).loc main_arg2)
abbrev wu (c : Dev nD) : S4096x11008.Idx → EReal := m ((c : Thread nD τ).loc main_arg3)
abbrev xx (c : Dev nD) : S6144x4096.Idx → EReal := m ((c : Thread nD τ).loc main_arg4)
abbrev dy (c : Dev nD) : S6144x4096.Idx → EReal := m ((c : Thread nD τ).loc main_arg5)
abbrev rr (c : Dev nD) : S6144x1.Idx → EReal := m ((c : Thread nD τ).loc main_arg6)
abbrev nw (c : Dev nD) : S1x4096.Idx → EReal := m ((c : Thread nD τ).loc main_arg7)

/-- Which block each point reads, decided over the grid. -/
theorem idx0 : ∀ t : Fin cfg0.N, win0_0.index t (0 : Fin 2) = t.val / 43 ∧ win0_0.index t (1 : Fin 2) = t.val % 43 :=
  (by decide +kernel : ∀ t : Fin grid0.N, _)
theorem idx1 : ∀ t : Fin cfg0.N, win0_1.index t (0 : Fin 2) = t.val / 43 ∧ win0_1.index t (1 : Fin 2) = t.val % 43 :=
  (by decide +kernel : ∀ t : Fin grid0.N, _)
theorem idx2 : ∀ t : Fin cfg0.N, win0_2.index t (0 : Fin 2) = 0 ∧ win0_2.index t (1 : Fin 2) = t.val % 43 :=
  (by decide +kernel : ∀ t : Fin grid0.N, _)
theorem idx3 : ∀ t : Fin cfg0.N, win0_3.index t (0 : Fin 2) = 0 ∧ win0_3.index t (1 : Fin 2) = t.val % 43 :=
  (by decide +kernel : ∀ t : Fin grid0.N, _)
theorem idx4 : ∀ t : Fin cfg0.N, win0_4.index t (0 : Fin 2) = t.val / 43 ∧ win0_4.index t (1 : Fin 2) = 0 :=
  (by decide +kernel : ∀ t : Fin grid0.N, _)
theorem idx5 : ∀ t : Fin cfg0.N, win0_5.index t (0 : Fin 2) = t.val / 43 ∧ win0_5.index t (1 : Fin 2) = 0 :=
  (by decide +kernel : ∀ t : Fin grid0.N, _)
theorem idx6 : ∀ t : Fin cfg0.N, win0_6.index t (0 : Fin 2) = t.val / 43 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

theorem blk0 (c : Dev nD) (t : Fin cfg0.N) (y : S512x256.Idx) :
    iblk m c 0 t y = at2 (dg m c) (512 * (t.val / 43) + (y 0).val) (256 * (t.val % 43) + (y 1).val) := by
  obtain ⟨e0, e1⟩ := idx0 t
  refine Eq.trans (b := dg m c (((cfg0.win 0).blk t).view.emb y)) ?_ (eq_at2 _ _ ?_ ?_)
  · show V m c (Pipeline.arrRef spec0 0) _ = _
    rfl
  · show win0_0.index t (0 : Fin 2) * 512 + 1 * (y 0).val = _; rw [e0]; omega
  · show win0_0.index t (1 : Fin 2) * 256 + 1 * (y 1).val = _; rw [e1]; omega

theorem blk1 (c : Dev nD) (t : Fin cfg0.N) (y : S512x256.Idx) :
    iblk m c 1 t y = at2 (du m c) (512 * (t.val / 43) + (y 0).val) (256 * (t.val % 43) + (y 1).val) := by
  obtain ⟨e0, e1⟩ := idx1 t
  refine Eq.trans (b := du m c (((cfg0.win 1).blk t).view.emb y)) ?_ (eq_at2 _ _ ?_ ?_)
  · show V m c (Pipeline.arrRef spec0 1) _ = _
    rfl
  · show win0_1.index t (0 : Fin 2) * 512 + 1 * (y 0).val = _; rw [e0]; omega
  · show win0_1.index t (1 : Fin 2) * 256 + 1 * (y 1).val = _; rw [e1]; omega

theorem blk2 (c : Dev nD) (t : Fin cfg0.N) (y : S4096x256.Idx) :
    iblk m c 2 t y = at2 (wg m c) ((y 0).val) (256 * (t.val % 43) + (y 1).val) := by
  obtain ⟨e0, e1⟩ := idx2 t
  refine Eq.trans (b := wg m c (((cfg0.win 2).blk t).view.emb y)) ?_ (eq_at2 _ _ ?_ ?_)
  · show V m c (Pipeline.arrRef spec0 2) _ = _
    rfl
  · show win0_2.index t (0 : Fin 2) * 4096 + 1 * (y 0).val = _; rw [e0]; omega
  · show win0_2.index t (1 : Fin 2) * 256 + 1 * (y 1).val = _; rw [e1]; omega

theorem blk3 (c : Dev nD) (t : Fin cfg0.N) (y : S4096x256.Idx) :
    iblk m c 3 t y = at2 (wu m c) ((y 0).val) (256 * (t.val % 43) + (y 1).val) := by
  obtain ⟨e0, e1⟩ := idx3 t
  refine Eq.trans (b := wu m c (((cfg0.win 3).blk t).view.emb y)) ?_ (eq_at2 _ _ ?_ ?_)
  · show V m c (Pipeline.arrRef spec0 3) _ = _
    rfl
  · show win0_3.index t (0 : Fin 2) * 4096 + 1 * (y 0).val = _; rw [e0]; omega
  · show win0_3.index t (1 : Fin 2) * 256 + 1 * (y 1).val = _; rw [e1]; omega

theorem blk4 (c : Dev nD) (t : Fin cfg0.N) (y : S512x4096.Idx) :
    iblk m c 4 t y = at2 (xx m c) (512 * (t.val / 43) + (y 0).val) ((y 1).val) := by
  obtain ⟨e0, e1⟩ := idx4 t
  refine Eq.trans (b := xx m c (((cfg0.win 4).blk t).view.emb y)) ?_ (eq_at2 _ _ ?_ ?_)
  · show V m c (Pipeline.arrRef spec0 4) _ = _
    rfl
  · show win0_4.index t (0 : Fin 2) * 512 + 1 * (y 0).val = _; rw [e0]; omega
  · show win0_4.index t (1 : Fin 2) * 4096 + 1 * (y 1).val = _; rw [e1]; omega

theorem blk5 (c : Dev nD) (t : Fin cfg0.N) (y : S512x4096.Idx) :
    iblk m c 5 t y = at2 (dy m c) (512 * (t.val / 43) + (y 0).val) ((y 1).val) := by
  obtain ⟨e0, e1⟩ := idx5 t
  refine Eq.trans (b := dy m c (((cfg0.win 5).blk t).view.emb y)) ?_ (eq_at2 _ _ ?_ ?_)
  · show V m c (Pipeline.arrRef spec0 5) _ = _
    rfl
  · show win0_5.index t (0 : Fin 2) * 512 + 1 * (y 0).val = _; rw [e0]; omega
  · show win0_5.index t (1 : Fin 2) * 4096 + 1 * (y 1).val = _; rw [e1]; omega

theorem blk6 (c : Dev nD) (t : Fin cfg0.N) (y : S512x1.Idx) :
    iblk m c 6 t y = at2 (rr m c) (512 * (t.val / 43) + (y 0).val) ((y 1).val) := by
  obtain ⟨e0, e1⟩ := idx6 t
  refine Eq.trans (b := rr m c (((cfg0.win 6).blk t).view.emb y)) ?_ (eq_at2 _ _ ?_ ?_)
  · show V m c (Pipeline.arrRef spec0 6) _ = _
    rfl
  · show win0_6.index t (0 : Fin 2) * 512 + 1 * (y 0).val = _; rw [e0]; omega
  · show win0_6.index t (1 : Fin 2) * 1 + 1 * (y 1).val = _; rw [e1]; omega

theorem blk7 (c : Dev nD) (t : Fin cfg0.N) (y : S1x4096.Idx) :
    iblk m c 7 t y = at2 (nw m c) ((y 0).val) ((y 1).val) := by
  obtain ⟨e0, e1⟩ := idx7 t
  refine Eq.trans (b := nw m c (((cfg0.win 7).blk t).view.emb y)) ?_ (eq_at2 _ _ ?_ ?_)
  · show V m c (Pipeline.arrRef spec0 7) _ = _
    rfl
  · show win0_7.index t (0 : Fin 2) * 1 + 1 * (y 0).val = _; rw [e0]; omega
  · show win0_7.index t (1 : Fin 2) * 4096 + 1 * (y 1).val = _; rw [e1]; omega

/-- The two products' entry `(r, q)` over one block of 256 columns. -/
def addend (c : Dev nD) (r q k : ℕ) : EReal :=
  ∑ l : Fin 256, at2 (dg m c) r (256 * k + l.val) * at2 (wg m c) q (256 * k + l.val)
    + ∑ l : Fin 256, at2 (du m c) r (256 * k + l.val) * at2 (wu m c) q (256 * k + l.val)

/-- The same over the first `n` blocks. -/
def part (c : Dev nD) (r q n : ℕ) : EReal := ∑ k ∈ Finset.range n, addend m c r q k

theorem part_succ (c : Dev nD) (r q n : ℕ) : part m c r q (n + 1) = part m c r q n + addend m c r q n :=
  Finset.sum_range_succ _ _

/-- One step, over an accumulator holding the first blocks. -/
theorem step_apply (c : Dev nD) (t : Fin cfg0.N) (v : Vec Ideal S512x4096 .f32)
    (hv : ∀ y : S512x4096.Idx, v y = part m c (512 * (t.val / 43) + (y 0).val) (y 1).val (t.val % 43)) (y : S512x4096.Idx) :
    k0_pay2 v (iblk m c 0 t) (iblk m c 2 t) (iblk m c 1 t) (iblk m c 3 t) y = part m c (512 * (t.val / 43) + (y 0).val) (y 1).val (t.val % 43 + 1) := by
  rw [pay2_apply, hv, part_succ]
  refine congrArg _ (congrArg₂ (· + ·) (Finset.sum_congr rfl fun l _ => ?_) (Finset.sum_congr rfl fun l _ => ?_))
  · rw [blk0, blk2]; rfl
  · rw [blk1, blk3]; rfl

/-- What the accumulator holds after each point. -/
theorem acc_eq (c : Dev nD) : ∀ (n : ℕ) (h : n < cfg0.N) (y : S512x4096.Idx),
    (outsAt0 m c n h).2.2 y = part m c (512 * (n / 43) + (y 0).val) (y 1).val (n % 43 + 1) := by
  intro n
  induction n with
  | zero =>
    intro h y
    rw [outsAt0_A m c ⟨0, h⟩ (Nat.zero_mod 43) (by show ¬0 % 43 = 42; omega)]
    dsimp only
    rw [acc_A]
    refine step_apply m c ⟨0, h⟩ _ (fun y => ?_) y
    rw [pay1_apply]; exact (Finset.sum_range_zero _).symm
  | succ n ih =>
    intro h y
    by_cases h0 : (n + 1) % 43 = 0
    · rw [outsAt0_A m c ⟨n + 1, h⟩ h0 (by show ¬(n + 1) % 43 = 42; omega)]
      dsimp only
      rw [acc_A]
      refine step_apply m c ⟨n + 1, h⟩ _ (fun y => ?_) y
      rw [pay1_apply]; show 0 = part m c _ _ ((n + 1) % 43); rw [h0]; exact (Finset.sum_range_zero _).symm
    · have e1 : (n + 1) / 43 = n / 43 := by omega
      have e2 : (n + 1) % 43 = n % 43 + 1 := by omega
      have hv : ∀ y : S512x4096.Idx, (outsAt0 m c n (Nat.lt_of_succ_lt h)).2.2 y
          = part m c (512 * ((⟨n + 1, h⟩ : Fin cfg0.N).val / 43) + (y 0).val) (y 1).val ((⟨n + 1, h⟩ : Fin cfg0.N).val % 43) := by
        intro y; dsimp only; rw [ih, e1, e2]
      by_cases h1 : (n + 1) % 43 = 42
      · rw [outsAt0_C m c ⟨n + 1, h⟩ h0 h1]
        dsimp only
        rw [acc_C]
        exact step_apply m c ⟨n + 1, h⟩ _ hv y
      · rw [outsAt0_B m c ⟨n + 1, h⟩ h0 h1]
        dsimp only
        rw [acc_B]
        exact step_apply m c ⟨n + 1, h⟩ _ hv y

/-- Both products' entry over the whole inner axis. -/
def both (c : Dev nD) (r : Fin 6144) (q : Fin 4096) : EReal :=
  ∑ k : Fin 11008, dg m c (ix2 r k) * wg m c (ix2 q k) + ∑ k : Fin 11008, du m c (ix2 r k) * wu m c (ix2 q k)

theorem part_all (c : Dev nD) (r : Fin 6144) (q : Fin 4096) : part m c r.val q.val 43 = both m c r q := by
  unfold part addend both
  rw [Finset.sum_add_distrib, sum_blocks 43 256 (fun k => at2 (dg m c) r.val k * at2 (wg m c) q.val k),
    sum_blocks 43 256 (fun k => at2 (du m c) r.val k * at2 (wu m c) q.val k)]
  refine congrArg₂ (· + ·) (Finset.sum_congr rfl fun k _ => ?_) (Finset.sum_congr rfl fun k _ => ?_)
  · rw [at2_of_lt (dg m c) r.isLt k.isLt, at2_of_lt (wg m c) q.isLt k.isLt]
  · rw [at2_of_lt (du m c) r.isLt k.isLt, at2_of_lt (wu m c) q.isLt k.isLt]

/-- The normalisation's coefficient at a row. -/
def coefAt (c : Dev nD) (r : Fin 6144) : EReal :=
  rr m c (ix2 r (0 : Fin 1)) * Ideal.div (∑ l : Fin 4096, both m c r l * nw m c (ix2 (0 : Fin 1) l) * xx m c (ix2 r l)) (Ideal.ofBits .f32 0x45800000#32)

/-- The gradient handed on at an entry. -/
def gradAt (c : Dev nD) (r : Fin 6144) (q : Fin 4096) : EReal :=
  dy m c (ix2 r q) + rr m c (ix2 r (0 : Fin 1)) * (both m c r q * nw m c (ix2 (0 : Fin 1) q) - xx m c (ix2 r q) * rr m c (ix2 r (0 : Fin 1)) * coefAt m c r)

section Last
variable (c : Dev nD) (t : Fin cfg0.N) (acc : Vec Ideal S512x4096 .f32)
  (hacc : ∀ y : S512x4096.Idx, acc y = part m c (512 * (t.val / 43) + (y 0).val) (y 1).val 43)
include hacc

theorem acc_at (a : Fin 512) (r : Fin 6144) (hr : 512 * (t.val / 43) + a.val = r.val) (l : Fin 4096) : acc (ix2 a l) = both m c r l := by
  rw [hacc, ← part_all]
  show part m c (512 * (t.val / 43) + a.val) l.val 43 = _
  rw [hr]

theorem coef_at (a : Fin 512) (r : Fin 6144) (hr : 512 * (t.val / 43) + a.val = r.val) :
    coef acc (iblk m c 4 t) (iblk m c 6 t) (iblk m c 7 t) a = coefAt m c r := by
  unfold coef coefAt
  have e6 : (iblk m c 6 t : Vec Ideal S512x1 .f32) (ix2 a (0 : Fin 1)) = rr m c (ix2 r (0 : Fin 1)) := by
    rw [blk6]; show at2 (rr m c) (512 * (t.val / 43) + a.val) 0 = _; rw [hr]; exact at2_of_lt _ r.isLt (by decide)
  refine congrArg₂ (· * ·) e6 (congrArg₂ Ideal.div (Finset.sum_congr rfl fun l _ => ?_) rfl)
  rw [acc_at m c t acc hacc a r hr l, blk7, blk4]
  show _ * at2 (nw m c) 0 l.val * at2 (xx m c) (512 * (t.val / 43) + a.val) l.val = _
  rw [hr, at2_of_lt (nw m c) (by decide) l.isLt, at2_of_lt (xx m c) r.isLt l.isLt]; rfl

theorem grad_at (a : Fin 512) (r : Fin 6144) (hr : 512 * (t.val / 43) + a.val = r.val) (q : Fin 4096) :
    grad acc (iblk m c 4 t) (iblk m c 5 t) (iblk m c 6 t) (iblk m c 7 t) a q = gradAt m c r q := by
  unfold grad gradAt
  have e6 : (iblk m c 6 t : Vec Ideal S512x1 .f32) (ix2 a (0 : Fin 1)) = rr m c (ix2 r (0 : Fin 1)) := by
    rw [blk6]; show at2 (rr m c) (512 * (t.val / 43) + a.val) 0 = _; rw [hr]; exact at2_of_lt _ r.isLt (by decide)
  rw [coef_at m c t acc hacc a r hr, acc_at m c t acc hacc a r hr q, e6, blk7, blk4, blk5]
  show at2 (dy m c) (512 * (t.val / 43) + a.val) q.val + _ * (_ * at2 (nw m c) 0 q.val - at2 (xx m c) (512 * (t.val / 43) + a.val) q.val * _ * _) = _
  rw [hr, at2_of_lt (nw m c) (by decide) q.isLt, at2_of_lt (xx m c) r.isLt q.isLt, at2_of_lt (dy m c) r.isLt q.isLt]; rfl

end Last

/-- What the last block's point leaves in its two output blocks. -/
theorem out_eq (c : Dev nD) (t : Fin cfg0.N) (h1 : t.val % 43 = 42) :
    (∀ (y : S512x4096.Idx) (r : Fin 6144) (q : Fin 4096), 512 * (t.val / 43) + (y 0).val = r.val → (y 1).val = q.val →
        (outsAt0 m c t.val t.isLt).1 y = gradAt m c r q)
    ∧ (∀ (y : S512x1.Idx) (r : Fin 6144), 512 * (t.val / 43) + (y 0).val = r.val →
        (outsAt0 m c t.val t.isLt).2.1 y = coefAt m c r) := by
  have h0 : ¬ t.val % 43 = 0 := by omega
  have hs := acc_eq m c t.val t.isLt
  rw [outsAt0_C m c t h0 h1] at hs ⊢
  dsimp only at hs ⊢
  rw [acc_C, h1] at hs
  rw [out8_C, out9_C]
  refine ⟨fun y r q hr hq => ?_, fun y r hr => ?_⟩
  · obtain rfl : y 1 = q := Fin.ext hq
    exact grad_at m c t _ hs (y 0) r hr (y 1)
  · exact coef_at m c t _ hs (y 0) r hr

/-- The gradient, entry by entry. -/
theorem result8_apply (c : Dev nD) (i : S6144x4096.Idx) : Value.G8 m c i = gradAt m c (i 0) (i 1) := by
  have hi0 : (i 0).val < 6144 := (i 0).isLt
  have hi1 : (i 1).val < 4096 := (i 1).isLt
  have hq : Value.pt8Of i = 43 * ((i 0).val / 512) + 42 := by
    show 43 * (1 * ((i 0).val / 512 - 0) + 1 * ((i 1).val / 4096 - 0)) + 42 = _; omega
  have hp : Value.pt8Of i < cfg0.N := by rw [show cfg0.N = 516 from N_0, hq]; omega
  have e := (out_eq m c ⟨Value.pt8Of i, hp⟩ (by dsimp only; rw [hq]; omega)).1 (Value.loc8Of i) (i 0) (i 1)
    (by show 512 * (Value.pt8Of i / 43) + (i 0).val % 512 = _; rw [hq]; omega) (by show (i 1).val % 4096 = _; omega)
  unfold Value.G8
  rw [dif_pos hp, ← Value.outsAt0_sweep m c (Value.pt8Of i) hp]
  exact e

/-- The coefficients, entry by entry. -/
theorem result9_apply (c : Dev nD) (i : S6144x1.Idx) : Value.G9 m c i = coefAt m c (i 0) := by
  have hi0 : (i 0).val < 6144 := (i 0).isLt
  have hi1 : (i 1).val < 1 := (i 1).isLt
  have hq : Value.pt9Of i = 43 * ((i 0).val / 512) + 42 := by
    show 43 * (1 * ((i 0).val / 512 - 0) + 1 * ((i 1).val / 1 - 0)) + 42 = _; omega
  have hp : Value.pt9Of i < cfg0.N := by rw [show cfg0.N = 516 from N_0, hq]; omega
  have e := (out_eq m c ⟨Value.pt9Of i, hp⟩ (by dsimp only; rw [hq]; omega)).2 (Value.loc9Of i) (i 0)
    (by show 512 * (Value.pt9Of i / 43) + (i 0).val % 512 = _; rw [hq]; omega)
  unfold Value.G9
  rw [dif_pos hp, ← Value.outsAt0_sweep m c (Value.pt9Of i) hp]
  exact e

end Cert.DxIdeal.Sum

namespace Cert.DxValue

open Cert.DxIdeal in
theorem eq_col (i : S6144x1.Idx) : i = ix2 (i 0) (0 : Fin 1) := by
  funext k
  match k with
  | 0 => rfl
  | 1 => exact Subsingleton.elim (α := Fin 1) _ _

open Cert.DxIdeal in
theorem eq_pair (i : S6144x4096.Idx) : i = ix2 (i 0) (i 1) := by
  funext k
  match k with
  | 0 => rfl
  | 1 => rfl

open Cert.DxRefIdeal in
/-- The reference's coefficient at a row. -/
theorem ref_coef (x0 x1 : (⟨S6144x11008, .bf16⟩ : BufTy).Contents (Elt Ideal)) (x2 x3 : (⟨S4096x11008, .bf16⟩ : BufTy).Contents (Elt Ideal)) (x4 : (⟨S6144x4096, .bf16⟩ : BufTy).Contents (Elt Ideal)) (x6 : (⟨S6144x1, .f32⟩ : BufTy).Contents (Elt Ideal)) (x7 : (⟨S1x4096, .f32⟩ : BufTy).Contents (Elt Ideal)) (i : S6144x1.Idx) :
    Read.val_main_v11 (F := Ideal) x0 x1 x2 x3 x4 x6 x7 i
      = x6 i * Ideal.div (∑ l : Fin 4096, (∑ k : Fin 11008, x0 (ix2 (i 0) k) * x2 (ix2 l k) + ∑ k : Fin 11008, x1 (ix2 (i 0) k) * x3 (ix2 l k)) * x7 (ix2 (0 : Fin 1) l) * x4 (ix2 (i 0) l)) (Ideal.ofBits .f32 0x45800000#32) := by
  pointwise [Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0]

open Cert.DxRefIdeal in
/-- The reference's gradient at an entry. -/
theorem ref_grad (x0 x1 : (⟨S6144x11008, .bf16⟩ : BufTy).Contents (Elt Ideal)) (x2 x3 : (⟨S4096x11008, .bf16⟩ : BufTy).Contents (Elt Ideal)) (x4 x5 : (⟨S6144x4096, .bf16⟩ : BufTy).Contents (Elt Ideal)) (x6 : (⟨S6144x1, .f32⟩ : BufTy).Contents (Elt Ideal)) (x7 : (⟨S1x4096, .f32⟩ : BufTy).Contents (Elt Ideal)) (i : S6144x4096.Idx) :
    Read.val_main_v21 (F := Ideal) x0 x1 x2 x3 x4 x5 x6 x7 i
      = x5 i + x6 (ix2 (i 0) (0 : Fin 1)) * ((∑ k : Fin 11008, x0 (ix2 (i 0) k) * x2 (ix2 (i 1) k) + ∑ k : Fin 11008, x1 (ix2 (i 0) k) * x3 (ix2 (i 1) k)) * x7 (ix2 (0 : Fin 1) (i 1))
          - x4 i * x6 (ix2 (i 0) (0 : Fin 1)) * Read.val_main_v11 (F := Ideal) x0 x1 x2 x3 x4 x6 x7 (ix2 (i 0) (0 : Fin 1))) := by
  pointwise [Read.val_main_v21, Read.val_main_v20, Read.val_main_v19, Read.val_main_v18, Read.val_main_v17, Read.val_main_v16, Read.val_main_v15, Read.val_main_v14, Read.val_main_v13, Read.val_main_v12, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0]

/-- The claim: the two runs leave the same two results. -/
theorem algebraic : algebraic_DxIdeal_DxRefIdeal :=
  fun m ρ m' ρ' _ hag => ⟨fun c => DxIdeal.Value.G8 m c, fun c => DxIdeal.Value.G9 m c, DxIdeal.Value.run m ρ,
    (θ_run _ _ _).mono (fun _ h c => by
      obtain ⟨a0, a1, a2, a3, a4, a5, a6, a7⟩ := hag c
      have e9 : ∀ i, DxRefIdeal.Read.val_main_v11 (F := Ideal) (DxIdeal.Sum.dg m c) (DxIdeal.Sum.du m c) (DxIdeal.Sum.wg m c) (DxIdeal.Sum.wu m c) (DxIdeal.Sum.xx m c) (DxIdeal.Sum.rr m c) (DxIdeal.Sum.nw m c) i = DxIdeal.Sum.coefAt m c (i 0) := by
        intro i
        rw [ref_coef, eq_col i]; rfl
      refine ⟨(h c).1.trans ?_, (h c).2.1.trans ?_, (h c).2.2⟩
      · rw [a0, a1, a2, a3, a4, a5, a6, a7]
        funext i
        refine Eq.trans ?_ (DxIdeal.Sum.result8_apply m c i).symm
        refine (ref_grad _ _ _ _ _ _ _ _ i).trans ?_
        rw [e9, eq_pair i]; rfl
      · rw [a0, a1, a2, a3, a4, a6, a7]
        funext i
        exact (e9 i).trans (DxIdeal.Sum.result9_apply m c i).symm) (DxRefIdeal.Value.run m' ρ')⟩

end Cert.DxValue

end
-- ==== Proof.FfnStep.lean ====
/-
  The feed-forward call, one grid point at a time: the buffers the body works on, and what one point does to their
  contents, as a function of the contents before it (`step`). A point may clear the scratch (`init`), turn the running
  column maxima of the block before into its scales (`roll`), quantise that block's rows and compute its own (`main`),
  or only quantise the last block's rows (`tail`).
-/
module

public import proofs.«01_k».proof.Proof.Gen.FfnIdeal.Skeleton
public import proofs.«01_k».proof.Proof.Gen.FfnIdeal.Frame
public import Idealize.ShloMosaic.Lib.VecWindow

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The contents of the five input blocks. -/
structure Ins (F : FTy → Type) where
  x0 : Vec F S512x4096 .bf16
  x1 : Vec F S512x4096 .bf16
  x2 : Vec F S4096x256 .bf16
  x3 : Vec F S4096x256 .bf16
  x4 : Vec F S256x4096 .bf16

/-- The contents of the ten output blocks (windows 5 to 14) and of the five scratch buffers. -/
structure St (F : FTy → Type) where
  o5 : Vec F S512x256 .bf16
  o6 : Vec F S512x256 .bf16
  o7 : Vec F S512x256 .bf16
  o8 : Vec F S512x256 .fp8e4m3
  o9 : Vec F S256x512 .fp8e4m3
  o10 : Vec F S512x256 .fp8e4m3
  o11 : Vec F S512x256 .fp8e4m3
  o12 : Vec F S1x1x256 .f32
  o13 : Vec F S1x1x256 .f32
  o14 : Vec F S1x1x256 .f32
  s0 : Vec F S6144x256 .f32
  s1 : Vec F S6144x256 .f32
  s2 : Vec F S6144x256 .f32
  s3 : Vec F S3x8x256 .f32
  s4 : Vec F S3x1x256 .f32

/-- The first row of a point's 512 rows, and the first column. -/
def off (i : grid0.Coords) : Fin 2 → ℕ := ![512 * (i 1).val, 0]

theorem off_inb (i : grid0.Coords) : ∀ a, off i a + S512x256.size a ≤ S6144x256.size a := by
  have h : (i 1).val < 12 := (i 1).isLt
  intro a
  match a with
  | ⟨0, _⟩ => show 512 * (i 1).val + 512 ≤ 6144; omega
  | ⟨1, _⟩ => show 0 + 256 ≤ 256; omega

theorem off1_eq (i : grid0.Coords) : k0_off1 i = off i := by
  have h : (i 1).val < 12 := (i 1).isLt
  have e : (Scalar.muli (BitVec.ofNat 32 (i 1).val) 512#32 : BitVec 32).toNat = 512 * (i 1).val := by
    show (BitVec.ofNat 32 (i 1).val * 512#32).toNat = _
    rw [BitVec.toNat_mul, BitVec.toNat_ofNat, Nat.mod_eq_of_lt (by omega : (i 1).val < 2 ^ 32)]
    show (i 1).val * 512 % 2 ^ 32 = _
    omega
  funext a
  match a with
  | ⟨0, _⟩ => exact e
  | ⟨1, _⟩ => rfl

theorem off2_eq (i : grid0.Coords) : k0_off2 i = off i := off1_eq i

/-- A point's 512 rows of a scratch buffer, -/
def win (i : grid0.Coords) (S : Vec F S6144x256 .f32) : Vec F S512x256 .f32 :=
  VecWindow.window S (off i) S512x256.size (off_inb i)
/-- and the buffer with these rows replaced. -/
def putW (i : grid0.Coords) (S : Vec F S6144x256 .f32) (v : Vec F S512x256 .f32) : Vec F S6144x256 .f32 :=
  VecWindow.put S (off i) S512x256.size v

/-- The running maxima of one of the three quantities, -/
def mx0 (S : Vec F S3x8x256 .f32) : Vec F S1x8x256 .f32 := VecWindow.window S ![0, 0, 0] S1x8x256.size inb_S3x8x256_S1x8x256_0_0_0
def mx1 (S : Vec F S3x8x256 .f32) : Vec F S1x8x256 .f32 := VecWindow.window S ![1, 0, 0] S1x8x256.size inb_S3x8x256_S1x8x256_1_0_0
def mx2 (S : Vec F S3x8x256 .f32) : Vec F S1x8x256 .f32 := VecWindow.window S ![2, 0, 0] S1x8x256.size inb_S3x8x256_S1x8x256_2_0_0
/-- the buffer with all three replaced, -/
def putM (S : Vec F S3x8x256 .f32) (u v w : Vec F S1x8x256 .f32) : Vec F S3x8x256 .f32 :=
  VecWindow.put (VecWindow.put (VecWindow.put S ![0, 0, 0] S1x8x256.size u) ![1, 0, 0] S1x8x256.size v) ![2, 0, 0] S1x8x256.size w
/-- the scales of one of the three quantities, -/
def sc0 (S : Vec F S3x1x256 .f32) : Vec F S1x1x256 .f32 := VecWindow.window S ![0, 0, 0] S1x1x256.size inb_S3x1x256_S1x1x256_0_0_0
def sc1 (S : Vec F S3x1x256 .f32) : Vec F S1x1x256 .f32 := VecWindow.window S ![1, 0, 0] S1x1x256.size inb_S3x1x256_S1x1x256_1_0_0
def sc2 (S : Vec F S3x1x256 .f32) : Vec F S1x1x256 .f32 := VecWindow.window S ![2, 0, 0] S1x1x256.size inb_S3x1x256_S1x1x256_2_0_0
/-- and the buffer with all three replaced. -/
def putS (S : Vec F S3x1x256 .f32) (u v w : Vec F S1x1x256 .f32) : Vec F S3x1x256 .f32 :=
  VecWindow.put (VecWindow.put (VecWindow.put S ![0, 0, 0] S1x1x256.size u) ![1, 0, 0] S1x1x256.size v) ![2, 0, 0] S1x1x256.size w

/-- The first point clears the rows kept and the running maxima. -/
def init (S : St F) : St F := { S with s0 := k0_pay1, s1 := k0_pay2, s2 := k0_pay3, s3 := k0_pay4 }

/-- The first point of a block of columns turns the maxima of the block before into its scales and clears them. -/
def roll (S : St F) : St F :=
  { S with
    o12 := k0_pay14 (mx0 S.s3), o13 := k0_pay5 (k0_pay15 (mx1 S.s3)), o14 := k0_pay8 (mx2 S.s3), s3 := k0_pay9
    s4 := putS S.s4 (k0_pay13 (mx0 S.s3)) (k0_pay16 (mx1 S.s3)) (k0_pay7 (mx2 S.s3)) }

/-- A point of a block of columns quantises the rows the block before left and computes its own in their place. -/
def main (i : grid0.Coords) (X : Ins F) (S : St F) : St F :=
  { S with
    o5 := k0_pay31 X.x0 X.x2 X.x3, o6 := k0_pay35 (k0_pay28 X.x0 X.x2 X.x3 X.x1 X.x4), o7 := k0_pay38 (k0_pay29 X.x0 X.x2 X.x1 X.x4)
    o8 := k0_pay17 (win i S.s0) (sc0 S.s4), o9 := k0_pay18 (win i S.s0) (sc0 S.s4), o10 := k0_pay19 (win i S.s1) (sc1 S.s4)
    o11 := k0_pay22 (k0_pay20 (win i S.s2) (sc2 S.s4)) (Scalar.ofBits .f32 0x43E00000#32) k0_pay21
    s0 := putW i S.s0 (k0_pay30 X.x0 X.x2 X.x3), s1 := putW i S.s1 (k0_pay34 (k0_pay28 X.x0 X.x2 X.x3 X.x1 X.x4))
    s2 := putW i S.s2 (k0_pay37 (k0_pay29 X.x0 X.x2 X.x1 X.x4))
    s3 := putM S.s3 (k0_pay33 (k0_pay27 X.x0 X.x2 X.x3) (k0_pay32 (mx0 S.s3))) (k0_pay36 (k0_pay28 X.x0 X.x2 X.x3 X.x1 X.x4) (mx1 S.s3))
      (k0_pay10 (k0_pay39 (mx2 S.s3)) (k0_pay40 (k0_pay29 X.x0 X.x2 X.x1 X.x4))) }

/-- A point after the last block of columns only quantises that block's rows. -/
def tail (i : grid0.Coords) (S : St F) : St F :=
  { S with
    o8 := k0_pay41 (win i S.s0) (sc0 S.s4), o9 := k0_pay42 (win i S.s0) (sc0 S.s4), o10 := k0_pay43 (win i S.s1) (sc1 S.s4)
    o11 := k0_pay11 (k0_pay44 (win i S.s2) (sc2 S.s4)) (Scalar.ofBits .f32 0x43E00000#32) k0_pay45 }

/-- The buffers the body is called with, all whole. -/
structure Mems where
  arg2 : Memref sig .tc .vmem S512x4096 .bf16
  arg3 : Memref sig .tc .vmem S512x4096 .bf16
  arg4 : Memref sig .tc .vmem S4096x256 .bf16
  arg5 : Memref sig .tc .vmem S4096x256 .bf16
  arg6 : Memref sig .tc .vmem S256x4096 .bf16
  arg7 : Memref sig .tc .vmem S512x256 .bf16
  arg8 : Memref sig .tc .vmem S512x256 .bf16
  arg9 : Memref sig .tc .vmem S512x256 .bf16
  arg10 : Memref sig .tc .vmem S512x256 .fp8e4m3
  arg11 : Memref sig .tc .vmem S256x512 .fp8e4m3
  arg12 : Memref sig .tc .vmem S512x256 .fp8e4m3
  arg13 : Memref sig .tc .vmem S512x256 .fp8e4m3
  arg14 : Memref sig .tc .vmem S1x1x256 .f32
  arg15 : Memref sig .tc .vmem S1x1x256 .f32
  arg16 : Memref sig .tc .vmem S1x1x256 .f32
  arg17 : Memref sig .tc .vmem S6144x256 .f32
  arg18 : Memref sig .tc .vmem S6144x256 .f32
  arg19 : Memref sig .tc .vmem S6144x256 .f32
  arg20 : Memref sig .tc .vmem S3x8x256 .f32
  arg21 : Memref sig .tc .vmem S3x1x256 .f32
  harg2 : arg2.IsWhole
  harg3 : arg3.IsWhole
  harg4 : arg4.IsWhole
  harg5 : arg5.IsWhole
  harg6 : arg6.IsWhole
  harg7 : arg7.IsWhole
  harg8 : arg8.IsWhole
  harg9 : arg9.IsWhole
  harg10 : arg10.IsWhole
  harg11 : arg11.IsWhole
  harg12 : arg12.IsWhole
  harg13 : arg13.IsWhole
  harg14 : arg14.IsWhole
  harg15 : arg15.IsWhole
  harg16 : arg16.IsWhole
  harg17 : arg17.IsWhole
  harg18 : arg18.IsWhole
  harg19 : arg19.IsWhole
  harg20 : arg20.IsWhole
  harg21 : arg21.IsWhole

/-- All buffers owned at given contents. -/
def own (c : Dev nD) (M : Mems) (X : Ins F) (S : St F) : sProp (MT nD τ sig Unit (Elt F) ℕ (UR sig nD τ) ℕ) :=
  iprop(owns (c : Thread nD τ) M.arg2 fullShare X.x0 ∗ owns (c : Thread nD τ) M.arg3 fullShare X.x1 ∗ owns (c : Thread nD τ) M.arg4 fullShare X.x2
    ∗ owns (c : Thread nD τ) M.arg5 fullShare X.x3 ∗ owns (c : Thread nD τ) M.arg6 fullShare X.x4
    ∗ owns (c : Thread nD τ) M.arg7 fullShare S.o5 ∗ owns (c : Thread nD τ) M.arg8 fullShare S.o6 ∗ owns (c : Thread nD τ) M.arg9 fullShare S.o7
    ∗ owns (c : Thread nD τ) M.arg10 fullShare S.o8 ∗ owns (c : Thread nD τ) M.arg11 fullShare S.o9 ∗ owns (c : Thread nD τ) M.arg12 fullShare S.o10
    ∗ owns (c : Thread nD τ) M.arg13 fullShare S.o11 ∗ owns (c : Thread nD τ) M.arg14 fullShare S.o12 ∗ owns (c : Thread nD τ) M.arg15 fullShare S.o13
    ∗ owns (c : Thread nD τ) M.arg16 fullShare S.o14 ∗ owns (c : Thread nD τ) M.arg17 fullShare S.s0 ∗ owns (c : Thread nD τ) M.arg18 fullShare S.s1
    ∗ owns (c : Thread nD τ) M.arg19 fullShare S.s2 ∗ owns (c : Thread nD τ) M.arg20 fullShare S.s3 ∗ owns (c : Thread nD τ) M.arg21 fullShare S.s4)

/-- The body on given buffers. -/
abbrev bodyOn (i : grid0.Coords) (M : Mems) : Prog (TpuEff nD τ sig (Elt F) Λ₀ .tc) PUnit :=
  cc0_ffn i M.arg2 M.harg2 M.arg3 M.harg3 M.arg4 M.harg4 M.arg5 M.harg5 M.arg6 M.harg6 M.arg7 M.harg7 M.arg8 M.harg8 M.arg9 M.harg9 M.arg10 M.harg10
    M.arg11 M.harg11 M.arg12 M.harg12 M.arg13 M.harg13 M.arg14 M.harg14 M.arg15 M.harg15 M.arg16 M.harg16 M.arg17 M.harg17 M.arg18 M.harg18
    M.arg19 M.harg19 M.arg20 M.harg20 M.arg21 M.harg21

/-- The body's first condition: the first point. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

end Cert.FfnIdeal.Hand

end
-- ==== Proof.FfnBody.lean ====
/-
  The body of the feed-forward call at a grid point: from any contents of its buffers it leaves them as the pure step
  of `FfnStep` says, case by case of the branches it takes.
-/
module

public import proofs.«01_k».proof.Proof.FfnStep

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Reads

variable {κ : Kind} {sp : Space} {Val : EltTy → Type}

/-- A load of a point's rows, and a store of them. -/
theorem readAt_off1 (v : View sig κ sp S6144x256 .f32) (f : v.ty.Contents (Elt F)) (i : grid0.Coords) (inb) :
    v.readAt (Elt F) (Rect.unit (s := S6144x256) (k0_off1 i) S512x256.size inb).toLoadRect f = win i (v.read (Elt F) f) :=
  View.readAt_unit v f inb (off1_eq i) (off_inb i)
theorem read_writes_off1 (v : View sig κ sp S6144x256 .f32) (f : v.ty.Contents (Elt F)) (i : grid0.Coords) (inb)
    (w : Vec F S512x256 .f32) (L : List (View.Piece (Elt F) S6144x256 .f32)) :
    v.read (Elt F) (v.writes (Elt F) f (⟨Rect.unit (k0_off1 i) S512x256.size inb, w⟩ :: L)) = putW i (v.read (Elt F) (v.writes (Elt F) f L)) w :=
  View.read_writes_cons_put v f inb w L (off1_eq i)

/-- The same with the offset written out. -/
theorem readAt_rows1 (v : View sig κ sp S6144x256 .f32) (f : v.ty.Contents (Elt F)) (i : grid0.Coords) (inb : ∀ a, k0_off1 i a + S512x256.size a ≤ S6144x256.size a) :
    v.readAt (Elt F) (Rect.unit (s := S6144x256) ![(Scalar.indexCast (Scalar.muli (BitVec.ofNat 32 (i 1).val) 512#32)).toNat, 0] ![512, 256] inb).toLoadRect f
      = win i (v.read (Elt F) f) := readAt_off1 v f i inb
theorem read_writes_rows1 (v : View sig κ sp S6144x256 .f32) (f : v.ty.Contents (Elt F)) (i : grid0.Coords) (inb : ∀ a, k0_off1 i a + S512x256.size a ≤ S6144x256.size a)
    (w : Vec F S512x256 .f32) (L : List (View.Piece (Elt F) S6144x256 .f32)) :
    v.read (Elt F) (v.writes (Elt F) f (⟨Rect.unit ![(Scalar.indexCast (Scalar.muli (BitVec.ofNat 32 (i 1).val) 512#32)).toNat, 0] ![512, 256] inb, w⟩ :: L))
      = putW i (v.read (Elt F) (v.writes (Elt F) f L)) w := read_writes_off1 v f i inb w L

/-- The same with the offset written out. -/
theorem readAt_rows2 (v : View sig κ sp S6144x256 .f32) (f : v.ty.Contents (Elt F)) (i : grid0.Coords) (inb : ∀ a, k0_off2 i a + S512x256.size a ≤ S6144x256.size a) :
    v.readAt (Elt F) (Rect.unit (s := S6144x256) ![(Scalar.indexCast (Scalar.muli (BitVec.ofNat 32 (i 1).val) 512#32)).toNat, 0] ![512, 256] inb).toLoadRect f
      = win i (v.read (Elt F) f) := readAt_off1 v f i inb
theorem read_writes_rows2 (v : View sig κ sp S6144x256 .f32) (f : v.ty.Contents (Elt F)) (i : grid0.Coords) (inb : ∀ a, k0_off2 i a + S512x256.size a ≤ S6144x256.size a)
    (w : Vec F S512x256 .f32) (L : List (View.Piece (Elt F) S6144x256 .f32)) :
    v.read (Elt F) (v.writes (Elt F) f (⟨Rect.unit ![(Scalar.indexCast (Scalar.muli (BitVec.ofNat 32 (i 1).val) 512#32)).toNat, 0] ![512, 256] inb, w⟩ :: L))
      = putW i (v.read (Elt F) (v.writes (Elt F) f L)) w := read_writes_off1 v f i inb w L

/-- Loads of one quantity's maxima -/
theorem readAt_mx0 (v : View sig κ sp S3x8x256 .f32) (f : v.ty.Contents (Elt F)) (inb) :
    v.readAt (Elt F) (Rect.unit (s := S3x8x256) ![0, 0, 0] ![1, 8, 256] inb).toLoadRect f = mx0 (v.read (Elt F) f) := rfl
theorem readAt_mx1 (v : View sig κ sp S3x8x256 .f32) (f : v.ty.Contents (Elt F)) (inb) :
    v.readAt (Elt F) (Rect.unit (s := S3x8x256) ![1, 0, 0] ![1, 8, 256] inb).toLoadRect f = mx1 (v.read (Elt F) f) := rfl
theorem readAt_mx2 (v : View sig κ sp S3x8x256 .f32) (f : v.ty.Contents (Elt F)) (inb) :
    v.readAt (Elt F) (Rect.unit (s := S3x8x256) ![2, 0, 0] ![1, 8, 256] inb).toLoadRect f = mx2 (v.read (Elt F) f) := rfl
theorem readCov_mx0 (v : View sig κ sp S3x8x256 .f32) (L : List (View.Piece (Elt F) S3x8x256 .f32)) (inb) :
    v.readCov L (Rect.unit (s := S3x8x256) ![0, 0, 0] ![1, 8, 256] inb).toLoadRect = mx0 (v.read (Elt F) (v.writes (Elt F) v.junk L)) := rfl
theorem readCov_mx1 (v : View sig κ sp S3x8x256 .f32) (L : List (View.Piece (Elt F) S3x8x256 .f32)) (inb) :
    v.readCov L (Rect.unit (s := S3x8x256) ![1, 0, 0] ![1, 8, 256] inb).toLoadRect = mx1 (v.read (Elt F) (v.writes (Elt F) v.junk L)) := rfl
theorem readCov_mx2 (v : View sig κ sp S3x8x256 .f32) (L : List (View.Piece (Elt F) S3x8x256 .f32)) (inb) :
    v.readCov L (Rect.unit (s := S3x8x256) ![2, 0, 0] ![1, 8, 256] inb).toLoadRect = mx2 (v.read (Elt F) (v.writes (Elt F) v.junk L)) := rfl
/-- and of one quantity's scales, -/
theorem readAt_sc0 (v : View sig κ sp S3x1x256 .f32) (f : v.ty.Contents (Elt F)) (inb) :
    v.readAt (Elt F) (Rect.unit (s := S3x1x256) ![0, 0, 0] ![1, 1, 256] inb).toLoadRect f = sc0 (v.read (Elt F) f) := rfl
theorem readAt_sc1 (v : View sig κ sp S3x1x256 .f32) (f : v.ty.Contents (Elt F)) (inb) :
    v.readAt (Elt F) (Rect.unit (s := S3x1x256) ![1, 0, 0] ![1, 1, 256] inb).toLoadRect f = sc1 (v.read (Elt F) f) := rfl
theorem readAt_sc2 (v : View sig κ sp S3x1x256 .f32) (f : v.ty.Contents (Elt F)) (inb) :
    v.readAt (Elt F) (Rect.unit (s := S3x1x256) ![2, 0, 0] ![1, 1, 256] inb).toLoadRect f = sc2 (v.read (Elt F) f) := rfl
theorem readCov_sc0 (v : View sig κ sp S3x1x256 .f32) (L : List (View.Piece (Elt F) S3x1x256 .f32)) (inb) :
    v.readCov L (Rect.unit (s := S3x1x256) ![0, 0, 0] ![1, 1, 256] inb).toLoadRect = sc0 (v.read (Elt F) (v.writes (Elt F) v.junk L)) := rfl
theorem readCov_sc1 (v : View sig κ sp S3x1x256 .f32) (L : List (View.Piece (Elt F) S3x1x256 .f32)) (inb) :
    v.readCov L (Rect.unit (s := S3x1x256) ![1, 0, 0] ![1, 1, 256] inb).toLoadRect = sc1 (v.read (Elt F) (v.writes (Elt F) v.junk L)) := rfl
theorem readCov_sc2 (v : View sig κ sp S3x1x256 .f32) (L : List (View.Piece (Elt F) S3x1x256 .f32)) (inb) :
    v.readCov L (Rect.unit (s := S3x1x256) ![2, 0, 0] ![1, 1, 256] inb).toLoadRect = sc2 (v.read (Elt F) (v.writes (Elt F) v.junk L)) := rfl
/-- and stores of all three, -/
theorem read_writes_mx (v : View sig κ sp S3x8x256 .f32) (f : v.ty.Contents (Elt F)) (a b d) (x y z : Vec F S1x8x256 .f32) (L) :
    v.read (Elt F) (v.writes (Elt F) f (⟨Rect.unit ![2, 0, 0] ![1, 8, 256] a, z⟩ :: ⟨Rect.unit ![1, 0, 0] ![1, 8, 256] b, y⟩
      :: ⟨Rect.unit ![0, 0, 0] ![1, 8, 256] d, x⟩ :: L)) = putM (v.read (Elt F) (v.writes (Elt F) f L)) x y z := by
  rw [View.read_writes_cons_put v f a z _ rfl, View.read_writes_cons_put v f b y _ rfl, View.read_writes_cons_put v f d x _ rfl]; rfl
theorem read_writes_sc (v : View sig κ sp S3x1x256 .f32) (f : v.ty.Contents (Elt F)) (a b d) (x y z : Vec F S1x1x256 .f32) (L) :
    v.read (Elt F) (v.writes (Elt F) f (⟨Rect.unit ![2, 0, 0] ![1, 1, 256] a, z⟩ :: ⟨Rect.unit ![1, 0, 0] ![1, 1, 256] b, y⟩
      :: ⟨Rect.unit ![0, 0, 0] ![1, 1, 256] d, x⟩ :: L)) = putS (v.read (Elt F) (v.writes (Elt F) f L)) x y z := by
  rw [View.read_writes_cons_put v f a z _ rfl, View.read_writes_cons_put v f b y _ rfl, View.read_writes_cons_put v f d x _ rfl]; rfl

/-- and loads of whole buffers. -/
theorem readAt_whole {n : ℕ} {size : Fin n → ℕ} {e : EltTy} (v : View sig κ sp ⟨n, size⟩ e) (f : v.ty.Contents (Elt F)) {off : Fin n → ℕ} (inb) :
    v.readAt (Elt F) (Rect.unit (s := ⟨n, size⟩) off size inb).toLoadRect f = v.read (Elt F) f := View.readAt_full v f inb
theorem readCov_whole {n : ℕ} {size : Fin n → ℕ} {e : EltTy} (v : View sig κ sp ⟨n, size⟩ e) (L : List (View.Piece (Elt F) ⟨n, size⟩ e)) {off : Fin n → ℕ} (inb) :
    v.readCov L (Rect.unit (s := ⟨n, size⟩) off size inb).toLoadRect = v.read (Elt F) (v.writes (Elt F) v.junk L) := View.readAt_full v _ inb
/-- A store of a whole buffer. -/
theorem read_writes_whole {n : ℕ} {size : Fin n → ℕ} {e : EltTy} (v : View sig κ sp ⟨n, size⟩ e) (f : v.ty.Contents (Elt F)) {off : Fin n → ℕ} (inb)
    (w : Shape.Idx ⟨n, size⟩ → Elt F e) (L) :
    v.read (Elt F) (v.writes (Elt F) f (⟨Rect.unit (s := ⟨n, size⟩) off size inb, w⟩ :: L)) = w := View.read_writes_full v f inb w L

/-- The maxima of one quantity are not touched by a store of another. -/
theorem mx1_skip0 (v : View sig κ sp S3x8x256 .f32) (f : v.ty.Contents (Elt F)) (inb) (x : Vec F S1x8x256 .f32) (L) :
    mx1 (v.read (Elt F) (v.writes (Elt F) f (⟨Rect.unit ![0, 0, 0] ![1, 8, 256] inb, x⟩ :: L))) = mx1 (v.read (Elt F) (v.writes (Elt F) f L)) := by
  rw [View.read_writes_cons_put v f inb x L rfl]
  exact VecWindow.window_put_of_disjoint _ _ _ _ _ _ _ 0 (by decide)
theorem mx2_skip0 (v : View sig κ sp S3x8x256 .f32) (f : v.ty.Contents (Elt F)) (inb) (x : Vec F S1x8x256 .f32) (L) :
    mx2 (v.read (Elt F) (v.writes (Elt F) f (⟨Rect.unit ![0, 0, 0] ![1, 8, 256] inb, x⟩ :: L))) = mx2 (v.read (Elt F) (v.writes (Elt F) f L)) := by
  rw [View.read_writes_cons_put v f inb x L rfl]
  exact VecWindow.window_put_of_disjoint _ _ _ _ _ _ _ 0 (by decide)
theorem mx2_skip1 (v : View sig κ sp S3x8x256 .f32) (f : v.ty.Contents (Elt F)) (inb) (x : Vec F S1x8x256 .f32) (L) :
    mx2 (v.read (Elt F) (v.writes (Elt F) f (⟨Rect.unit ![1, 0, 0] ![1, 8, 256] inb, x⟩ :: L))) = mx2 (v.read (Elt F) (v.writes (Elt F) f L)) := by
  rw [View.read_writes_cons_put v f inb x L rfl]
  exact VecWindow.window_put_of_disjoint _ _ _ _ _ _ _ 0 (by decide)
/-- The scales after a store of all three. -/
theorem sc2_putS (S : Vec F S3x1x256 .f32) (x y z : Vec F S1x1x256 .f32) : sc2 (putS S x y z) = z := VecWindow.window_put_same _ _ _ _ _
theorem sc1_putS (S : Vec F S3x1x256 .f32) (x y z : Vec F S1x1x256 .f32) : sc1 (putS S x y z) = y :=
  (VecWindow.window_put_of_disjoint _ _ _ _ _ _ _ 0 (by decide)).trans (VecWindow.window_put_same _ _ _ _ _)
theorem sc0_putS (S : Vec F S3x1x256 .f32) (x y z : Vec F S1x1x256 .f32) : sc0 (putS S x y z) = x :=
  (VecWindow.window_put_of_disjoint _ _ _ _ _ _ _ 0 (by decide)).trans
    ((VecWindow.window_put_of_disjoint _ _ _ _ _ _ _ 0 (by decide)).trans (VecWindow.window_put_same _ _ _ _ _))

end Reads

/-- What the body does to the state at a point, by the combination of its conditions that holds there. -/
def Steps (i : grid0.Coords) (X : Ins F) (S S' : St F) : Prop :=
  (S' = main i X (roll (init S)) ∧ cond1 i ∧ k0_cond2 i = 1#1 ∧ k0_cond3 i = 1#1 ∧ ¬k0_cond4 i = 1#1)
  ∨ (S' = main i X S ∧ ¬cond1 i ∧ ¬k0_cond2 i = 1#1 ∧ k0_cond3 i = 1#1 ∧ ¬k0_cond4 i = 1#1)
  ∨ (S' = main i X (roll S) ∧ ¬cond1 i ∧ k0_cond2 i = 1#1 ∧ k0_cond3 i = 1#1 ∧ ¬k0_cond4 i = 1#1)
  ∨ (S' = tail i (roll S) ∧ ¬cond1 i ∧ k0_cond2 i = 1#1 ∧ ¬k0_cond3 i = 1#1 ∧ k0_cond4 i = 1#1)
  ∨ (S' = tail i S ∧ ¬cond1 i ∧ ¬k0_cond2 i = 1#1 ∧ ¬k0_cond3 i = 1#1 ∧ k0_cond4 i = 1#1)

set_option maxHeartbeats 16000000 in
/-- The body at a point leaves its buffers as the pure step says. -/
theorem body_step (c : Dev nD) (i : grid0.Coords) (M : Mems)
    (X : Ins F) (S S' : St F) (hc : Steps i X S S') (E : Set ℕ) (K : PUnit → sProp (MT nD τ sig Unit (Elt F) ℕ (UR sig nD τ) ℕ)) :
    iprop(own c M X S ∗ (own c M X S' -∗ K ⟨⟩)) ⊢ wp frame (wpE (defs₀ (F := F)) Variants.none c none) E (bodyOn i M) K := by
  simp only [bodyOn, cc0_ffn_eq_skeleton]; unfold cc0_ffn_skel
  simp only [k0_part1_eq_skeleton, k0_part2_eq_skeleton, k0_part3_eq_skeleton, k0_part4_eq_skeleton, k0_part5_eq_skeleton]
  unfold own owns
  rcases hc with ⟨hs, hc0, hc1, hc2, hc3⟩ | ⟨hs, hc0, hc1, hc2, hc3⟩ | ⟨hs, hc0, hc1, hc2, hc3⟩ | ⟨hs, hc0, hc1, hc2, hc3⟩ | ⟨hs, hc0, hc1, hc2, hc3⟩
  all_goals
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, Hk⟩
    sl_exec (disch := first | sl_exact hc0 | sl_exact hc1 | sl_exact hc2 | sl_exact hc3)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]; · iexists _; isplitr; swap; (· iexact H5); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H6]; · iexists _; isplitr; swap; (· iexact H6); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H7]; · iexists _; isplitr; swap; (· iexact H7); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H8]; · iexists _; isplitr; swap; (· iexact H8); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H9]; · iexists _; isplitr; swap; (· iexact H9); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H10]; · iexists _; isplitr; swap; (· iexact H10); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H11]; · iexists _; isplitr; swap; (· iexact H11); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H12]; · iexists _; isplitr; swap; (· iexact H12); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H13]; · iexists _; isplitr; swap; (· iexact H13); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H14]; · iexists _; isplitr; swap; (· iexact H14); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H15]; · iexists _; isplitr; swap; (· iexact H15); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H16]; · iexists _; isplitr; swap; (· iexact H16); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H17]; · iexists _; isplitr; swap; (· iexact H17); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H18]; · iexists _; isplitr; swap; (· iexact H18); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    iexists _; isplitr; swap; (· iexact H19); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])

end Cert.FfnIdeal.Hand

end
-- ==== Proof.FfnTraj.lean ====
/-
  The feed-forward call point by point: which step of `FfnStep` each grid point takes, the contents its buffers hold
  after every point, and the pipeline's proof data built from them.
-/
module

public import proofs.«01_k».proof.Proof.FfnBody
public import proofs.«01_k».proof.Proof.Gen.FfnIdeal.Frame
public import Idealize.ShloMosaic.Lib.Pipeline.TableIdle
public import Idealize.ShloMosaic.Lib.WordCmp

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The conditions, in the point's number -/

theorem lt_528 (t : Fin cfg0.N) : t.val < 528 := Nat.lt_of_lt_of_eq t.isLt N_0

theorem cond1_iff (t : Fin cfg0.N) : cond1 (grid0.coords t) ↔ t.val = 0 := by
  have ht := lt_528 t
  have e0 : (grid0.coords t 0).val = t.val / 12 % 44 := Pipeline.Grid.coords_val t 0 (by decide) rfl
  have e1 : (grid0.coords t 1).val = t.val / 1 % 12 := Pipeline.Grid.coords_val t 1 (by decide) rfl
  simp only [cond1, e0, e1]; word_cmp
theorem cond2_iff (t : Fin cfg0.N) : k0_cond2 (grid0.coords t) = 1#1 ↔ t.val % 12 = 0 := by
  have ht := lt_528 t
  have e0 : (grid0.coords t 0).val = t.val / 12 % 44 := Pipeline.Grid.coords_val t 0 (by decide) rfl
  have e1 : (grid0.coords t 1).val = t.val / 1 % 12 := Pipeline.Grid.coords_val t 1 (by decide) rfl
  simp only [k0_cond2, e0, e1]; word_cmp
theorem cond3_iff : ∀ t : Fin cfg0.N, k0_cond3 (grid0.coords t) = 1#1 ↔ t.val < 516 := by decide +kernel
theorem cond4_iff (t : Fin cfg0.N) : k0_cond4 (grid0.coords t) = 1#1 ↔ 516 ≤ t.val := by
  have ht := lt_528 t
  have e0 : (grid0.coords t 0).val = t.val / 12 % 44 := Pipeline.Grid.coords_val t 0 (by decide) rfl
  have e1 : (grid0.coords t 1).val = t.val / 1 % 12 := Pipeline.Grid.coords_val t 1 (by decide) rfl
  simp only [k0_cond4, e0, e1]; word_cmp

/-! ## Where a window is idle, and where its buffer keeps what was stored -/

theorem idle_5 : ∀ t : Fin cfg0.N, cfg0.idle 5 (grid0.coords t) = true → 516 ≤ t.val := by decide +kernel
theorem idle_6 : ∀ t : Fin cfg0.N, cfg0.idle 6 (grid0.coords t) = true → 516 ≤ t.val := by decide +kernel
theorem idle_7 : ∀ t : Fin cfg0.N, cfg0.idle 7 (grid0.coords t) = true → 516 ≤ t.val := by decide +kernel
theorem idle_8 : ∀ t : Fin cfg0.N, cfg0.idle 8 (grid0.coords t) = false := by decide +kernel
theorem idle_9 : ∀ t : Fin cfg0.N, cfg0.idle 9 (grid0.coords t) = false := by decide +kernel
theorem idle_10 : ∀ t : Fin cfg0.N, cfg0.idle 10 (grid0.coords t) = false := by decide +kernel
theorem idle_11 : ∀ t : Fin cfg0.N, cfg0.idle 11 (grid0.coords t) = false := by decide +kernel
theorem idle_12 : ∀ t : Fin cfg0.N, cfg0.idle 12 (grid0.coords t) = true → t.val % 12 ≠ 0 := by decide +kernel
theorem idle_13 : ∀ t : Fin cfg0.N, cfg0.idle 13 (grid0.coords t) = true → t.val % 12 ≠ 0 := by decide +kernel
theorem idle_14 : ∀ t : Fin cfg0.N, cfg0.idle 14 (grid0.coords t) = true → t.val % 12 ≠ 0 := by decide +kernel

/-- Whether the buffers of the first three outputs are fresh, position by position, as a bit mask, -/
def freshA : ℕ → Bool
  | 0 => true
  | n + 1 => (0x8007ffffffffffffffffffffffffffffffffffffffffffffffffffffffffffffffffffffffffffffffffffffffffffffffffffffffffffffffffffffffffffffffff : ℕ).testBit n
/-- and those of the three scale outputs. -/
def freshB : ℕ → Bool
  | 0 => true
  | n + 1 => (0x800800800800800800800800800800800800800800800800800800800800800800800800800800800800800800800800800800800800800800800800800800800000 : ℕ).testBit n
theorem fresh_5_step : ∀ t : Fin cfg0.N,
    freshA (t.val + 1) = ((cfg0.win 5).flush t || (cfg0.idle 5 (cfg0.grid.coords t) && freshA t.val)) := by decide +kernel
theorem fresh_5_eq (t : Fin cfg0.N) : cfg0.fresh 5 t.val = freshA t.val :=
  Pipeline.Cfg.fresh_tab cfg0 5 freshA rfl fresh_5_step t.val (Nat.le_of_lt t.isLt)
theorem fresh_6_step : ∀ t : Fin cfg0.N,
    freshA (t.val + 1) = ((cfg0.win 6).flush t || (cfg0.idle 6 (cfg0.grid.coords t) && freshA t.val)) := by decide +kernel
theorem fresh_6_eq (t : Fin cfg0.N) : cfg0.fresh 6 t.val = freshA t.val :=
  Pipeline.Cfg.fresh_tab cfg0 6 freshA rfl fresh_6_step t.val (Nat.le_of_lt t.isLt)
theorem fresh_7_step : ∀ t : Fin cfg0.N,
    freshA (t.val + 1) = ((cfg0.win 7).flush t || (cfg0.idle 7 (cfg0.grid.coords t) && freshA t.val)) := by decide +kernel
theorem fresh_7_eq (t : Fin cfg0.N) : cfg0.fresh 7 t.val = freshA t.val :=
  Pipeline.Cfg.fresh_tab cfg0 7 freshA rfl fresh_7_step t.val (Nat.le_of_lt t.isLt)
theorem fresh_12_step : ∀ t : Fin cfg0.N,
    freshB (t.val + 1) = ((cfg0.win 12).flush t || (cfg0.idle 12 (cfg0.grid.coords t) && freshB t.val)) := by decide +kernel
theorem fresh_12_eq (t : Fin cfg0.N) : cfg0.fresh 12 t.val = freshB t.val :=
  Pipeline.Cfg.fresh_tab cfg0 12 freshB rfl fresh_12_step t.val (Nat.le_of_lt t.isLt)
theorem fresh_13_step : ∀ t : Fin cfg0.N,
    freshB (t.val + 1) = ((cfg0.win 13).flush t || (cfg0.idle 13 (cfg0.grid.coords t) && freshB t.val)) := by decide +kernel
theorem fresh_13_eq (t : Fin cfg0.N) : cfg0.fresh 13 t.val = freshB t.val :=
  Pipeline.Cfg.fresh_tab cfg0 13 freshB rfl fresh_13_step t.val (Nat.le_of_lt t.isLt)
theorem fresh_14_step : ∀ t : Fin cfg0.N,
    freshB (t.val + 1) = ((cfg0.win 14).flush t || (cfg0.idle 14 (cfg0.grid.coords t) && freshB t.val)) := by decide +kernel
theorem fresh_14_eq (t : Fin cfg0.N) : cfg0.fresh 14 t.val = freshB t.val :=
  Pipeline.Cfg.fresh_tab cfg0 14 freshB rfl fresh_14_step t.val (Nat.le_of_lt t.isLt)
theorem freshA_not : ∀ t : Fin cfg0.N, 516 ≤ t.val → freshA t.val = false := by decide +kernel
theorem freshB_not : ∀ t : Fin cfg0.N, t.val % 12 ≠ 0 → freshB t.val = false := by decide +kernel

/-! ## The step of each point -/

open Classical in
/-- What the body does to its buffers at point `t`. -/
def step (t : Fin cfg0.N) (X : Ins F) (S : St F) : St F :=
  if t.val = 0 then main (grid0.coords t) X (roll (init S))
  else if t.val < 516 then (if t.val % 12 = 0 then main (grid0.coords t) X (roll S) else main (grid0.coords t) X S)
  else if t.val % 12 = 0 then tail (grid0.coords t) (roll S) else tail (grid0.coords t) S

theorem steps_step (t : Fin cfg0.N) (X : Ins F) (S : St F) : Steps (grid0.coords t) X S (step t X S) := by
  unfold Steps step
  rw [cond1_iff, cond2_iff, cond3_iff, cond4_iff]
  have ht := lt_528 t
  by_cases h0 : t.val = 0
  · rw [if_pos h0]; exact Or.inl ⟨rfl, h0, by omega, by omega, by omega⟩
  rw [if_neg h0]
  by_cases h1 : t.val < 516
  · rw [if_pos h1]
    by_cases h2 : t.val % 12 = 0
    · rw [if_pos h2]; exact Or.inr (Or.inr (Or.inl ⟨rfl, h0, h2, h1, by omega⟩))
    · rw [if_neg h2]; exact Or.inr (Or.inl ⟨rfl, h0, h2, h1, by omega⟩)
  · rw [if_neg h1]
    by_cases h2 : t.val % 12 = 0
    · rw [if_pos h2]; exact Or.inr (Or.inr (Or.inr (Or.inl ⟨rfl, h0, h2, h1, by omega⟩)))
    · rw [if_neg h2]; exact Or.inr (Or.inr (Or.inr (Or.inr ⟨rfl, h0, h2, h1, by omega⟩)))

/-- The three scales together do not depend on what was there. -/
theorem putS_indep (a b : Vec F S3x1x256 .f32) (u v w : Vec F S1x1x256 .f32) : putS a u v w = putS b u v w := by
  funext y
  have h0 : (y 0).val < 3 := (y 0).isLt
  have h1 : (y 1).val < 1 := (y 1).isLt
  have h2 : (y 2).val < 256 := (y 2).isLt
  unfold putS VecWindow.put
  by_cases e2 : ∀ a, (![2, 0, 0] : Fin 3 → ℕ) a ≤ (y a).val ∧ (y a).val < (![2, 0, 0] : Fin 3 → ℕ) a + S1x1x256.size a
  · rw [dif_pos e2, dif_pos e2]
  rw [dif_neg e2, dif_neg e2]
  by_cases e1 : ∀ a, (![1, 0, 0] : Fin 3 → ℕ) a ≤ (y a).val ∧ (y a).val < (![1, 0, 0] : Fin 3 → ℕ) a + S1x1x256.size a
  · rw [dif_pos e1, dif_pos e1]
  rw [dif_neg e1, dif_neg e1]
  by_cases e0 : ∀ a, (![0, 0, 0] : Fin 3 → ℕ) a ≤ (y a).val ∧ (y a).val < (![0, 0, 0] : Fin 3 → ℕ) a + S1x1x256.size a
  · rw [dif_pos e0, dif_pos e0]
  exfalso
  have k : (y 0).val = 0 ∨ (y 0).val = 1 ∨ (y 0).val = 2 := by omega
  rcases k with k | k | k
  · refine e0 fun a => ?_
    match a with
    | ⟨0, _⟩ => show 0 ≤ (y 0).val ∧ (y 0).val < 0 + 1; omega
    | ⟨1, _⟩ => show 0 ≤ (y 1).val ∧ (y 1).val < 0 + 1; omega
    | ⟨2, _⟩ => show 0 ≤ (y 2).val ∧ (y 2).val < 0 + 256; omega
  · refine e1 fun a => ?_
    match a with
    | ⟨0, _⟩ => show 1 ≤ (y 0).val ∧ (y 0).val < 1 + 1; omega
    | ⟨1, _⟩ => show 0 ≤ (y 1).val ∧ (y 1).val < 0 + 1; omega
    | ⟨2, _⟩ => show 0 ≤ (y 2).val ∧ (y 2).val < 0 + 256; omega
  · refine e2 fun a => ?_
    match a with
    | ⟨0, _⟩ => show 2 ≤ (y 0).val ∧ (y 0).val < 2 + 1; omega
    | ⟨1, _⟩ => show 0 ≤ (y 1).val ∧ (y 1).val < 0 + 1; omega
    | ⟨2, _⟩ => show 0 ≤ (y 2).val ∧ (y 2).val < 0 + 256; omega

/-- The first point's result does not depend on what the buffers held. -/
theorem step_first (t : Fin cfg0.N) (h : t.val = 0) (X : Ins F) (S P : St F) : step t X S = step t X P := by
  unfold step
  rw [if_pos h, if_pos h]
  have e : ∀ u v w, putS S.s4 u v w = putS P.s4 u v w := fun u v w => putS_indep _ _ u v w
  simp only [main, roll, init, e]

/-- A later point's result depends on the scratch buffers, and on the outputs it does not store. -/
theorem step_later (t : Fin cfg0.N) (h : t.val ≠ 0) (X : Ins F) (S P : St F)
    (h0 : S.s0 = P.s0) (h1 : S.s1 = P.s1) (h2 : S.s2 = P.s2) (h3 : S.s3 = P.s3) (h4 : S.s4 = P.s4)
    (ha : 516 ≤ t.val → S.o5 = P.o5 ∧ S.o6 = P.o6 ∧ S.o7 = P.o7)
    (hb : t.val % 12 ≠ 0 → S.o12 = P.o12 ∧ S.o13 = P.o13 ∧ S.o14 = P.o14) : step t X S = step t X P := by
  unfold step
  rw [if_neg h, if_neg h]
  by_cases g : t.val < 516
  · rw [if_pos g, if_pos g]
    by_cases k : t.val % 12 = 0
    · rw [if_pos k, if_pos k]; simp only [main, roll, h0, h1, h2, h3, h4]
    · obtain ⟨k1, k2, k3⟩ := hb k
      rw [if_neg k, if_neg k]; simp only [main, h0, h1, h2, h3, h4, k1, k2, k3]
  · obtain ⟨g1, g2, g3⟩ := ha (by omega)
    rw [if_neg g, if_neg g]
    by_cases k : t.val % 12 = 0
    · rw [if_pos k, if_pos k]; simp only [tail, roll, h0, h1, h2, h3, h4, g1, g2, g3]
    · obtain ⟨k1, k2, k3⟩ := hb k
      rw [if_neg k, if_neg k]; simp only [tail, h0, h1, h2, h3, h4, k1, k2, k3, g1, g2, g3]

/-- After the last block of columns the first three outputs stay, -/
theorem step_keepA (t : Fin cfg0.N) (h : 516 ≤ t.val) (X : Ins F) (S : St F) :
    (step t X S).o5 = S.o5 ∧ (step t X S).o6 = S.o6 ∧ (step t X S).o7 = S.o7 := by
  unfold step
  rw [if_neg (by omega), if_neg (by omega)]
  by_cases k : t.val % 12 = 0
  · rw [if_pos k]; exact ⟨rfl, rfl, rfl⟩
  · rw [if_neg k]; exact ⟨rfl, rfl, rfl⟩

/-- and within a block of columns the scales. -/
theorem step_keepB (t : Fin cfg0.N) (h : t.val % 12 ≠ 0) (X : Ins F) (S : St F) :
    (step t X S).o12 = S.o12 ∧ (step t X S).o13 = S.o13 ∧ (step t X S).o14 = S.o14 := by
  unfold step
  rw [if_neg (by omega)]
  by_cases k : t.val < 516
  · rw [if_pos k, if_neg h]; exact ⟨rfl, rfl, rfl⟩
  · rw [if_neg k, if_neg h]; exact ⟨rfl, rfl, rfl⟩

/-! ## The contents after every point -/

/-- Some contents. -/
def anySt : St F :=
  ⟨fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default⟩

variable (m : (ℓ : Loc nD τ sig) → Buf (Elt F) ℓ) (ρ : Dev nD → PrngReg)

/-- The input blocks of a point. -/
def insAt (c : Dev nD) (t : Fin cfg0.N) : Ins F := ⟨iblk m c 0 t, iblk m c 1 t, iblk m c 2 t, iblk m c 3 t, iblk m c 4 t⟩

/-- The contents after point `n`. -/
def stAt (c : Dev nD) : (n : ℕ) → n < cfg0.N → St F
  | 0, h => step ⟨0, h⟩ (insAt m c ⟨0, h⟩) anySt
  | n + 1, h => step ⟨n + 1, h⟩ (insAt m c ⟨n + 1, h⟩) (stAt c n (Nat.lt_of_succ_lt h))

theorem stAt_first (c : Dev nD) (t : Fin cfg0.N) (h : t.val = 0) : stAt m c t.val t.isLt = step t (insAt m c t) anySt := by
  obtain ⟨n, hn⟩ := t
  cases n with
  | zero => rfl
  | succ n => exact absurd h (Nat.succ_ne_zero n)

theorem stAt_later (c : Dev nD) (t : Fin cfg0.N) (h : t.val ≠ 0) :
    stAt m c t.val t.isLt = step t (insAt m c t) (stAt m c (t.val - 1) (by omega)) := by
  obtain ⟨n, hn⟩ := t
  cases n with
  | zero => exact absurd rfl h
  | succ n => rfl

/-! ## The pipeline's proof data -/

abbrev scM_0 : Memref sig .tc .vmem S6144x256 .f32 := Memref.whole cc0_scratch0
abbrev scM_1 : Memref sig .tc .vmem S6144x256 .f32 := Memref.whole cc0_scratch1
abbrev scM_2 : Memref sig .tc .vmem S6144x256 .f32 := Memref.whole cc0_scratch2
abbrev scM_3 : Memref sig .tc .vmem S3x8x256 .f32 := Memref.whole cc0_scratch3
abbrev scM_4 : Memref sig .tc .vmem S3x1x256 .f32 := Memref.whole cc0_scratch4

/-- The scratch buffers at given contents. -/
def scr (c : Dev nD) (S : St F) : sProp (MT nD τ sig Unit (Elt F) ℕ (UR sig nD τ) ℕ) :=
  iprop(owns (c : Thread nD τ) scM_0 fullShare (S).s0 ∗ owns (c : Thread nD τ) scM_1 fullShare (S).s1 ∗ owns (c : Thread nD τ) scM_2 fullShare (S).s2 ∗ owns (c : Thread nD τ) scM_3 fullShare (S).s3 ∗ owns (c : Thread nD τ) scM_4 fullShare (S).s4)

/-- What the pipeline keeps between points: the scratch buffers as the point before left them. -/
def PhiS (c : Dev nD) : (n : ℕ) → n ≤ cfg0.N → sProp (MT nD τ sig Unit (Elt F) ℕ (UR sig nD τ) ℕ)
  | 0, _ => Pipeline.ΦA spec0 c
  | n + 1, hn => iprop(scr c (stAt m c n hn) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(scr c (stAt m c n hn) ∗ (∃ r, prngReg c r)) := rfl
theorem PhiS_pos (c : Dev nD) (n : ℕ) (h : n ≤ cfg0.N) (hz : n ≠ 0) :
    PhiS m c n h = iprop(scr c (stAt m c (n - 1) (by omega)) ∗ (∃ r, prngReg c r)) := by
  cases n with
  | zero => exact absurd rfl hz
  | succ n => rfl

theorem PhiA_eq (c : Dev nD) :
    (Pipeline.ΦA spec0 c : sProp (MT nD τ sig Unit (Elt F) ℕ (UR sig nD τ) ℕ))
      = iprop(iprop((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d) ∗ (∃ d, owns (c : Thread nD τ) scM_4 fullShare d)) ∗ (∃ r, prngReg c r)) := by
  unfold Pipeline.ΦA; rw [scopedRest0_eq]; simp only [scM_0, scM_1, scM_2, scM_3, scM_4, owns_whole]; try rfl

/-- The proof data: each input's block, each output's contents after the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stAt m c t.val t.isLt).o5
    | ⟨6, _⟩ => (stAt m c t.val t.isLt).o6
    | ⟨7, _⟩ => (stAt m c t.val t.isLt).o7
    | ⟨8, _⟩ => (stAt m c t.val t.isLt).o8
    | ⟨9, _⟩ => (stAt m c t.val t.isLt).o9
    | ⟨10, _⟩ => (stAt m c t.val t.isLt).o10
    | ⟨11, _⟩ => (stAt m c t.val t.isLt).o11
    | ⟨12, _⟩ => (stAt m c t.val t.isLt).o12
    | ⟨13, _⟩ => (stAt m c t.val t.isLt).o13
    | ⟨14, _⟩ => (stAt m c t.val t.isLt).o14
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (stAt m c t.val t.isLt).o5 := by dsimp only [dats]
theorem after_6 (c : Dev nD) (t : Fin cfg0.N) : (dats m 0 c).after 6 t = (stAt m c t.val t.isLt).o6 := by dsimp only [dats]
theorem after_7 (c : Dev nD) (t : Fin cfg0.N) : (dats m 0 c).after 7 t = (stAt m c t.val t.isLt).o7 := by dsimp only [dats]
theorem after_8 (c : Dev nD) (t : Fin cfg0.N) : (dats m 0 c).after 8 t = (stAt m c t.val t.isLt).o8 := by dsimp only [dats]
theorem after_9 (c : Dev nD) (t : Fin cfg0.N) : (dats m 0 c).after 9 t = (stAt m c t.val t.isLt).o9 := by dsimp only [dats]
theorem after_10 (c : Dev nD) (t : Fin cfg0.N) : (dats m 0 c).after 10 t = (stAt m c t.val t.isLt).o10 := by dsimp only [dats]
theorem after_11 (c : Dev nD) (t : Fin cfg0.N) : (dats m 0 c).after 11 t = (stAt m c t.val t.isLt).o11 := by dsimp only [dats]
theorem after_12 (c : Dev nD) (t : Fin cfg0.N) : (dats m 0 c).after 12 t = (stAt m c t.val t.isLt).o12 := by dsimp only [dats]
theorem after_13 (c : Dev nD) (t : Fin cfg0.N) : (dats m 0 c).after 13 t = (stAt m c t.val t.isLt).o13 := by dsimp only [dats]
theorem after_14 (c : Dev nD) (t : Fin cfg0.N) : (dats m 0 c).after 14 t = (stAt m c t.val t.isLt).o14 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem keep_5 (c : Dev nD) (t : Fin cfg0.N) (h : t.val ≠ 0) (hk : 516 ≤ t.val) :
    (stAt m c t.val t.isLt).o5 = (stAt m c (t.val - 1) (by omega)).o5 := by
  rw [stAt_later m c t h]; exact (step_keepA t hk _ _).1
theorem before_5 (c : Dev nD) (t : Fin cfg0.N) (h : t.val ≠ 0) (hk : 516 ≤ t.val) (d) :
    (dats m 0 c).before 5 t d = (stAt m c (t.val - 1) (by omega)).o5 := by
  have hc : ∀ s : Fin cfg0.N, s.val ≠ 0 → cfg0.idle 5 (cfg0.grid.coords s) = true → cfg0.fresh 5 s.val = false →
      (dats m 0 c).after 5 s = (dats m 0 c).after 5 ⟨s.val - 1, by omega⟩ := fun s hs hi _ => by
    rw [after_5, after_5]; exact keep_5 m c s hs (idle_5 s hi)
  rw [Dat.before_out_traj _ 5 rfl (fun _ _ => rfl) hc t.val t rfl d, if_neg (by rw [fresh_5_eq, freshA_not t hk]; exact Bool.false_ne_true), after_5]

theorem keep_6 (c : Dev nD) (t : Fin cfg0.N) (h : t.val ≠ 0) (hk : 516 ≤ t.val) :
    (stAt m c t.val t.isLt).o6 = (stAt m c (t.val - 1) (by omega)).o6 := by
  rw [stAt_later m c t h]; exact (step_keepA t hk _ _).2.1
theorem before_6 (c : Dev nD) (t : Fin cfg0.N) (h : t.val ≠ 0) (hk : 516 ≤ t.val) (d) :
    (dats m 0 c).before 6 t d = (stAt m c (t.val - 1) (by omega)).o6 := by
  have hc : ∀ s : Fin cfg0.N, s.val ≠ 0 → cfg0.idle 6 (cfg0.grid.coords s) = true → cfg0.fresh 6 s.val = false →
      (dats m 0 c).after 6 s = (dats m 0 c).after 6 ⟨s.val - 1, by omega⟩ := fun s hs hi _ => by
    rw [after_6, after_6]; exact keep_6 m c s hs (idle_6 s hi)
  rw [Dat.before_out_traj _ 6 rfl (fun _ _ => rfl) hc t.val t rfl d, if_neg (by rw [fresh_6_eq, freshA_not t hk]; exact Bool.false_ne_true), after_6]

theorem keep_7 (c : Dev nD) (t : Fin cfg0.N) (h : t.val ≠ 0) (hk : 516 ≤ t.val) :
    (stAt m c t.val t.isLt).o7 = (stAt m c (t.val - 1) (by omega)).o7 := by
  rw [stAt_later m c t h]; exact (step_keepA t hk _ _).2.2
theorem before_7 (c : Dev nD) (t : Fin cfg0.N) (h : t.val ≠ 0) (hk : 516 ≤ t.val) (d) :
    (dats m 0 c).before 7 t d = (stAt m c (t.val - 1) (by omega)).o7 := by
  have hc : ∀ s : Fin cfg0.N, s.val ≠ 0 → cfg0.idle 7 (cfg0.grid.coords s) = true → cfg0.fresh 7 s.val = false →
      (dats m 0 c).after 7 s = (dats m 0 c).after 7 ⟨s.val - 1, by omega⟩ := fun s hs hi _ => by
    rw [after_7, after_7]; exact keep_7 m c s hs (idle_7 s hi)
  rw [Dat.before_out_traj _ 7 rfl (fun _ _ => rfl) hc t.val t rfl d, if_neg (by rw [fresh_7_eq, freshA_not t hk]; exact Bool.false_ne_true), after_7]

theorem keep_12 (c : Dev nD) (t : Fin cfg0.N) (h : t.val ≠ 0) (hk : t.val % 12 ≠ 0) :
    (stAt m c t.val t.isLt).o12 = (stAt m c (t.val - 1) (by omega)).o12 := by
  rw [stAt_later m c t h]; exact (step_keepB t hk _ _).1
theorem before_12 (c : Dev nD) (t : Fin cfg0.N) (h : t.val ≠ 0) (hk : t.val % 12 ≠ 0) (d) :
    (dats m 0 c).before 12 t d = (stAt m c (t.val - 1) (by omega)).o12 := by
  have hc : ∀ s : Fin cfg0.N, s.val ≠ 0 → cfg0.idle 12 (cfg0.grid.coords s) = true → cfg0.fresh 12 s.val = false →
      (dats m 0 c).after 12 s = (dats m 0 c).after 12 ⟨s.val - 1, by omega⟩ := fun s hs hi _ => by
    rw [after_12, after_12]; exact keep_12 m c s hs (idle_12 s hi)
  rw [Dat.before_out_traj _ 12 rfl (fun _ _ => rfl) hc t.val t rfl d, if_neg (by rw [fresh_12_eq, freshB_not t hk]; exact Bool.false_ne_true), after_12]

theorem keep_13 (c : Dev nD) (t : Fin cfg0.N) (h : t.val ≠ 0) (hk : t.val % 12 ≠ 0) :
    (stAt m c t.val t.isLt).o13 = (stAt m c (t.val - 1) (by omega)).o13 := by
  rw [stAt_later m c t h]; exact (step_keepB t hk _ _).2.1
theorem before_13 (c : Dev nD) (t : Fin cfg0.N) (h : t.val ≠ 0) (hk : t.val % 12 ≠ 0) (d) :
    (dats m 0 c).before 13 t d = (stAt m c (t.val - 1) (by omega)).o13 := by
  have hc : ∀ s : Fin cfg0.N, s.val ≠ 0 → cfg0.idle 13 (cfg0.grid.coords s) = true → cfg0.fresh 13 s.val = false →
      (dats m 0 c).after 13 s = (dats m 0 c).after 13 ⟨s.val - 1, by omega⟩ := fun s hs hi _ => by
    rw [after_13, after_13]; exact keep_13 m c s hs (idle_13 s hi)
  rw [Dat.before_out_traj _ 13 rfl (fun _ _ => rfl) hc t.val t rfl d, if_neg (by rw [fresh_13_eq, freshB_not t hk]; exact Bool.false_ne_true), after_13]

theorem keep_14 (c : Dev nD) (t : Fin cfg0.N) (h : t.val ≠ 0) (hk : t.val % 12 ≠ 0) :
    (stAt m c t.val t.isLt).o14 = (stAt m c (t.val - 1) (by omega)).o14 := by
  rw [stAt_later m c t h]; exact (step_keepB t hk _ _).2.2
theorem before_14 (c : Dev nD) (t : Fin cfg0.N) (h : t.val ≠ 0) (hk : t.val % 12 ≠ 0) (d) :
    (dats m 0 c).before 14 t d = (stAt m c (t.val - 1) (by omega)).o14 := by
  have hc : ∀ s : Fin cfg0.N, s.val ≠ 0 → cfg0.idle 14 (cfg0.grid.coords s) = true → cfg0.fresh 14 s.val = false →
      (dats m 0 c).after 14 s = (dats m 0 c).after 14 ⟨s.val - 1, by omega⟩ := fun s hs hi _ => by
    rw [after_14, after_14]; exact keep_14 m c s hs (idle_14 s hi)
  rw [Dat.before_out_traj _ 14 rfl (fun _ _ => rfl) hc t.val t rfl d, if_neg (by rw [fresh_14_eq, freshB_not t hk]; exact Bool.false_ne_true), after_14]

end Cert.FfnIdeal.Hand

end
-- ==== Proof.FfnFrame.lean ====
/-
  The feed-forward call's frame: at every grid point the body takes the buffers from the contents before it to the
  contents after it, so the call terminates, leaves its arguments unchanged and its semaphores at zero.
-/
module

public import proofs.«01_k».proof.Proof.FfnTraj
public import proofs.«01_k».proof.Proof.Gen.FfnIdeal.Launch
public import proofs.«01_k».proof.Proof.Gen.FfnIdeal.Points
public import Idealize.ShloMosaic.Lib.Pipeline.FrameBody
public import Idealize.ShloMosaic.Lib.Claim

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The buffers of point `t`. -/
abbrev memsAt (t : Fin cfg0.N) : Mems where
  arg2 := win0_0.stage (cfg0.slots t 0)
  arg3 := win0_1.stage (cfg0.slots t 1)
  arg4 := win0_2.stage (cfg0.slots t 2)
  arg5 := win0_3.stage (cfg0.slots t 3)
  arg6 := win0_4.stage (cfg0.slots t 4)
  arg7 := win0_5.stage (cfg0.slots t 5)
  arg8 := win0_6.stage (cfg0.slots t 6)
  arg9 := win0_7.stage (cfg0.slots t 7)
  arg10 := win0_8.stage (cfg0.slots t 8)
  arg11 := win0_9.stage (cfg0.slots t 9)
  arg12 := win0_10.stage (cfg0.slots t 10)
  arg13 := win0_11.stage (cfg0.slots t 11)
  arg14 := win0_12.stage (cfg0.slots t 12)
  arg15 := win0_13.stage (cfg0.slots t 13)
  arg16 := win0_14.stage (cfg0.slots t 14)
  arg17 := scM_0
  arg18 := scM_1
  arg19 := scM_2
  arg20 := scM_3
  arg21 := scM_4
  harg2 := hstage0_0 ((cfg0.slots t 0).cast nbuf0_0)
  harg3 := hstage0_1 ((cfg0.slots t 1).cast nbuf0_1)
  harg4 := hstage0_2 ((cfg0.slots t 2).cast nbuf0_2)
  harg5 := hstage0_3 ((cfg0.slots t 3).cast nbuf0_3)
  harg6 := hstage0_4 ((cfg0.slots t 4).cast nbuf0_4)
  harg7 := hstage0_5 ((cfg0.slots t 5).cast nbuf0_5)
  harg8 := hstage0_6 ((cfg0.slots t 6).cast nbuf0_6)
  harg9 := hstage0_7 ((cfg0.slots t 7).cast nbuf0_7)
  harg10 := hstage0_8 ((cfg0.slots t 8).cast nbuf0_8)
  harg11 := hstage0_9 ((cfg0.slots t 9).cast nbuf0_9)
  harg12 := hstage0_10 ((cfg0.slots t 10).cast nbuf0_10)
  harg13 := hstage0_11 ((cfg0.slots t 11).cast nbuf0_11)
  harg14 := hstage0_12 ((cfg0.slots t 12).cast nbuf0_12)
  harg15 := hstage0_13 ((cfg0.slots t 13).cast nbuf0_13)
  harg16 := hstage0_14 ((cfg0.slots t 14).cast nbuf0_14)
  harg17 := Memref.isWhole_whole _
  harg18 := Memref.isWhole_whole _
  harg19 := Memref.isWhole_whole _
  harg20 := Memref.isWhole_whole _
  harg21 := Memref.isWhole_whole _

theorem own_memsAt (c : Dev nD) (t : Fin cfg0.N) (X : Ins F) (S : St F) : own c (memsAt t) X S
    = iprop(owns (c : Thread nD τ) (win0_0.stage (cfg0.slots t 0)) fullShare ((X).x0)
    ∗ owns (c : Thread nD τ) (win0_1.stage (cfg0.slots t 1)) fullShare ((X).x1)
    ∗ owns (c : Thread nD τ) (win0_2.stage (cfg0.slots t 2)) fullShare ((X).x2)
    ∗ owns (c : Thread nD τ) (win0_3.stage (cfg0.slots t 3)) fullShare ((X).x3)
    ∗ owns (c : Thread nD τ) (win0_4.stage (cfg0.slots t 4)) fullShare ((X).x4)
    ∗ owns (c : Thread nD τ) (win0_5.stage (cfg0.slots t 5)) fullShare ((S).o5)
    ∗ owns (c : Thread nD τ) (win0_6.stage (cfg0.slots t 6)) fullShare ((S).o6)
    ∗ owns (c : Thread nD τ) (win0_7.stage (cfg0.slots t 7)) fullShare ((S).o7)
    ∗ owns (c : Thread nD τ) (win0_8.stage (cfg0.slots t 8)) fullShare ((S).o8)
    ∗ owns (c : Thread nD τ) (win0_9.stage (cfg0.slots t 9)) fullShare ((S).o9)
    ∗ owns (c : Thread nD τ) (win0_10.stage (cfg0.slots t 10)) fullShare ((S).o10)
    ∗ owns (c : Thread nD τ) (win0_11.stage (cfg0.slots t 11)) fullShare ((S).o11)
    ∗ owns (c : Thread nD τ) (win0_12.stage (cfg0.slots t 12)) fullShare ((S).o12)
    ∗ owns (c : Thread nD τ) (win0_13.stage (cfg0.slots t 13)) fullShare ((S).o13)
    ∗ owns (c : Thread nD τ) (win0_14.stage (cfg0.slots t 14)) fullShare ((S).o14)
    ∗ owns (c : Thread nD τ) scM_0 fullShare (S).s0
    ∗ owns (c : Thread nD τ) scM_1 fullShare (S).s1
    ∗ owns (c : Thread nD τ) scM_2 fullShare (S).s2
    ∗ owns (c : Thread nD τ) scM_3 fullShare (S).s3
    ∗ owns (c : Thread nD τ) scM_4 fullShare (S).s4) := rfl

theorem own_of (c : Dev nD) (t : Fin cfg0.N) (X : Ins F) (S : St F) : iprop(owns (c : Thread nD τ) (win0_0.stage (cfg0.slots t 0)) fullShare ((X).x0)
    ∗ owns (c : Thread nD τ) (win0_1.stage (cfg0.slots t 1)) fullShare ((X).x1)
    ∗ owns (c : Thread nD τ) (win0_2.stage (cfg0.slots t 2)) fullShare ((X).x2)
    ∗ owns (c : Thread nD τ) (win0_3.stage (cfg0.slots t 3)) fullShare ((X).x3)
    ∗ owns (c : Thread nD τ) (win0_4.stage (cfg0.slots t 4)) fullShare ((X).x4)
    ∗ owns (c : Thread nD τ) (win0_5.stage (cfg0.slots t 5)) fullShare ((S).o5)
    ∗ owns (c : Thread nD τ) (win0_6.stage (cfg0.slots t 6)) fullShare ((S).o6)
    ∗ owns (c : Thread nD τ) (win0_7.stage (cfg0.slots t 7)) fullShare ((S).o7)
    ∗ owns (c : Thread nD τ) (win0_8.stage (cfg0.slots t 8)) fullShare ((S).o8)
    ∗ owns (c : Thread nD τ) (win0_9.stage (cfg0.slots t 9)) fullShare ((S).o9)
    ∗ owns (c : Thread nD τ) (win0_10.stage (cfg0.slots t 10)) fullShare ((S).o10)
    ∗ owns (c : Thread nD τ) (win0_11.stage (cfg0.slots t 11)) fullShare ((S).o11)
    ∗ owns (c : Thread nD τ) (win0_12.stage (cfg0.slots t 12)) fullShare ((S).o12)
    ∗ owns (c : Thread nD τ) (win0_13.stage (cfg0.slots t 13)) fullShare ((S).o13)
    ∗ owns (c : Thread nD τ) (win0_14.stage (cfg0.slots t 14)) fullShare ((S).o14)
    ∗ owns (c : Thread nD τ) scM_0 fullShare (S).s0
    ∗ owns (c : Thread nD τ) scM_1 fullShare (S).s1
    ∗ owns (c : Thread nD τ) scM_2 fullShare (S).s2
    ∗ owns (c : Thread nD τ) scM_3 fullShare (S).s3
    ∗ owns (c : Thread nD τ) scM_4 fullShare (S).s4) ⊢ own c (memsAt t) X S := by
  rw [own_memsAt]

/-- A window whose buffer holds what the point leaves is as the pipeline wants it, -/
theorem leaves_of {c : Dev nD} (dat : Dat τ (Elt F) Unit ℕ (UR sig nD τ) ℕ cfg0 c) (w : Fin cfg0.W) (t : Fin cfg0.N)
    (h : cfg0.idle w (cfg0.grid.coords t) = true → ∃ d, dat.before w t d = dat.after w t) :
    owns (c : Thread nD τ) ((cfg0.win w).stage (cfg0.slots t w)) fullShare (dat.after w t) ⊢ dat.leavesExact w t := by
  cases hi : cfg0.idle w (cfg0.grid.coords t) with
  | false => unfold Dat.leavesExact; rw [hi]
  | true =>
    cases hf : (cfg0.win w).flush t with
    | false =>
      rw [Dat.leavesExact_idle _ w t hi hf]
      obtain ⟨d, hd⟩ := h hi
      rw [← hd]
      iintro H; iexists d; iexact H
    | true => unfold Dat.leavesExact; rw [hi, hf]

theorem idle_in {P : Prop} {b : Bool} (h : b = false) : b = true → P := fun k => by rw [h] at k; cases k

theorem leaves_0 (c : Dev nD) (t : Fin cfg0.N) :
    owns (c : Thread nD τ) (win0_0.stage (cfg0.slots t 0)) fullShare (iblk m c 0 t) ⊢ (dats m 0 c).leavesExact 0 t :=
  leaves_of (dats m 0 c) 0 t (idle_in rfl)
theorem leaves_1 (c : Dev nD) (t : Fin cfg0.N) :
    owns (c : Thread nD τ) (win0_1.stage (cfg0.slots t 1)) fullShare (iblk m c 1 t) ⊢ (dats m 0 c).leavesExact 1 t :=
  leaves_of (dats m 0 c) 1 t (idle_in rfl)
theorem leaves_2 (c : Dev nD) (t : Fin cfg0.N) :
    owns (c : Thread nD τ) (win0_2.stage (cfg0.slots t 2)) fullShare (iblk m c 2 t) ⊢ (dats m 0 c).leavesExact 2 t :=
  leaves_of (dats m 0 c) 2 t (idle_in rfl)
theorem leaves_3 (c : Dev nD) (t : Fin cfg0.N) :
    owns (c : Thread nD τ) (win0_3.stage (cfg0.slots t 3)) fullShare (iblk m c 3 t) ⊢ (dats m 0 c).leavesExact 3 t :=
  leaves_of (dats m 0 c) 3 t (idle_in rfl)
theorem leaves_4 (c : Dev nD) (t : Fin cfg0.N) :
    owns (c : Thread nD τ) (win0_4.stage (cfg0.slots t 4)) fullShare (iblk m c 4 t) ⊢ (dats m 0 c).leavesExact 4 t :=
  leaves_of (dats m 0 c) 4 t (idle_in rfl)
theorem leaves_5 (c : Dev nD) (t : Fin cfg0.N) :
    owns (c : Thread nD τ) (win0_5.stage (cfg0.slots t 5)) fullShare ((stAt m c t.val t.isLt).o5) ⊢ (dats m 0 c).leavesExact 5 t :=
  leaves_of (dats m 0 c) 5 t (fun hi => ⟨fun _ => (Elt.inhabited F _).default, by have g := idle_5 t hi; rw [before_5 m c t (by omega) g, after_5, keep_5 m c t (by omega) g]⟩)
theorem leaves_6 (c : Dev nD) (t : Fin cfg0.N) :
    owns (c : Thread nD τ) (win0_6.stage (cfg0.slots t 6)) fullShare ((stAt m c t.val t.isLt).o6) ⊢ (dats m 0 c).leavesExact 6 t :=
  leaves_of (dats m 0 c) 6 t (fun hi => ⟨fun _ => (Elt.inhabited F _).default, by have g := idle_6 t hi; rw [before_6 m c t (by omega) g, after_6, keep_6 m c t (by omega) g]⟩)
theorem leaves_7 (c : Dev nD) (t : Fin cfg0.N) :
    owns (c : Thread nD τ) (win0_7.stage (cfg0.slots t 7)) fullShare ((stAt m c t.val t.isLt).o7) ⊢ (dats m 0 c).leavesExact 7 t :=
  leaves_of (dats m 0 c) 7 t (fun hi => ⟨fun _ => (Elt.inhabited F _).default, by have g := idle_7 t hi; rw [before_7 m c t (by omega) g, after_7, keep_7 m c t (by omega) g]⟩)
theorem leaves_8 (c : Dev nD) (t : Fin cfg0.N) :
    owns (c : Thread nD τ) (win0_8.stage (cfg0.slots t 8)) fullShare ((stAt m c t.val t.isLt).o8) ⊢ (dats m 0 c).leavesExact 8 t :=
  leaves_of (dats m 0 c) 8 t (idle_in (idle_8 t))
theorem leaves_9 (c : Dev nD) (t : Fin cfg0.N) :
    owns (c : Thread nD τ) (win0_9.stage (cfg0.slots t 9)) fullShare ((stAt m c t.val t.isLt).o9) ⊢ (dats m 0 c).leavesExact 9 t :=
  leaves_of (dats m 0 c) 9 t (idle_in (idle_9 t))
theorem leaves_10 (c : Dev nD) (t : Fin cfg0.N) :
    owns (c : Thread nD τ) (win0_10.stage (cfg0.slots t 10)) fullShare ((stAt m c t.val t.isLt).o10) ⊢ (dats m 0 c).leavesExact 10 t :=
  leaves_of (dats m 0 c) 10 t (idle_in (idle_10 t))
theorem leaves_11 (c : Dev nD) (t : Fin cfg0.N) :
    owns (c : Thread nD τ) (win0_11.stage (cfg0.slots t 11)) fullShare ((stAt m c t.val t.isLt).o11) ⊢ (dats m 0 c).leavesExact 11 t :=
  leaves_of (dats m 0 c) 11 t (idle_in (idle_11 t))
theorem leaves_12 (c : Dev nD) (t : Fin cfg0.N) :
    owns (c : Thread nD τ) (win0_12.stage (cfg0.slots t 12)) fullShare ((stAt m c t.val t.isLt).o12) ⊢ (dats m 0 c).leavesExact 12 t :=
  leaves_of (dats m 0 c) 12 t (fun hi => ⟨fun _ => (Elt.inhabited F _).default, by have g := idle_12 t hi; rw [before_12 m c t (by omega) g, after_12, keep_12 m c t (by omega) g]⟩)
theorem leaves_13 (c : Dev nD) (t : Fin cfg0.N) :
    owns (c : Thread nD τ) (win0_13.stage (cfg0.slots t 13)) fullShare ((stAt m c t.val t.isLt).o13) ⊢ (dats m 0 c).leavesExact 13 t :=
  leaves_of (dats m 0 c) 13 t (fun hi => ⟨fun _ => (Elt.inhabited F _).default, by have g := idle_13 t hi; rw [before_13 m c t (by omega) g, after_13, keep_13 m c t (by omega) g]⟩)
theorem leaves_14 (c : Dev nD) (t : Fin cfg0.N) :
    owns (c : Thread nD τ) (win0_14.stage (cfg0.slots t 14)) fullShare ((stAt m c t.val t.isLt).o14) ⊢ (dats m 0 c).leavesExact 14 t :=
  leaves_of (dats m 0 c) 14 t (fun hi => ⟨fun _ => (Elt.inhabited F _).default, by have g := idle_14 t hi; rw [before_14 m c t (by omega) g, after_14, keep_14 m c t (by omega) g]⟩)

/-- What the body is called with, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d)))
/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- The buffers at the point's contents are what the body returns. -/
theorem post_of (c : Dev nD) (t : Fin cfg0.N) :
    iprop(own c (memsAt t) (insAt m c t) (stAt m c t.val t.isLt) ∗ (∃ r, prngReg c r) ∗ (dats m 0 c).owesAt () t.castSucc) ⊢ bodyPost m c t := by
  unfold bodyPost
  rw [show (dats m 0 c).owesAt () t.succ = (dats m 0 c).owesAt () t.castSucc from rfl]
  rw [show (dats m 0 c).Φ t.succ = PhiS m c (t.val + 1) t.isLt from rfl, PhiS_succ]
  rw [own_memsAt]
  unfold scr
  iintro ⟨⟨H0, H1, H2, H3, H4, H5, H6, H7, H8, H9, H10, H11, H12, H13, H14, S0, S1, S2, S3, S4⟩, Hg, Ho⟩
  isplitl [Hg S0 S1 S2 S3 S4]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iapply (leaves_0 m c t); iexact H0
  isplitl [H1]; · iapply (leaves_1 m c t); iexact H1
  isplitl [H2]; · iapply (leaves_2 m c t); iexact H2
  isplitl [H3]; · iapply (leaves_3 m c t); iexact H3
  isplitl [H4]; · iapply (leaves_4 m c t); iexact H4
  isplitl [H5]; · iapply (leaves_5 m c t); iexact H5
  isplitl [H6]; · iapply (leaves_6 m c t); iexact H6
  isplitl [H7]; · iapply (leaves_7 m c t); iexact H7
  isplitl [H8]; · iapply (leaves_8 m c t); iexact H8
  isplitl [H9]; · iapply (leaves_9 m c t); iexact H9
  isplitl [H10]; · iapply (leaves_10 m c t); iexact H10
  isplitl [H11]; · iapply (leaves_11 m c t); iexact H11
  isplitl [H12]; · iapply (leaves_12 m c t); iexact H12
  isplitl [H13]; · iapply (leaves_13 m c t); iexact H13
  iapply (leaves_14 m c t); iexact H14

/-- The body from contents whose step is the point's. -/
theorem body_core (c : Dev nD) (t : Fin cfg0.N) (S : St F) (hS : step t (insAt m c t) S = stAt m c t.val t.isLt) :
    iprop(own c (memsAt t) (insAt m c t) S ∗ (∃ r, prngReg c r) ∗ (dats m 0 c).owesAt () t.castSucc)
      ⊢ wp frame (wpE (defs₀ (F := F)) Variants.none c none) Set.univ (bodyAt0 t) (fun _ => bodyPost m c t) := by
  refine BIBase.Entails.trans ?_ (body_step c (grid0.coords t) (memsAt t) (insAt m c t) S _ (steps_step t _ S) Set.univ (fun _ => bodyPost m c t))
  rw [hS]
  iintro ⟨Hown, Hg, Ho⟩
  isplitl [Hown]
  · iexact Hown
  iintro Hown
  iapply (post_of m c t)
  isplitl [Hown]; · iexact Hown
  isplitl [Hg]; · iexact Hg
  iexact Ho

theorem sound_body (c : Dev nD) (t : Fin cfg0.N) :
    bodyPre m c t ⊢ wp frame (wpE (defs₀ (F := F)) Variants.none c none) Set.univ (bodyAt0 t) (fun _ => bodyPost m c t) := by
  unfold bodyPre
  simp only [before_0, before_1, before_2, before_3, before_4]
  rw [PhiS_castSucc]
  by_cases ht : t.val = 0
  · rw [PhiS_zero m c _ _ ht, PhiA_eq]
    iintro ⟨⟨⟨⟨%e0, S0⟩, ⟨%e1, S1⟩, ⟨%e2, S2⟩, ⟨%e3, S3⟩, ⟨%e4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body_core m c t ⟨(dats m 0 c).before 5 t d5, (dats m 0 c).before 6 t d6, (dats m 0 c).before 7 t d7, (dats m 0 c).before 8 t d8, (dats m 0 c).before 9 t d9, (dats m 0 c).before 10 t d10, (dats m 0 c).before 11 t d11, (dats m 0 c).before 12 t d12, (dats m 0 c).before 13 t d13, (dats m 0 c).before 14 t d14, e0, e1, e2, e3, e4⟩
      ((step_first t ht _ _ anySt).trans (stAt_first m c t ht).symm))
    isplitl [H0 H1 H2 H3 H4 H5 H6 H7 H8 H9 H10 H11 H12 H13 H14 S0 S1 S2 S3 S4]
    · iapply (own_of c t _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [S0]; · iexact S0
      isplitl [S1]; · iexact S1
      isplitl [S2]; · iexact S2
      isplitl [S3]; · iexact S3
      iexact S4
    isplitl [Hg]; · iexact Hg
    iexact Ho
  · rw [PhiS_pos m c _ _ ht]
    unfold scr
    iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body_core m c t ⟨(dats m 0 c).before 5 t d5, (dats m 0 c).before 6 t d6, (dats m 0 c).before 7 t d7, (dats m 0 c).before 8 t d8, (dats m 0 c).before 9 t d9, (dats m 0 c).before 10 t d10, (dats m 0 c).before 11 t d11, (dats m 0 c).before 12 t d12, (dats m 0 c).before 13 t d13, (dats m 0 c).before 14 t d14, (stAt m c (t.val - 1) (by omega)).s0, (stAt m c (t.val - 1) (by omega)).s1, (stAt m c (t.val - 1) (by omega)).s2, (stAt m c (t.val - 1) (by omega)).s3, (stAt m c (t.val - 1) (by omega)).s4⟩
      ((step_later t ht (insAt m c t) ⟨(dats m 0 c).before 5 t d5, (dats m 0 c).before 6 t d6, (dats m 0 c).before 7 t d7, (dats m 0 c).before 8 t d8, (dats m 0 c).before 9 t d9, (dats m 0 c).before 10 t d10, (dats m 0 c).before 11 t d11, (dats m 0 c).before 12 t d12, (dats m 0 c).before 13 t d13, (dats m 0 c).before 14 t d14, (stAt m c (t.val - 1) (by omega)).s0, (stAt m c (t.val - 1) (by omega)).s1, (stAt m c (t.val - 1) (by omega)).s2, (stAt m c (t.val - 1) (by omega)).s3, (stAt m c (t.val - 1) (by omega)).s4⟩ (stAt m c (t.val - 1) (by omega)) rfl rfl rfl rfl rfl
        (fun g => ⟨before_5 m c t ht g d5, before_6 m c t ht g d6, before_7 m c t ht g d7⟩)
        (fun g => ⟨before_12 m c t ht g d12, before_13 m c t ht g d13, before_14 m c t ht g d14⟩)).trans (stAt_later m c t ht).symm))
    isplitl [H0 H1 H2 H3 H4 H5 H6 H7 H8 H9 H10 H11 H12 H13 H14 S0 S1 S2 S3 S4]
    · iapply (own_of c t _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [S0]; · iexact S0
      isplitl [S1]; · iexact S1
      isplitl [S2]; · iexact S2
      isplitl [S3]; · iexact S3
      iexact S4
    isplitl [Hg]; · iexact Hg
    iexact Ho

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  unfold scr
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 528 := N_0; omega)

/-! ## The run and the frame -/

set_option backward.isDefEq.respectTransparency.types false in
/-- The launch: `run_main`'s statement, and every semaphore counter of the machine at zero at every final state. -/
theorem run_main_quiescent : θ_run defs (onTc (τ := τ) (Cert.FfnIdeal.main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ Cert.FfnIdeal.main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every execution terminates with every array of the pipeline at what the proof data gives. -/
theorem run_main : θ_run defs (onTc (τ := τ) (Cert.FfnIdeal.main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (Cert.FfnIdeal.main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame, over any values. -/
theorem frame : θ_run defs (onTc (τ := τ) (Cert.FfnIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FfnIdeal.Hand

end
-- ==== Proof.FfnBitsStep.lean ====
/-
  The feed-forward call, one grid point at a time: the buffers the body works on, and what one point does to their
  contents, as a function of the contents before it (`step`). A point may clear the scratch (`init`), turn the running
  column maxima of the block before into its scales (`roll`), quantise that block's rows and compute its own (`main`),
  or only quantise the last block's rows (`tail`).
-/
module

public import proofs.«01_k».proof.Proof.Gen.Ffn.Skeleton
public import proofs.«01_k».proof.Proof.Gen.Ffn.Frame
public import Idealize.ShloMosaic.Lib.VecWindow

@[expose] public section

set_option maxRecDepth 16384

noncomputable section

namespace Cert.Ffn.Hand

open Cert.Ffn Cert.Ffn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The contents of the five input blocks. -/
structure Ins (F : FTy → Type) where
  x0 : Vec F S512x4096 .bf16
  x1 : Vec F S512x4096 .bf16
  x2 : Vec F S4096x256 .bf16
  x3 : Vec F S4096x256 .bf16
  x4 : Vec F S256x4096 .bf16

/-- The contents of the ten output blocks (windows 5 to 14) and of the five scratch buffers. -/
structure St (F : FTy → Type) where
  o5 : Vec F S512x256 .bf16
  o6 : Vec F S512x256 .bf16
  o7 : Vec F S512x256 .bf16
  o8 : Vec F S512x256 .fp8e4m3
  o9 : Vec F S256x512 .fp8e4m3
  o10 : Vec F S512x256 .fp8e4m3
  o11 : Vec F S512x256 .fp8e4m3
  o12 : Vec F S1x1x256 .f32
  o13 : Vec F S1x1x256 .f32
  o14 : Vec F S1x1x256 .f32
  s0 : Vec F S6144x256 .f32
  s1 : Vec F S6144x256 .f32
  s2 : Vec F S6144x256 .f32
  s3 : Vec F S3x8x256 .f32
  s4 : Vec F S3x1x256 .f32

/-- The first row of a point's 512 rows, and the first column. -/
def off (i : grid0.Coords) : Fin 2 → ℕ := ![512 * (i 1).val, 0]

theorem off_inb (i : grid0.Coords) : ∀ a, off i a + S512x256.size a ≤ S6144x256.size a := by
  have h : (i 1).val < 12 := (i 1).isLt
  intro a
  match a with
  | ⟨0, _⟩ => show 512 * (i 1).val + 512 ≤ 6144; omega
  | ⟨1, _⟩ => show 0 + 256 ≤ 256; omega

theorem off1_eq (i : grid0.Coords) : k0_off1 i = off i := by
  have h : (i 1).val < 12 := (i 1).isLt
  have e : (Scalar.muli (BitVec.ofNat 32 (i 1).val) 512#32 : BitVec 32).toNat = 512 * (i 1).val := by
    show (BitVec.ofNat 32 (i 1).val * 512#32).toNat = _
    rw [BitVec.toNat_mul, BitVec.toNat_ofNat, Nat.mod_eq_of_lt (by omega : (i 1).val < 2 ^ 32)]
    show (i 1).val * 512 % 2 ^ 32 = _
    omega
  funext a
  match a with
  | ⟨0, _⟩ => exact e
  | ⟨1, _⟩ => rfl

theorem off2_eq (i : grid0.Coords) : k0_off2 i = off i := off1_eq i

/-- A point's 512 rows of a scratch buffer, -/
def win (i : grid0.Coords) (S : Vec F S6144x256 .f32) : Vec F S512x256 .f32 :=
  VecWindow.window S (off i) S512x256.size (off_inb i)
/-- and the buffer with these rows replaced. -/
def putW (i : grid0.Coords) (S : Vec F S6144x256 .f32) (v : Vec F S512x256 .f32) : Vec F S6144x256 .f32 :=
  VecWindow.put S (off i) S512x256.size v

/-- The running maxima of one of the three quantities, -/
def mx0 (S : Vec F S3x8x256 .f32) : Vec F S1x8x256 .f32 := VecWindow.window S ![0, 0, 0] S1x8x256.size inb_S3x8x256_S1x8x256_0_0_0
def mx1 (S : Vec F S3x8x256 .f32) : Vec F S1x8x256 .f32 := VecWindow.window S ![1, 0, 0] S1x8x256.size inb_S3x8x256_S1x8x256_1_0_0
def mx2 (S : Vec F S3x8x256 .f32) : Vec F S1x8x256 .f32 := VecWindow.window S ![2, 0, 0] S1x8x256.size inb_S3x8x256_S1x8x256_2_0_0
/-- the buffer with all three replaced, -/
def putM (S : Vec F S3x8x256 .f32) (u v w : Vec F S1x8x256 .f32) : Vec F S3x8x256 .f32 :=
  VecWindow.put (VecWindow.put (VecWindow.put S ![0, 0, 0] S1x8x256.size u) ![1, 0, 0] S1x8x256.size v) ![2, 0, 0] S1x8x256.size w
/-- the scales of one of the three quantities, -/
def sc0 (S : Vec F S3x1x256 .f32) : Vec F S1x1x256 .f32 := VecWindow.window S ![0, 0, 0] S1x1x256.size inb_S3x1x256_S1x1x256_0_0_0
def sc1 (S : Vec F S3x1x256 .f32) : Vec F S1x1x256 .f32 := VecWindow.window S ![1, 0, 0] S1x1x256.size inb_S3x1x256_S1x1x256_1_0_0
def sc2 (S : Vec F S3x1x256 .f32) : Vec F S1x1x256 .f32 := VecWindow.window S ![2, 0, 0] S1x1x256.size inb_S3x1x256_S1x1x256_2_0_0
/-- and the buffer with all three replaced. -/
def putS (S : Vec F S3x1x256 .f32) (u v w : Vec F S1x1x256 .f32) : Vec F S3x1x256 .f32 :=
  VecWindow.put (VecWindow.put (VecWindow.put S ![0, 0, 0] S1x1x256.size u) ![1, 0, 0] S1x1x256.size v) ![2, 0, 0] S1x1x256.size w

/-- The first point clears the rows kept and the running maxima. -/
def init (S : St F) : St F := { S with s0 := k0_pay1, s1 := k0_pay2, s2 := k0_pay3, s3 := k0_pay4 }

/-- The first point of a block of columns turns the maxima of the block before into its scales and clears them. -/
def roll (S : St F) : St F :=
  { S with
    o12 := k0_pay14 (mx0 S.s3), o13 := k0_pay5 (k0_pay15 (mx1 S.s3)), o14 := k0_pay8 (mx2 S.s3), s3 := k0_pay9
    s4 := putS S.s4 (k0_pay13 (mx0 S.s3)) (k0_pay16 (mx1 S.s3)) (k0_pay7 (mx2 S.s3)) }

/-- A point of a block of columns quantises the rows the block before left and computes its own in their place. -/
def main (i : grid0.Coords) (X : Ins F) (S : St F) : St F :=
  { S with
    o5 := k0_pay31 X.x0 X.x2 X.x3, o6 := k0_pay35 (k0_pay28 X.x0 X.x2 X.x3 X.x1 X.x4), o7 := k0_pay38 (k0_pay29 X.x0 X.x2 X.x1 X.x4)
    o8 := k0_pay17 (win i S.s0) (sc0 S.s4), o9 := k0_pay18 (win i S.s0) (sc0 S.s4), o10 := k0_pay19 (win i S.s1) (sc1 S.s4)
    o11 := k0_pay22 (k0_pay20 (win i S.s2) (sc2 S.s4)) (Scalar.ofBits .f32 0x43E00000#32) k0_pay21
    s0 := putW i S.s0 (k0_pay30 X.x0 X.x2 X.x3), s1 := putW i S.s1 (k0_pay34 (k0_pay28 X.x0 X.x2 X.x3 X.x1 X.x4))
    s2 := putW i S.s2 (k0_pay37 (k0_pay29 X.x0 X.x2 X.x1 X.x4))
    s3 := putM S.s3 (k0_pay33 (k0_pay27 X.x0 X.x2 X.x3) (k0_pay32 (mx0 S.s3))) (k0_pay36 (k0_pay28 X.x0 X.x2 X.x3 X.x1 X.x4) (mx1 S.s3))
      (k0_pay10 (k0_pay39 (mx2 S.s3)) (k0_pay40 (k0_pay29 X.x0 X.x2 X.x1 X.x4))) }

/-- A point after the last block of columns only quantises that block's rows. -/
def tail (i : grid0.Coords) (S : St F) : St F :=
  { S with
    o8 := k0_pay41 (win i S.s0) (sc0 S.s4), o9 := k0_pay42 (win i S.s0) (sc0 S.s4), o10 := k0_pay43 (win i S.s1) (sc1 S.s4)
    o11 := k0_pay11 (k0_pay44 (win i S.s2) (sc2 S.s4)) (Scalar.ofBits .f32 0x43E00000#32) k0_pay45 }

/-- The buffers the body is called with, all whole. -/
structure Mems where
  arg2 : Memref sig .tc .vmem S512x4096 .bf16
  arg3 : Memref sig .tc .vmem S512x4096 .bf16
  arg4 : Memref sig .tc .vmem S4096x256 .bf16
  arg5 : Memref sig .tc .vmem S4096x256 .bf16
  arg6 : Memref sig .tc .vmem S256x4096 .bf16
  arg7 : Memref sig .tc .vmem S512x256 .bf16
  arg8 : Memref sig .tc .vmem S512x256 .bf16
  arg9 : Memref sig .tc .vmem S512x256 .bf16
  arg10 : Memref sig .tc .vmem S512x256 .fp8e4m3
  arg11 : Memref sig .tc .vmem S256x512 .fp8e4m3
  arg12 : Memref sig .tc .vmem S512x256 .fp8e4m3
  arg13 : Memref sig .tc .vmem S512x256 .fp8e4m3
  arg14 : Memref sig .tc .vmem S1x1x256 .f32
  arg15 : Memref sig .tc .vmem S1x1x256 .f32
  arg16 : Memref sig .tc .vmem S1x1x256 .f32
  arg17 : Memref sig .tc .vmem S6144x256 .f32
  arg18 : Memref sig .tc .vmem S6144x256 .f32
  arg19 : Memref sig .tc .vmem S6144x256 .f32
  arg20 : Memref sig .tc .vmem S3x8x256 .f32
  arg21 : Memref sig .tc .vmem S3x1x256 .f32
  harg2 : arg2.IsWhole
  harg3 : arg3.IsWhole
  harg4 : arg4.IsWhole
  harg5 : arg5.IsWhole
  harg6 : arg6.IsWhole
  harg7 : arg7.IsWhole
  harg8 : arg8.IsWhole
  harg9 : arg9.IsWhole
  harg10 : arg10.IsWhole
  harg11 : arg11.IsWhole
  harg12 : arg12.IsWhole
  harg13 : arg13.IsWhole
  harg14 : arg14.IsWhole
  harg15 : arg15.IsWhole
  harg16 : arg16.IsWhole
  harg17 : arg17.IsWhole
  harg18 : arg18.IsWhole
  harg19 : arg19.IsWhole
  harg20 : arg20.IsWhole
  harg21 : arg21.IsWhole

/-- All buffers owned at given contents. -/
def own (c : Dev nD) (M : Mems) (X : Ins F) (S : St F) : sProp (MT nD τ sig Unit (Elt F) ℕ (UR sig nD τ) ℕ) :=
  iprop(owns (c : Thread nD τ) M.arg2 fullShare X.x0 ∗ owns (c : Thread nD τ) M.arg3 fullShare X.x1 ∗ owns (c : Thread nD τ) M.arg4 fullShare X.x2
    ∗ owns (c : Thread nD τ) M.arg5 fullShare X.x3 ∗ owns (c : Thread nD τ) M.arg6 fullShare X.x4
    ∗ owns (c : Thread nD τ) M.arg7 fullShare S.o5 ∗ owns (c : Thread nD τ) M.arg8 fullShare S.o6 ∗ owns (c : Thread nD τ) M.arg9 fullShare S.o7
    ∗ owns (c : Thread nD τ) M.arg10 fullShare S.o8 ∗ owns (c : Thread nD τ) M.arg11 fullShare S.o9 ∗ owns (c : Thread nD τ) M.arg12 fullShare S.o10
    ∗ owns (c : Thread nD τ) M.arg13 fullShare S.o11 ∗ owns (c : Thread nD τ) M.arg14 fullShare S.o12 ∗ owns (c : Thread nD τ) M.arg15 fullShare S.o13
    ∗ owns (c : Thread nD τ) M.arg16 fullShare S.o14 ∗ owns (c : Thread nD τ) M.arg17 fullShare S.s0 ∗ owns (c : Thread nD τ) M.arg18 fullShare S.s1
    ∗ owns (c : Thread nD τ) M.arg19 fullShare S.s2 ∗ owns (c : Thread nD τ) M.arg20 fullShare S.s3 ∗ owns (c : Thread nD τ) M.arg21 fullShare S.s4)

/-- The body on given buffers. -/
abbrev bodyOn (i : grid0.Coords) (M : Mems) : Prog (TpuEff nD τ sig (Elt F) Λ₀ .tc) PUnit :=
  cc0_ffn i M.arg2 M.harg2 M.arg3 M.harg3 M.arg4 M.harg4 M.arg5 M.harg5 M.arg6 M.harg6 M.arg7 M.harg7 M.arg8 M.harg8 M.arg9 M.harg9 M.arg10 M.harg10
    M.arg11 M.harg11 M.arg12 M.harg12 M.arg13 M.harg13 M.arg14 M.harg14 M.arg15 M.harg15 M.arg16 M.harg16 M.arg17 M.harg17 M.arg18 M.harg18
    M.arg19 M.harg19 M.arg20 M.harg20 M.arg21 M.harg21

/-- The body's first condition: the first point. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

end Cert.Ffn.Hand

end
-- ==== Proof.FfnBitsBody.lean ====
/-
  The body of the feed-forward call at a grid point: from any contents of its buffers it leaves them as the pure step
  of `FfnBitsStep` says, case by case of the branches it takes.
-/
module

public import proofs.«01_k».proof.Proof.FfnBitsStep

@[expose] public section

set_option maxRecDepth 16384

noncomputable section

namespace Cert.Ffn.Hand

open Cert.Ffn Cert.Ffn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Reads

variable {κ : Kind} {sp : Space} {Val : EltTy → Type}

/-- A load of a point's rows, and a store of them. -/
theorem readAt_off1 (v : View sig κ sp S6144x256 .f32) (f : v.ty.Contents (Elt F)) (i : grid0.Coords) (inb) :
    v.readAt (Elt F) (Rect.unit (s := S6144x256) (k0_off1 i) S512x256.size inb).toLoadRect f = win i (v.read (Elt F) f) :=
  View.readAt_unit v f inb (off1_eq i) (off_inb i)
theorem read_writes_off1 (v : View sig κ sp S6144x256 .f32) (f : v.ty.Contents (Elt F)) (i : grid0.Coords) (inb)
    (w : Vec F S512x256 .f32) (L : List (View.Piece (Elt F) S6144x256 .f32)) :
    v.read (Elt F) (v.writes (Elt F) f (⟨Rect.unit (k0_off1 i) S512x256.size inb, w⟩ :: L)) = putW i (v.read (Elt F) (v.writes (Elt F) f L)) w :=
  View.read_writes_cons_put v f inb w L (off1_eq i)

/-- The same with the offset written out. -/
theorem readAt_rows1 (v : View sig κ sp S6144x256 .f32) (f : v.ty.Contents (Elt F)) (i : grid0.Coords) (inb : ∀ a, k0_off1 i a + S512x256.size a ≤ S6144x256.size a) :
    v.readAt (Elt F) (Rect.unit (s := S6144x256) ![(Scalar.indexCast (Scalar.muli (BitVec.ofNat 32 (i 1).val) 512#32)).toNat, 0] ![512, 256] inb).toLoadRect f
      = win i (v.read (Elt F) f) := readAt_off1 v f i inb
theorem read_writes_rows1 (v : View sig κ sp S6144x256 .f32) (f : v.ty.Contents (Elt F)) (i : grid0.Coords) (inb : ∀ a, k0_off1 i a + S512x256.size a ≤ S6144x256.size a)
    (w : Vec F S512x256 .f32) (L : List (View.Piece (Elt F) S6144x256 .f32)) :
    v.read (Elt F) (v.writes (Elt F) f (⟨Rect.unit ![(Scalar.indexCast (Scalar.muli (BitVec.ofNat 32 (i 1).val) 512#32)).toNat, 0] ![512, 256] inb, w⟩ :: L))
      = putW i (v.read (Elt F) (v.writes (Elt F) f L)) w := read_writes_off1 v f i inb w L

/-- The same with the offset written out. -/
theorem readAt_rows2 (v : View sig κ sp S6144x256 .f32) (f : v.ty.Contents (Elt F)) (i : grid0.Coords) (inb : ∀ a, k0_off2 i a + S512x256.size a ≤ S6144x256.size a) :
    v.readAt (Elt F) (Rect.unit (s := S6144x256) ![(Scalar.indexCast (Scalar.muli (BitVec.ofNat 32 (i 1).val) 512#32)).toNat, 0] ![512, 256] inb).toLoadRect f
      = win i (v.read (Elt F) f) := readAt_off1 v f i inb
theorem read_writes_rows2 (v : View sig κ sp S6144x256 .f32) (f : v.ty.Contents (Elt F)) (i : grid0.Coords) (inb : ∀ a, k0_off2 i a + S512x256.size a ≤ S6144x256.size a)
    (w : Vec F S512x256 .f32) (L : List (View.Piece (Elt F) S6144x256 .f32)) :
    v.read (Elt F) (v.writes (Elt F) f (⟨Rect.unit ![(Scalar.indexCast (Scalar.muli (BitVec.ofNat 32 (i 1).val) 512#32)).toNat, 0] ![512, 256] inb, w⟩ :: L))
      = putW i (v.read (Elt F) (v.writes (Elt F) f L)) w := read_writes_off1 v f i inb w L

/-- Loads of one quantity's maxima -/
theorem readAt_mx0 (v : View sig κ sp S3x8x256 .f32) (f : v.ty.Contents (Elt F)) (inb) :
    v.readAt (Elt F) (Rect.unit (s := S3x8x256) ![0, 0, 0] ![1, 8, 256] inb).toLoadRect f = mx0 (v.read (Elt F) f) := rfl
theorem readAt_mx1 (v : View sig κ sp S3x8x256 .f32) (f : v.ty.Contents (Elt F)) (inb) :
    v.readAt (Elt F) (Rect.unit (s := S3x8x256) ![1, 0, 0] ![1, 8, 256] inb).toLoadRect f = mx1 (v.read (Elt F) f) := rfl
theorem readAt_mx2 (v : View sig κ sp S3x8x256 .f32) (f : v.ty.Contents (Elt F)) (inb) :
    v.readAt (Elt F) (Rect.unit (s := S3x8x256) ![2, 0, 0] ![1, 8, 256] inb).toLoadRect f = mx2 (v.read (Elt F) f) := rfl
theorem readCov_mx0 (v : View sig κ sp S3x8x256 .f32) (L : List (View.Piece (Elt F) S3x8x256 .f32)) (inb) :
    v.readCov L (Rect.unit (s := S3x8x256) ![0, 0, 0] ![1, 8, 256] inb).toLoadRect = mx0 (v.read (Elt F) (v.writes (Elt F) v.junk L)) := rfl
theorem readCov_mx1 (v : View sig κ sp S3x8x256 .f32) (L : List (View.Piece (Elt F) S3x8x256 .f32)) (inb) :
    v.readCov L (Rect.unit (s := S3x8x256) ![1, 0, 0] ![1, 8, 256] inb).toLoadRect = mx1 (v.read (Elt F) (v.writes (Elt F) v.junk L)) := rfl
theorem readCov_mx2 (v : View sig κ sp S3x8x256 .f32) (L : List (View.Piece (Elt F) S3x8x256 .f32)) (inb) :
    v.readCov L (Rect.unit (s := S3x8x256) ![2, 0, 0] ![1, 8, 256] inb).toLoadRect = mx2 (v.read (Elt F) (v.writes (Elt F) v.junk L)) := rfl
/-- and of one quantity's scales, -/
theorem readAt_sc0 (v : View sig κ sp S3x1x256 .f32) (f : v.ty.Contents (Elt F)) (inb) :
    v.readAt (Elt F) (Rect.unit (s := S3x1x256) ![0, 0, 0] ![1, 1, 256] inb).toLoadRect f = sc0 (v.read (Elt F) f) := rfl
theorem readAt_sc1 (v : View sig κ sp S3x1x256 .f32) (f : v.ty.Contents (Elt F)) (inb) :
    v.readAt (Elt F) (Rect.unit (s := S3x1x256) ![1, 0, 0] ![1, 1, 256] inb).toLoadRect f = sc1 (v.read (Elt F) f) := rfl
theorem readAt_sc2 (v : View sig κ sp S3x1x256 .f32) (f : v.ty.Contents (Elt F)) (inb) :
    v.readAt (Elt F) (Rect.unit (s := S3x1x256) ![2, 0, 0] ![1, 1, 256] inb).toLoadRect f = sc2 (v.read (Elt F) f) := rfl
theorem readCov_sc0 (v : View sig κ sp S3x1x256 .f32) (L : List (View.Piece (Elt F) S3x1x256 .f32)) (inb) :
    v.readCov L (Rect.unit (s := S3x1x256) ![0, 0, 0] ![1, 1, 256] inb).toLoadRect = sc0 (v.read (Elt F) (v.writes (Elt F) v.junk L)) := rfl
theorem readCov_sc1 (v : View sig κ sp S3x1x256 .f32) (L : List (View.Piece (Elt F) S3x1x256 .f32)) (inb) :
    v.readCov L (Rect.unit (s := S3x1x256) ![1, 0, 0] ![1, 1, 256] inb).toLoadRect = sc1 (v.read (Elt F) (v.writes (Elt F) v.junk L)) := rfl
theorem readCov_sc2 (v : View sig κ sp S3x1x256 .f32) (L : List (View.Piece (Elt F) S3x1x256 .f32)) (inb) :
    v.readCov L (Rect.unit (s := S3x1x256) ![2, 0, 0] ![1, 1, 256] inb).toLoadRect = sc2 (v.read (Elt F) (v.writes (Elt F) v.junk L)) := rfl
/-- and stores of all three, -/
theorem read_writes_mx (v : View sig κ sp S3x8x256 .f32) (f : v.ty.Contents (Elt F)) (a b d) (x y z : Vec F S1x8x256 .f32) (L) :
    v.read (Elt F) (v.writes (Elt F) f (⟨Rect.unit ![2, 0, 0] ![1, 8, 256] a, z⟩ :: ⟨Rect.unit ![1, 0, 0] ![1, 8, 256] b, y⟩
      :: ⟨Rect.unit ![0, 0, 0] ![1, 8, 256] d, x⟩ :: L)) = putM (v.read (Elt F) (v.writes (Elt F) f L)) x y z := by
  rw [View.read_writes_cons_put v f a z _ rfl, View.read_writes_cons_put v f b y _ rfl, View.read_writes_cons_put v f d x _ rfl]; rfl
theorem read_writes_sc (v : View sig κ sp S3x1x256 .f32) (f : v.ty.Contents (Elt F)) (a b d) (x y z : Vec F S1x1x256 .f32) (L) :
    v.read (Elt F) (v.writes (Elt F) f (⟨Rect.unit ![2, 0, 0] ![1, 1, 256] a, z⟩ :: ⟨Rect.unit ![1, 0, 0] ![1, 1, 256] b, y⟩
      :: ⟨Rect.unit ![0, 0, 0] ![1, 1, 256] d, x⟩ :: L)) = putS (v.read (Elt F) (v.writes (Elt F) f L)) x y z := by
  rw [View.read_writes_cons_put v f a z _ rfl, View.read_writes_cons_put v f b y _ rfl, View.read_writes_cons_put v f d x _ rfl]; rfl

/-- and loads of whole buffers. -/
theorem readAt_whole {n : ℕ} {size : Fin n → ℕ} {e : EltTy} (v : View sig κ sp ⟨n, size⟩ e) (f : v.ty.Contents (Elt F)) {off : Fin n → ℕ} (inb) :
    v.readAt (Elt F) (Rect.unit (s := ⟨n, size⟩) off size inb).toLoadRect f = v.read (Elt F) f := View.readAt_full v f inb
theorem readCov_whole {n : ℕ} {size : Fin n → ℕ} {e : EltTy} (v : View sig κ sp ⟨n, size⟩ e) (L : List (View.Piece (Elt F) ⟨n, size⟩ e)) {off : Fin n → ℕ} (inb) :
    v.readCov L (Rect.unit (s := ⟨n, size⟩) off size inb).toLoadRect = v.read (Elt F) (v.writes (Elt F) v.junk L) := View.readAt_full v _ inb
/-- A store of a whole buffer. -/
theorem read_writes_whole {n : ℕ} {size : Fin n → ℕ} {e : EltTy} (v : View sig κ sp ⟨n, size⟩ e) (f : v.ty.Contents (Elt F)) {off : Fin n → ℕ} (inb)
    (w : Shape.Idx ⟨n, size⟩ → Elt F e) (L) :
    v.read (Elt F) (v.writes (Elt F) f (⟨Rect.unit (s := ⟨n, size⟩) off size inb, w⟩ :: L)) = w := View.read_writes_full v f inb w L

/-- The maxima of one quantity are not touched by a store of another. -/
theorem mx1_skip0 (v : View sig κ sp S3x8x256 .f32) (f : v.ty.Contents (Elt F)) (inb) (x : Vec F S1x8x256 .f32) (L) :
    mx1 (v.read (Elt F) (v.writes (Elt F) f (⟨Rect.unit ![0, 0, 0] ![1, 8, 256] inb, x⟩ :: L))) = mx1 (v.read (Elt F) (v.writes (Elt F) f L)) := by
  rw [View.read_writes_cons_put v f inb x L rfl]
  exact VecWindow.window_put_of_disjoint _ _ _ _ _ _ _ 0 (by decide)
theorem mx2_skip0 (v : View sig κ sp S3x8x256 .f32) (f : v.ty.Contents (Elt F)) (inb) (x : Vec F S1x8x256 .f32) (L) :
    mx2 (v.read (Elt F) (v.writes (Elt F) f (⟨Rect.unit ![0, 0, 0] ![1, 8, 256] inb, x⟩ :: L))) = mx2 (v.read (Elt F) (v.writes (Elt F) f L)) := by
  rw [View.read_writes_cons_put v f inb x L rfl]
  exact VecWindow.window_put_of_disjoint _ _ _ _ _ _ _ 0 (by decide)
theorem mx2_skip1 (v : View sig κ sp S3x8x256 .f32) (f : v.ty.Contents (Elt F)) (inb) (x : Vec F S1x8x256 .f32) (L) :
    mx2 (v.read (Elt F) (v.writes (Elt F) f (⟨Rect.unit ![1, 0, 0] ![1, 8, 256] inb, x⟩ :: L))) = mx2 (v.read (Elt F) (v.writes (Elt F) f L)) := by
  rw [View.read_writes_cons_put v f inb x L rfl]
  exact VecWindow.window_put_of_disjoint _ _ _ _ _ _ _ 0 (by decide)
/-- The scales after a store of all three. -/
theorem sc2_putS (S : Vec F S3x1x256 .f32) (x y z : Vec F S1x1x256 .f32) : sc2 (putS S x y z) = z := VecWindow.window_put_same _ _ _ _ _
theorem sc1_putS (S : Vec F S3x1x256 .f32) (x y z : Vec F S1x1x256 .f32) : sc1 (putS S x y z) = y :=
  (VecWindow.window_put_of_disjoint _ _ _ _ _ _ _ 0 (by decide)).trans (VecWindow.window_put_same _ _ _ _ _)
theorem sc0_putS (S : Vec F S3x1x256 .f32) (x y z : Vec F S1x1x256 .f32) : sc0 (putS S x y z) = x :=
  (VecWindow.window_put_of_disjoint _ _ _ _ _ _ _ 0 (by decide)).trans
    ((VecWindow.window_put_of_disjoint _ _ _ _ _ _ _ 0 (by decide)).trans (VecWindow.window_put_same _ _ _ _ _))

end Reads

/-- What the body does to the state at a point, by the combination of its conditions that holds there. -/
def Steps (i : grid0.Coords) (X : Ins F) (S S' : St F) : Prop :=
  (S' = main i X (roll (init S)) ∧ cond1 i ∧ k0_cond2 i = 1#1 ∧ k0_cond3 i = 1#1 ∧ ¬k0_cond4 i = 1#1)
  ∨ (S' = main i X S ∧ ¬cond1 i ∧ ¬k0_cond2 i = 1#1 ∧ k0_cond3 i = 1#1 ∧ ¬k0_cond4 i = 1#1)
  ∨ (S' = main i X (roll S) ∧ ¬cond1 i ∧ k0_cond2 i = 1#1 ∧ k0_cond3 i = 1#1 ∧ ¬k0_cond4 i = 1#1)
  ∨ (S' = tail i (roll S) ∧ ¬cond1 i ∧ k0_cond2 i = 1#1 ∧ ¬k0_cond3 i = 1#1 ∧ k0_cond4 i = 1#1)
  ∨ (S' = tail i S ∧ ¬cond1 i ∧ ¬k0_cond2 i = 1#1 ∧ ¬k0_cond3 i = 1#1 ∧ k0_cond4 i = 1#1)

set_option maxHeartbeats 16000000 in
/-- The body at a point leaves its buffers as the pure step says. -/
theorem body_step (c : Dev nD) (i : grid0.Coords) (M : Mems)
    (X : Ins F) (S S' : St F) (hc : Steps i X S S') (E : Set ℕ) (K : PUnit → sProp (MT nD τ sig Unit (Elt F) ℕ (UR sig nD τ) ℕ)) :
    iprop(own c M X S ∗ (own c M X S' -∗ K ⟨⟩)) ⊢ wp frame (wpE (defs₀ (F := F)) Variants.none c none) E (bodyOn i M) K := by
  simp only [bodyOn, cc0_ffn_eq_skeleton]; unfold cc0_ffn_skel
  simp only [k0_part1_eq_skeleton, k0_part2_eq_skeleton, k0_part3_eq_skeleton, k0_part4_eq_skeleton, k0_part5_eq_skeleton]
  unfold own owns
  rcases hc with ⟨hs, hc0, hc1, hc2, hc3⟩ | ⟨hs, hc0, hc1, hc2, hc3⟩ | ⟨hs, hc0, hc1, hc2, hc3⟩ | ⟨hs, hc0, hc1, hc2, hc3⟩ | ⟨hs, hc0, hc1, hc2, hc3⟩
  all_goals
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, Hk⟩
    sl_exec (disch := first | sl_exact hc0 | sl_exact hc1 | sl_exact hc2 | sl_exact hc3)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]; · iexists _; isplitr; swap; (· iexact H5); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H6]; · iexists _; isplitr; swap; (· iexact H6); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H7]; · iexists _; isplitr; swap; (· iexact H7); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H8]; · iexists _; isplitr; swap; (· iexact H8); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H9]; · iexists _; isplitr; swap; (· iexact H9); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H10]; · iexists _; isplitr; swap; (· iexact H10); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H11]; · iexists _; isplitr; swap; (· iexact H11); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H12]; · iexists _; isplitr; swap; (· iexact H12); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H13]; · iexists _; isplitr; swap; (· iexact H13); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H14]; · iexists _; isplitr; swap; (· iexact H14); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H15]; · iexists _; isplitr; swap; (· iexact H15); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H16]; · iexists _; isplitr; swap; (· iexact H16); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H17]; · iexists _; isplitr; swap; (· iexact H17); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    isplitl [H18]; · iexists _; isplitr; swap; (· iexact H18); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])
    iexists _; isplitr; swap; (· iexact H19); ipureintro; (sl_unfold_words; simp only [hs, main, roll, init, tail, readAt_whole, readAt_rows1, readAt_rows2, read_writes_rows1, read_writes_rows2, mx1_skip0, mx2_skip0, mx2_skip1, sc0_putS, sc1_putS, sc2_putS, readAt_mx0, readAt_mx1, readAt_mx2, readCov_mx0, readCov_mx1, readCov_mx2, readAt_sc0, readAt_sc1, readAt_sc2, readCov_sc0, readCov_sc1, readCov_sc2, read_writes_mx, read_writes_sc, View.writes_nil, readCov_whole, read_writes_whole, hf0, hf1, hf2, hf3, hf4, hf5, hf6, hf7, hf8, hf9, hf10, hf11, hf12, hf13, hf14, hf15, hf16, hf17, hf18, hf19])

end Cert.Ffn.Hand

end
-- ==== Proof.FfnBitsTraj.lean ====
/-
  The feed-forward call point by point: which step of `FfnBitsStep` each grid point takes, the contents its buffers hold
  after every point, and the pipeline's proof data built from them.
-/
module

public import proofs.«01_k».proof.Proof.FfnBitsBody
public import proofs.«01_k».proof.Proof.Gen.Ffn.Frame
public import Idealize.ShloMosaic.Lib.Pipeline.TableIdle
public import Idealize.ShloMosaic.Lib.WordCmp

@[expose] public section

set_option maxRecDepth 16384

noncomputable section

namespace Cert.Ffn.Hand

open Cert.Ffn Cert.Ffn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The conditions, in the point's number -/

theorem lt_528 (t : Fin cfg0.N) : t.val < 528 := Nat.lt_of_lt_of_eq t.isLt N_0

theorem cond1_iff (t : Fin cfg0.N) : cond1 (grid0.coords t) ↔ t.val = 0 := by
  have ht := lt_528 t
  have e0 : (grid0.coords t 0).val = t.val / 12 % 44 := Pipeline.Grid.coords_val t 0 (by decide) rfl
  have e1 : (grid0.coords t 1).val = t.val / 1 % 12 := Pipeline.Grid.coords_val t 1 (by decide) rfl
  simp only [cond1, e0, e1]; word_cmp
theorem cond2_iff (t : Fin cfg0.N) : k0_cond2 (grid0.coords t) = 1#1 ↔ t.val % 12 = 0 := by
  have ht := lt_528 t
  have e0 : (grid0.coords t 0).val = t.val / 12 % 44 := Pipeline.Grid.coords_val t 0 (by decide) rfl
  have e1 : (grid0.coords t 1).val = t.val / 1 % 12 := Pipeline.Grid.coords_val t 1 (by decide) rfl
  simp only [k0_cond2, e0, e1]; word_cmp
theorem cond3_iff : ∀ t : Fin cfg0.N, k0_cond3 (grid0.coords t) = 1#1 ↔ t.val < 516 := by decide +kernel
theorem cond4_iff (t : Fin cfg0.N) : k0_cond4 (grid0.coords t) = 1#1 ↔ 516 ≤ t.val := by
  have ht := lt_528 t
  have e0 : (grid0.coords t 0).val = t.val / 12 % 44 := Pipeline.Grid.coords_val t 0 (by decide) rfl
  have e1 : (grid0.coords t 1).val = t.val / 1 % 12 := Pipeline.Grid.coords_val t 1 (by decide) rfl
  simp only [k0_cond4, e0, e1]; word_cmp

/-! ## Where a window is idle, and where its buffer keeps what was stored -/

theorem idle_5 : ∀ t : Fin cfg0.N, cfg0.idle 5 (grid0.coords t) = true → 516 ≤ t.val := by decide +kernel
theorem idle_6 : ∀ t : Fin cfg0.N, cfg0.idle 6 (grid0.coords t) = true → 516 ≤ t.val := by decide +kernel
theorem idle_7 : ∀ t : Fin cfg0.N, cfg0.idle 7 (grid0.coords t) = true → 516 ≤ t.val := by decide +kernel
theorem idle_8 : ∀ t : Fin cfg0.N, cfg0.idle 8 (grid0.coords t) = false := by decide +kernel
theorem idle_9 : ∀ t : Fin cfg0.N, cfg0.idle 9 (grid0.coords t) = false := by decide +kernel
theorem idle_10 : ∀ t : Fin cfg0.N, cfg0.idle 10 (grid0.coords t) = false := by decide +kernel
theorem idle_11 : ∀ t : Fin cfg0.N, cfg0.idle 11 (grid0.coords t) = false := by decide +kernel
theorem idle_12 : ∀ t : Fin cfg0.N, cfg0.idle 12 (grid0.coords t) = true → t.val % 12 ≠ 0 := by decide +kernel
theorem idle_13 : ∀ t : Fin cfg0.N, cfg0.idle 13 (grid0.coords t) = true → t.val % 12 ≠ 0 := by decide +kernel
theorem idle_14 : ∀ t : Fin cfg0.N, cfg0.idle 14 (grid0.coords t) = true → t.val % 12 ≠ 0 := by decide +kernel

/-- Whether the buffers of the first three outputs are fresh, position by position, as a bit mask, -/
def freshA : ℕ → Bool
  | 0 => true
  | n + 1 => (0x8007ffffffffffffffffffffffffffffffffffffffffffffffffffffffffffffffffffffffffffffffffffffffffffffffffffffffffffffffffffffffffffffffff : ℕ).testBit n
/-- and those of the three scale outputs. -/
def freshB : ℕ → Bool
  | 0 => true
  | n + 1 => (0x800800800800800800800800800800800800800800800800800800800800800800800800800800800800800800800800800800800800800800800800800800800000 : ℕ).testBit n
theorem fresh_5_step : ∀ t : Fin cfg0.N,
    freshA (t.val + 1) = ((cfg0.win 5).flush t || (cfg0.idle 5 (cfg0.grid.coords t) && freshA t.val)) := by decide +kernel
theorem fresh_5_eq (t : Fin cfg0.N) : cfg0.fresh 5 t.val = freshA t.val :=
  Pipeline.Cfg.fresh_tab cfg0 5 freshA rfl fresh_5_step t.val (Nat.le_of_lt t.isLt)
theorem fresh_6_step : ∀ t : Fin cfg0.N,
    freshA (t.val + 1) = ((cfg0.win 6).flush t || (cfg0.idle 6 (cfg0.grid.coords t) && freshA t.val)) := by decide +kernel
theorem fresh_6_eq (t : Fin cfg0.N) : cfg0.fresh 6 t.val = freshA t.val :=
  Pipeline.Cfg.fresh_tab cfg0 6 freshA rfl fresh_6_step t.val (Nat.le_of_lt t.isLt)
theorem fresh_7_step : ∀ t : Fin cfg0.N,
    freshA (t.val + 1) = ((cfg0.win 7).flush t || (cfg0.idle 7 (cfg0.grid.coords t) && freshA t.val)) := by decide +kernel
theorem fresh_7_eq (t : Fin cfg0.N) : cfg0.fresh 7 t.val = freshA t.val :=
  Pipeline.Cfg.fresh_tab cfg0 7 freshA rfl fresh_7_step t.val (Nat.le_of_lt t.isLt)
theorem fresh_12_step : ∀ t : Fin cfg0.N,
    freshB (t.val + 1) = ((cfg0.win 12).flush t || (cfg0.idle 12 (cfg0.grid.coords t) && freshB t.val)) := by decide +kernel
theorem fresh_12_eq (t : Fin cfg0.N) : cfg0.fresh 12 t.val = freshB t.val :=
  Pipeline.Cfg.fresh_tab cfg0 12 freshB rfl fresh_12_step t.val (Nat.le_of_lt t.isLt)
theorem fresh_13_step : ∀ t : Fin cfg0.N,
    freshB (t.val + 1) = ((cfg0.win 13).flush t || (cfg0.idle 13 (cfg0.grid.coords t) && freshB t.val)) := by decide +kernel
theorem fresh_13_eq (t : Fin cfg0.N) : cfg0.fresh 13 t.val = freshB t.val :=
  Pipeline.Cfg.fresh_tab cfg0 13 freshB rfl fresh_13_step t.val (Nat.le_of_lt t.isLt)
theorem fresh_14_step : ∀ t : Fin cfg0.N,
    freshB (t.val + 1) = ((cfg0.win 14).flush t || (cfg0.idle 14 (cfg0.grid.coords t) && freshB t.val)) := by decide +kernel
theorem fresh_14_eq (t : Fin cfg0.N) : cfg0.fresh 14 t.val = freshB t.val :=
  Pipeline.Cfg.fresh_tab cfg0 14 freshB rfl fresh_14_step t.val (Nat.le_of_lt t.isLt)
theorem freshA_not : ∀ t : Fin cfg0.N, 516 ≤ t.val → freshA t.val = false := by decide +kernel
theorem freshB_not : ∀ t : Fin cfg0.N, t.val % 12 ≠ 0 → freshB t.val = false := by decide +kernel

/-! ## The step of each point -/

open Classical in
/-- What the body does to its buffers at point `t`. -/
def step (t : Fin cfg0.N) (X : Ins F) (S : St F) : St F :=
  if t.val = 0 then main (grid0.coords t) X (roll (init S))
  else if t.val < 516 then (if t.val % 12 = 0 then main (grid0.coords t) X (roll S) else main (grid0.coords t) X S)
  else if t.val % 12 = 0 then tail (grid0.coords t) (roll S) else tail (grid0.coords t) S

theorem steps_step (t : Fin cfg0.N) (X : Ins F) (S : St F) : Steps (grid0.coords t) X S (step t X S) := by
  unfold Steps step
  rw [cond1_iff, cond2_iff, cond3_iff, cond4_iff]
  have ht := lt_528 t
  by_cases h0 : t.val = 0
  · rw [if_pos h0]; exact Or.inl ⟨rfl, h0, by omega, by omega, by omega⟩
  rw [if_neg h0]
  by_cases h1 : t.val < 516
  · rw [if_pos h1]
    by_cases h2 : t.val % 12 = 0
    · rw [if_pos h2]; exact Or.inr (Or.inr (Or.inl ⟨rfl, h0, h2, h1, by omega⟩))
    · rw [if_neg h2]; exact Or.inr (Or.inl ⟨rfl, h0, h2, h1, by omega⟩)
  · rw [if_neg h1]
    by_cases h2 : t.val % 12 = 0
    · rw [if_pos h2]; exact Or.inr (Or.inr (Or.inr (Or.inl ⟨rfl, h0, h2, h1, by omega⟩)))
    · rw [if_neg h2]; exact Or.inr (Or.inr (Or.inr (Or.inr ⟨rfl, h0, h2, h1, by omega⟩)))

/-- The three scales together do not depend on what was there. -/
theorem putS_indep (a b : Vec F S3x1x256 .f32) (u v w : Vec F S1x1x256 .f32) : putS a u v w = putS b u v w := by
  funext y
  have h0 : (y 0).val < 3 := (y 0).isLt
  have h1 : (y 1).val < 1 := (y 1).isLt
  have h2 : (y 2).val < 256 := (y 2).isLt
  unfold putS VecWindow.put
  by_cases e2 : ∀ a, (![2, 0, 0] : Fin 3 → ℕ) a ≤ (y a).val ∧ (y a).val < (![2, 0, 0] : Fin 3 → ℕ) a + S1x1x256.size a
  · rw [dif_pos e2, dif_pos e2]
  rw [dif_neg e2, dif_neg e2]
  by_cases e1 : ∀ a, (![1, 0, 0] : Fin 3 → ℕ) a ≤ (y a).val ∧ (y a).val < (![1, 0, 0] : Fin 3 → ℕ) a + S1x1x256.size a
  · rw [dif_pos e1, dif_pos e1]
  rw [dif_neg e1, dif_neg e1]
  by_cases e0 : ∀ a, (![0, 0, 0] : Fin 3 → ℕ) a ≤ (y a).val ∧ (y a).val < (![0, 0, 0] : Fin 3 → ℕ) a + S1x1x256.size a
  · rw [dif_pos e0, dif_pos e0]
  exfalso
  have k : (y 0).val = 0 ∨ (y 0).val = 1 ∨ (y 0).val = 2 := by omega
  rcases k with k | k | k
  · refine e0 fun a => ?_
    match a with
    | ⟨0, _⟩ => show 0 ≤ (y 0).val ∧ (y 0).val < 0 + 1; omega
    | ⟨1, _⟩ => show 0 ≤ (y 1).val ∧ (y 1).val < 0 + 1; omega
    | ⟨2, _⟩ => show 0 ≤ (y 2).val ∧ (y 2).val < 0 + 256; omega
  · refine e1 fun a => ?_
    match a with
    | ⟨0, _⟩ => show 1 ≤ (y 0).val ∧ (y 0).val < 1 + 1; omega
    | ⟨1, _⟩ => show 0 ≤ (y 1).val ∧ (y 1).val < 0 + 1; omega
    | ⟨2, _⟩ => show 0 ≤ (y 2).val ∧ (y 2).val < 0 + 256; omega
  · refine e2 fun a => ?_
    match a with
    | ⟨0, _⟩ => show 2 ≤ (y 0).val ∧ (y 0).val < 2 + 1; omega
    | ⟨1, _⟩ => show 0 ≤ (y 1).val ∧ (y 1).val < 0 + 1; omega
    | ⟨2, _⟩ => show 0 ≤ (y 2).val ∧ (y 2).val < 0 + 256; omega

/-- The first point's result does not depend on what the buffers held. -/
theorem step_first (t : Fin cfg0.N) (h : t.val = 0) (X : Ins F) (S P : St F) : step t X S = step t X P := by
  unfold step
  rw [if_pos h, if_pos h]
  have e : ∀ u v w, putS S.s4 u v w = putS P.s4 u v w := fun u v w => putS_indep _ _ u v w
  simp only [main, roll, init, e]

/-- A later point's result depends on the scratch buffers, and on the outputs it does not store. -/
theorem step_later (t : Fin cfg0.N) (h : t.val ≠ 0) (X : Ins F) (S P : St F)
    (h0 : S.s0 = P.s0) (h1 : S.s1 = P.s1) (h2 : S.s2 = P.s2) (h3 : S.s3 = P.s3) (h4 : S.s4 = P.s4)
    (ha : 516 ≤ t.val → S.o5 = P.o5 ∧ S.o6 = P.o6 ∧ S.o7 = P.o7)
    (hb : t.val % 12 ≠ 0 → S.o12 = P.o12 ∧ S.o13 = P.o13 ∧ S.o14 = P.o14) : step t X S = step t X P := by
  unfold step
  rw [if_neg h, if_neg h]
  by_cases g : t.val < 516
  · rw [if_pos g, if_pos g]
    by_cases k : t.val % 12 = 0
    · rw [if_pos k, if_pos k]; simp only [main, roll, h0, h1, h2, h3, h4]
    · obtain ⟨k1, k2, k3⟩ := hb k
      rw [if_neg k, if_neg k]; simp only [main, h0, h1, h2, h3, h4, k1, k2, k3]
  · obtain ⟨g1, g2, g3⟩ := ha (by omega)
    rw [if_neg g, if_neg g]
    by_cases k : t.val % 12 = 0
    · rw [if_pos k, if_pos k]; simp only [tail, roll, h0, h1, h2, h3, h4, g1, g2, g3]
    · obtain ⟨k1, k2, k3⟩ := hb k
      rw [if_neg k, if_neg k]; simp only [tail, h0, h1, h2, h3, h4, k1, k2, k3, g1, g2, g3]

/-- After the last block of columns the first three outputs stay, -/
theorem step_keepA (t : Fin cfg0.N) (h : 516 ≤ t.val) (X : Ins F) (S : St F) :
    (step t X S).o5 = S.o5 ∧ (step t X S).o6 = S.o6 ∧ (step t X S).o7 = S.o7 := by
  unfold step
  rw [if_neg (by omega), if_neg (by omega)]
  by_cases k : t.val % 12 = 0
  · rw [if_pos k]; exact ⟨rfl, rfl, rfl⟩
  · rw [if_neg k]; exact ⟨rfl, rfl, rfl⟩

/-- and within a block of columns the scales. -/
theorem step_keepB (t : Fin cfg0.N) (h : t.val % 12 ≠ 0) (X : Ins F) (S : St F) :
    (step t X S).o12 = S.o12 ∧ (step t X S).o13 = S.o13 ∧ (step t X S).o14 = S.o14 := by
  unfold step
  rw [if_neg (by omega)]
  by_cases k : t.val < 516
  · rw [if_pos k, if_neg h]; exact ⟨rfl, rfl, rfl⟩
  · rw [if_neg k, if_neg h]; exact ⟨rfl, rfl, rfl⟩

/-! ## The contents after every point -/

/-- Some contents. -/
def anySt : St F :=
  ⟨fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default, fun _ => (Elt.inhabited F _).default⟩

variable (m : (ℓ : Loc nD τ sig) → Buf (Elt F) ℓ) (ρ : Dev nD → PrngReg)

/-- The input blocks of a point. -/
def insAt (c : Dev nD) (t : Fin cfg0.N) : Ins F := ⟨iblk m c 0 t, iblk m c 1 t, iblk m c 2 t, iblk m c 3 t, iblk m c 4 t⟩

/-- The contents after point `n`. -/
def stAt (c : Dev nD) : (n : ℕ) → n < cfg0.N → St F
  | 0, h => step ⟨0, h⟩ (insAt m c ⟨0, h⟩) anySt
  | n + 1, h => step ⟨n + 1, h⟩ (insAt m c ⟨n + 1, h⟩) (stAt c n (Nat.lt_of_succ_lt h))

theorem stAt_first (c : Dev nD) (t : Fin cfg0.N) (h : t.val = 0) : stAt m c t.val t.isLt = step t (insAt m c t) anySt := by
  obtain ⟨n, hn⟩ := t
  cases n with
  | zero => rfl
  | succ n => exact absurd h (Nat.succ_ne_zero n)

theorem stAt_later (c : Dev nD) (t : Fin cfg0.N) (h : t.val ≠ 0) :
    stAt m c t.val t.isLt = step t (insAt m c t) (stAt m c (t.val - 1) (by omega)) := by
  obtain ⟨n, hn⟩ := t
  cases n with
  | zero => exact absurd rfl h
  | succ n => rfl

/-! ## The pipeline's proof data -/

abbrev scM_0 : Memref sig .tc .vmem S6144x256 .f32 := Memref.whole cc0_scratch0
abbrev scM_1 : Memref sig .tc .vmem S6144x256 .f32 := Memref.whole cc0_scratch1
abbrev scM_2 : Memref sig .tc .vmem S6144x256 .f32 := Memref.whole cc0_scratch2
abbrev scM_3 : Memref sig .tc .vmem S3x8x256 .f32 := Memref.whole cc0_scratch3
abbrev scM_4 : Memref sig .tc .vmem S3x1x256 .f32 := Memref.whole cc0_scratch4

/-- The scratch buffers at given contents. -/
def scr (c : Dev nD) (S : St F) : sProp (MT nD τ sig Unit (Elt F) ℕ (UR sig nD τ) ℕ) :=
  iprop(owns (c : Thread nD τ) scM_0 fullShare (S).s0 ∗ owns (c : Thread nD τ) scM_1 fullShare (S).s1 ∗ owns (c : Thread nD τ) scM_2 fullShare (S).s2 ∗ owns (c : Thread nD τ) scM_3 fullShare (S).s3 ∗ owns (c : Thread nD τ) scM_4 fullShare (S).s4)

/-- What the pipeline keeps between points: the scratch buffers as the point before left them. -/
def PhiS (c : Dev nD) : (n : ℕ) → n ≤ cfg0.N → sProp (MT nD τ sig Unit (Elt F) ℕ (UR sig nD τ) ℕ)
  | 0, _ => Pipeline.ΦA spec0 c
  | n + 1, hn => iprop(scr c (stAt m c n hn) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(scr c (stAt m c n hn) ∗ (∃ r, prngReg c r)) := rfl
theorem PhiS_pos (c : Dev nD) (n : ℕ) (h : n ≤ cfg0.N) (hz : n ≠ 0) :
    PhiS m c n h = iprop(scr c (stAt m c (n - 1) (by omega)) ∗ (∃ r, prngReg c r)) := by
  cases n with
  | zero => exact absurd rfl hz
  | succ n => rfl

theorem PhiA_eq (c : Dev nD) :
    (Pipeline.ΦA spec0 c : sProp (MT nD τ sig Unit (Elt F) ℕ (UR sig nD τ) ℕ))
      = iprop(iprop((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d) ∗ (∃ d, owns (c : Thread nD τ) scM_4 fullShare d)) ∗ (∃ r, prngReg c r)) := by
  unfold Pipeline.ΦA; rw [scopedRest0_eq]; simp only [scM_0, scM_1, scM_2, scM_3, scM_4, owns_whole]; try rfl

/-- The proof data: each input's block, each output's contents after the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stAt m c t.val t.isLt).o5
    | ⟨6, _⟩ => (stAt m c t.val t.isLt).o6
    | ⟨7, _⟩ => (stAt m c t.val t.isLt).o7
    | ⟨8, _⟩ => (stAt m c t.val t.isLt).o8
    | ⟨9, _⟩ => (stAt m c t.val t.isLt).o9
    | ⟨10, _⟩ => (stAt m c t.val t.isLt).o10
    | ⟨11, _⟩ => (stAt m c t.val t.isLt).o11
    | ⟨12, _⟩ => (stAt m c t.val t.isLt).o12
    | ⟨13, _⟩ => (stAt m c t.val t.isLt).o13
    | ⟨14, _⟩ => (stAt m c t.val t.isLt).o14
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (stAt m c t.val t.isLt).o5 := by dsimp only [dats]
theorem after_6 (c : Dev nD) (t : Fin cfg0.N) : (dats m 0 c).after 6 t = (stAt m c t.val t.isLt).o6 := by dsimp only [dats]
theorem after_7 (c : Dev nD) (t : Fin cfg0.N) : (dats m 0 c).after 7 t = (stAt m c t.val t.isLt).o7 := by dsimp only [dats]
theorem after_8 (c : Dev nD) (t : Fin cfg0.N) : (dats m 0 c).after 8 t = (stAt m c t.val t.isLt).o8 := by dsimp only [dats]
theorem after_9 (c : Dev nD) (t : Fin cfg0.N) : (dats m 0 c).after 9 t = (stAt m c t.val t.isLt).o9 := by dsimp only [dats]
theorem after_10 (c : Dev nD) (t : Fin cfg0.N) : (dats m 0 c).after 10 t = (stAt m c t.val t.isLt).o10 := by dsimp only [dats]
theorem after_11 (c : Dev nD) (t : Fin cfg0.N) : (dats m 0 c).after 11 t = (stAt m c t.val t.isLt).o11 := by dsimp only [dats]
theorem after_12 (c : Dev nD) (t : Fin cfg0.N) : (dats m 0 c).after 12 t = (stAt m c t.val t.isLt).o12 := by dsimp only [dats]
theorem after_13 (c : Dev nD) (t : Fin cfg0.N) : (dats m 0 c).after 13 t = (stAt m c t.val t.isLt).o13 := by dsimp only [dats]
theorem after_14 (c : Dev nD) (t : Fin cfg0.N) : (dats m 0 c).after 14 t = (stAt m c t.val t.isLt).o14 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem keep_5 (c : Dev nD) (t : Fin cfg0.N) (h : t.val ≠ 0) (hk : 516 ≤ t.val) :
    (stAt m c t.val t.isLt).o5 = (stAt m c (t.val - 1) (by omega)).o5 := by
  rw [stAt_later m c t h]; exact (step_keepA t hk _ _).1
theorem before_5 (c : Dev nD) (t : Fin cfg0.N) (h : t.val ≠ 0) (hk : 516 ≤ t.val) (d) :
    (dats m 0 c).before 5 t d = (stAt m c (t.val - 1) (by omega)).o5 := by
  have hc : ∀ s : Fin cfg0.N, s.val ≠ 0 → cfg0.idle 5 (cfg0.grid.coords s) = true → cfg0.fresh 5 s.val = false →
      (dats m 0 c).after 5 s = (dats m 0 c).after 5 ⟨s.val - 1, by omega⟩ := fun s hs hi _ => by
    rw [after_5, after_5]; exact keep_5 m c s hs (idle_5 s hi)
  rw [Dat.before_out_traj _ 5 rfl (fun _ _ => rfl) hc t.val t rfl d, if_neg (by rw [fresh_5_eq, freshA_not t hk]; exact Bool.false_ne_true), after_5]

theorem keep_6 (c : Dev nD) (t : Fin cfg0.N) (h : t.val ≠ 0) (hk : 516 ≤ t.val) :
    (stAt m c t.val t.isLt).o6 = (stAt m c (t.val - 1) (by omega)).o6 := by
  rw [stAt_later m c t h]; exact (step_keepA t hk _ _).2.1
theorem before_6 (c : Dev nD) (t : Fin cfg0.N) (h : t.val ≠ 0) (hk : 516 ≤ t.val) (d) :
    (dats m 0 c).before 6 t d = (stAt m c (t.val - 1) (by omega)).o6 := by
  have hc : ∀ s : Fin cfg0.N, s.val ≠ 0 → cfg0.idle 6 (cfg0.grid.coords s) = true → cfg0.fresh 6 s.val = false →
      (dats m 0 c).after 6 s = (dats m 0 c).after 6 ⟨s.val - 1, by omega⟩ := fun s hs hi _ => by
    rw [after_6, after_6]; exact keep_6 m c s hs (idle_6 s hi)
  rw [Dat.before_out_traj _ 6 rfl (fun _ _ => rfl) hc t.val t rfl d, if_neg (by rw [fresh_6_eq, freshA_not t hk]; exact Bool.false_ne_true), after_6]

theorem keep_7 (c : Dev nD) (t : Fin cfg0.N) (h : t.val ≠ 0) (hk : 516 ≤ t.val) :
    (stAt m c t.val t.isLt).o7 = (stAt m c (t.val - 1) (by omega)).o7 := by
  rw [stAt_later m c t h]; exact (step_keepA t hk _ _).2.2
theorem before_7 (c : Dev nD) (t : Fin cfg0.N) (h : t.val ≠ 0) (hk : 516 ≤ t.val) (d) :
    (dats m 0 c).before 7 t d = (stAt m c (t.val - 1) (by omega)).o7 := by
  have hc : ∀ s : Fin cfg0.N, s.val ≠ 0 → cfg0.idle 7 (cfg0.grid.coords s) = true → cfg0.fresh 7 s.val = false →
      (dats m 0 c).after 7 s = (dats m 0 c).after 7 ⟨s.val - 1, by omega⟩ := fun s hs hi _ => by
    rw [after_7, after_7]; exact keep_7 m c s hs (idle_7 s hi)
  rw [Dat.before_out_traj _ 7 rfl (fun _ _ => rfl) hc t.val t rfl d, if_neg (by rw [fresh_7_eq, freshA_not t hk]; exact Bool.false_ne_true), after_7]

theorem keep_12 (c : Dev nD) (t : Fin cfg0.N) (h : t.val ≠ 0) (hk : t.val % 12 ≠ 0) :
    (stAt m c t.val t.isLt).o12 = (stAt m c (t.val - 1) (by omega)).o12 := by
  rw [stAt_later m c t h]; exact (step_keepB t hk _ _).1
theorem before_12 (c : Dev nD) (t : Fin cfg0.N) (h : t.val ≠ 0) (hk : t.val % 12 ≠ 0) (d) :
    (dats m 0 c).before 12 t d = (stAt m c (t.val - 1) (by omega)).o12 := by
  have hc : ∀ s : Fin cfg0.N, s.val ≠ 0 → cfg0.idle 12 (cfg0.grid.coords s) = true → cfg0.fresh 12 s.val = false →
      (dats m 0 c).after 12 s = (dats m 0 c).after 12 ⟨s.val - 1, by omega⟩ := fun s hs hi _ => by
    rw [after_12, after_12]; exact keep_12 m c s hs (idle_12 s hi)
  rw [Dat.before_out_traj _ 12 rfl (fun _ _ => rfl) hc t.val t rfl d, if_neg (by rw [fresh_12_eq, freshB_not t hk]; exact Bool.false_ne_true), after_12]

theorem keep_13 (c : Dev nD) (t : Fin cfg0.N) (h : t.val ≠ 0) (hk : t.val % 12 ≠ 0) :
    (stAt m c t.val t.isLt).o13 = (stAt m c (t.val - 1) (by omega)).o13 := by
  rw [stAt_later m c t h]; exact (step_keepB t hk _ _).2.1
theorem before_13 (c : Dev nD) (t : Fin cfg0.N) (h : t.val ≠ 0) (hk : t.val % 12 ≠ 0) (d) :
    (dats m 0 c).before 13 t d = (stAt m c (t.val - 1) (by omega)).o13 := by
  have hc : ∀ s : Fin cfg0.N, s.val ≠ 0 → cfg0.idle 13 (cfg0.grid.coords s) = true → cfg0.fresh 13 s.val = false →
      (dats m 0 c).after 13 s = (dats m 0 c).after 13 ⟨s.val - 1, by omega⟩ := fun s hs hi _ => by
    rw [after_13, after_13]; exact keep_13 m c s hs (idle_13 s hi)
  rw [Dat.before_out_traj _ 13 rfl (fun _ _ => rfl) hc t.val t rfl d, if_neg (by rw [fresh_13_eq, freshB_not t hk]; exact Bool.false_ne_true), after_13]

theorem keep_14 (c : Dev nD) (t : Fin cfg0.N) (h : t.val ≠ 0) (hk : t.val % 12 ≠ 0) :
    (stAt m c t.val t.isLt).o14 = (stAt m c (t.val - 1) (by omega)).o14 := by
  rw [stAt_later m c t h]; exact (step_keepB t hk _ _).2.2
theorem before_14 (c : Dev nD) (t : Fin cfg0.N) (h : t.val ≠ 0) (hk : t.val % 12 ≠ 0) (d) :
    (dats m 0 c).before 14 t d = (stAt m c (t.val - 1) (by omega)).o14 := by
  have hc : ∀ s : Fin cfg0.N, s.val ≠ 0 → cfg0.idle 14 (cfg0.grid.coords s) = true → cfg0.fresh 14 s.val = false →
      (dats m 0 c).after 14 s = (dats m 0 c).after 14 ⟨s.val - 1, by omega⟩ := fun s hs hi _ => by
    rw [after_14, after_14]; exact keep_14 m c s hs (idle_14 s hi)
  rw [Dat.before_out_traj _ 14 rfl (fun _ _ => rfl) hc t.val t rfl d, if_neg (by rw [fresh_14_eq, freshB_not t hk]; exact Bool.false_ne_true), after_14]

end Cert.Ffn.Hand

end
-- ==== Proof.FfnBitsFrame.lean ====
/-
  The feed-forward call's frame: at every grid point the body takes the buffers from the contents before it to the
  contents after it, so the call terminates, leaves its arguments unchanged and its semaphores at zero.
-/
module

public import proofs.«01_k».proof.Proof.FfnBitsTraj
public import proofs.«01_k».proof.Proof.Gen.Ffn.Launch
public import proofs.«01_k».proof.Proof.Gen.Ffn.Points
public import Idealize.ShloMosaic.Lib.Pipeline.FrameBody
public import Idealize.ShloMosaic.Lib.Claim

@[expose] public section

set_option maxRecDepth 16384

noncomputable section

namespace Cert.Ffn.Hand

open Cert.Ffn Cert.Ffn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The buffers of point `t`. -/
abbrev memsAt (t : Fin cfg0.N) : Mems where
  arg2 := win0_0.stage (cfg0.slots t 0)
  arg3 := win0_1.stage (cfg0.slots t 1)
  arg4 := win0_2.stage (cfg0.slots t 2)
  arg5 := win0_3.stage (cfg0.slots t 3)
  arg6 := win0_4.stage (cfg0.slots t 4)
  arg7 := win0_5.stage (cfg0.slots t 5)
  arg8 := win0_6.stage (cfg0.slots t 6)
  arg9 := win0_7.stage (cfg0.slots t 7)
  arg10 := win0_8.stage (cfg0.slots t 8)
  arg11 := win0_9.stage (cfg0.slots t 9)
  arg12 := win0_10.stage (cfg0.slots t 10)
  arg13 := win0_11.stage (cfg0.slots t 11)
  arg14 := win0_12.stage (cfg0.slots t 12)
  arg15 := win0_13.stage (cfg0.slots t 13)
  arg16 := win0_14.stage (cfg0.slots t 14)
  arg17 := scM_0
  arg18 := scM_1
  arg19 := scM_2
  arg20 := scM_3
  arg21 := scM_4
  harg2 := hstage0_0 ((cfg0.slots t 0).cast nbuf0_0)
  harg3 := hstage0_1 ((cfg0.slots t 1).cast nbuf0_1)
  harg4 := hstage0_2 ((cfg0.slots t 2).cast nbuf0_2)
  harg5 := hstage0_3 ((cfg0.slots t 3).cast nbuf0_3)
  harg6 := hstage0_4 ((cfg0.slots t 4).cast nbuf0_4)
  harg7 := hstage0_5 ((cfg0.slots t 5).cast nbuf0_5)
  harg8 := hstage0_6 ((cfg0.slots t 6).cast nbuf0_6)
  harg9 := hstage0_7 ((cfg0.slots t 7).cast nbuf0_7)
  harg10 := hstage0_8 ((cfg0.slots t 8).cast nbuf0_8)
  harg11 := hstage0_9 ((cfg0.slots t 9).cast nbuf0_9)
  harg12 := hstage0_10 ((cfg0.slots t 10).cast nbuf0_10)
  harg13 := hstage0_11 ((cfg0.slots t 11).cast nbuf0_11)
  harg14 := hstage0_12 ((cfg0.slots t 12).cast nbuf0_12)
  harg15 := hstage0_13 ((cfg0.slots t 13).cast nbuf0_13)
  harg16 := hstage0_14 ((cfg0.slots t 14).cast nbuf0_14)
  harg17 := Memref.isWhole_whole _
  harg18 := Memref.isWhole_whole _
  harg19 := Memref.isWhole_whole _
  harg20 := Memref.isWhole_whole _
  harg21 := Memref.isWhole_whole _

theorem own_memsAt (c : Dev nD) (t : Fin cfg0.N) (X : Ins F) (S : St F) : own c (memsAt t) X S
    = iprop(owns (c : Thread nD τ) (win0_0.stage (cfg0.slots t 0)) fullShare ((X).x0)
    ∗ owns (c : Thread nD τ) (win0_1.stage (cfg0.slots t 1)) fullShare ((X).x1)
    ∗ owns (c : Thread nD τ) (win0_2.stage (cfg0.slots t 2)) fullShare ((X).x2)
    ∗ owns (c : Thread nD τ) (win0_3.stage (cfg0.slots t 3)) fullShare ((X).x3)
    ∗ owns (c : Thread nD τ) (win0_4.stage (cfg0.slots t 4)) fullShare ((X).x4)
    ∗ owns (c : Thread nD τ) (win0_5.stage (cfg0.slots t 5)) fullShare ((S).o5)
    ∗ owns (c : Thread nD τ) (win0_6.stage (cfg0.slots t 6)) fullShare ((S).o6)
    ∗ owns (c : Thread nD τ) (win0_7.stage (cfg0.slots t 7)) fullShare ((S).o7)
    ∗ owns (c : Thread nD τ) (win0_8.stage (cfg0.slots t 8)) fullShare ((S).o8)
    ∗ owns (c : Thread nD τ) (win0_9.stage (cfg0.slots t 9)) fullShare ((S).o9)
    ∗ owns (c : Thread nD τ) (win0_10.stage (cfg0.slots t 10)) fullShare ((S).o10)
    ∗ owns (c : Thread nD τ) (win0_11.stage (cfg0.slots t 11)) fullShare ((S).o11)
    ∗ owns (c : Thread nD τ) (win0_12.stage (cfg0.slots t 12)) fullShare ((S).o12)
    ∗ owns (c : Thread nD τ) (win0_13.stage (cfg0.slots t 13)) fullShare ((S).o13)
    ∗ owns (c : Thread nD τ) (win0_14.stage (cfg0.slots t 14)) fullShare ((S).o14)
    ∗ owns (c : Thread nD τ) scM_0 fullShare (S).s0
    ∗ owns (c : Thread nD τ) scM_1 fullShare (S).s1
    ∗ owns (c : Thread nD τ) scM_2 fullShare (S).s2
    ∗ owns (c : Thread nD τ) scM_3 fullShare (S).s3
    ∗ owns (c : Thread nD τ) scM_4 fullShare (S).s4) := rfl

theorem own_of (c : Dev nD) (t : Fin cfg0.N) (X : Ins F) (S : St F) : iprop(owns (c : Thread nD τ) (win0_0.stage (cfg0.slots t 0)) fullShare ((X).x0)
    ∗ owns (c : Thread nD τ) (win0_1.stage (cfg0.slots t 1)) fullShare ((X).x1)
    ∗ owns (c : Thread nD τ) (win0_2.stage (cfg0.slots t 2)) fullShare ((X).x2)
    ∗ owns (c : Thread nD τ) (win0_3.stage (cfg0.slots t 3)) fullShare ((X).x3)
    ∗ owns (c : Thread nD τ) (win0_4.stage (cfg0.slots t 4)) fullShare ((X).x4)
    ∗ owns (c : Thread nD τ) (win0_5.stage (cfg0.slots t 5)) fullShare ((S).o5)
    ∗ owns (c : Thread nD τ) (win0_6.stage (cfg0.slots t 6)) fullShare ((S).o6)
    ∗ owns (c : Thread nD τ) (win0_7.stage (cfg0.slots t 7)) fullShare ((S).o7)
    ∗ owns (c : Thread nD τ) (win0_8.stage (cfg0.slots t 8)) fullShare ((S).o8)
    ∗ owns (c : Thread nD τ) (win0_9.stage (cfg0.slots t 9)) fullShare ((S).o9)
    ∗ owns (c : Thread nD τ) (win0_10.stage (cfg0.slots t 10)) fullShare ((S).o10)
    ∗ owns (c : Thread nD τ) (win0_11.stage (cfg0.slots t 11)) fullShare ((S).o11)
    ∗ owns (c : Thread nD τ) (win0_12.stage (cfg0.slots t 12)) fullShare ((S).o12)
    ∗ owns (c : Thread nD τ) (win0_13.stage (cfg0.slots t 13)) fullShare ((S).o13)
    ∗ owns (c : Thread nD τ) (win0_14.stage (cfg0.slots t 14)) fullShare ((S).o14)
    ∗ owns (c : Thread nD τ) scM_0 fullShare (S).s0
    ∗ owns (c : Thread nD τ) scM_1 fullShare (S).s1
    ∗ owns (c : Thread nD τ) scM_2 fullShare (S).s2
    ∗ owns (c : Thread nD τ) scM_3 fullShare (S).s3
    ∗ owns (c : Thread nD τ) scM_4 fullShare (S).s4) ⊢ own c (memsAt t) X S := by
  rw [own_memsAt]

/-- A window whose buffer holds what the point leaves is as the pipeline wants it, -/
theorem leaves_of {c : Dev nD} (dat : Dat τ (Elt F) Unit ℕ (UR sig nD τ) ℕ cfg0 c) (w : Fin cfg0.W) (t : Fin cfg0.N)
    (h : cfg0.idle w (cfg0.grid.coords t) = true → ∃ d, dat.before w t d = dat.after w t) :
    owns (c : Thread nD τ) ((cfg0.win w).stage (cfg0.slots t w)) fullShare (dat.after w t) ⊢ dat.leavesExact w t := by
  cases hi : cfg0.idle w (cfg0.grid.coords t) with
  | false => unfold Dat.leavesExact; rw [hi]
  | true =>
    cases hf : (cfg0.win w).flush t with
    | false =>
      rw [Dat.leavesExact_idle _ w t hi hf]
      obtain ⟨d, hd⟩ := h hi
      rw [← hd]
      iintro H; iexists d; iexact H
    | true => unfold Dat.leavesExact; rw [hi, hf]

theorem idle_in {P : Prop} {b : Bool} (h : b = false) : b = true → P := fun k => by rw [h] at k; cases k

theorem leaves_0 (c : Dev nD) (t : Fin cfg0.N) :
    owns (c : Thread nD τ) (win0_0.stage (cfg0.slots t 0)) fullShare (iblk m c 0 t) ⊢ (dats m 0 c).leavesExact 0 t :=
  leaves_of (dats m 0 c) 0 t (idle_in rfl)
theorem leaves_1 (c : Dev nD) (t : Fin cfg0.N) :
    owns (c : Thread nD τ) (win0_1.stage (cfg0.slots t 1)) fullShare (iblk m c 1 t) ⊢ (dats m 0 c).leavesExact 1 t :=
  leaves_of (dats m 0 c) 1 t (idle_in rfl)
theorem leaves_2 (c : Dev nD) (t : Fin cfg0.N) :
    owns (c : Thread nD τ) (win0_2.stage (cfg0.slots t 2)) fullShare (iblk m c 2 t) ⊢ (dats m 0 c).leavesExact 2 t :=
  leaves_of (dats m 0 c) 2 t (idle_in rfl)
theorem leaves_3 (c : Dev nD) (t : Fin cfg0.N) :
    owns (c : Thread nD τ) (win0_3.stage (cfg0.slots t 3)) fullShare (iblk m c 3 t) ⊢ (dats m 0 c).leavesExact 3 t :=
  leaves_of (dats m 0 c) 3 t (idle_in rfl)
theorem leaves_4 (c : Dev nD) (t : Fin cfg0.N) :
    owns (c : Thread nD τ) (win0_4.stage (cfg0.slots t 4)) fullShare (iblk m c 4 t) ⊢ (dats m 0 c).leavesExact 4 t :=
  leaves_of (dats m 0 c) 4 t (idle_in rfl)
theorem leaves_5 (c : Dev nD) (t : Fin cfg0.N) :
    owns (c : Thread nD τ) (win0_5.stage (cfg0.slots t 5)) fullShare ((stAt m c t.val t.isLt).o5) ⊢ (dats m 0 c).leavesExact 5 t :=
  leaves_of (dats m 0 c) 5 t (fun hi => ⟨fun _ => (Elt.inhabited F _).default, by have g := idle_5 t hi; rw [before_5 m c t (by omega) g, after_5, keep_5 m c t (by omega) g]⟩)
theorem leaves_6 (c : Dev nD) (t : Fin cfg0.N) :
    owns (c : Thread nD τ) (win0_6.stage (cfg0.slots t 6)) fullShare ((stAt m c t.val t.isLt).o6) ⊢ (dats m 0 c).leavesExact 6 t :=
  leaves_of (dats m 0 c) 6 t (fun hi => ⟨fun _ => (Elt.inhabited F _).default, by have g := idle_6 t hi; rw [before_6 m c t (by omega) g, after_6, keep_6 m c t (by omega) g]⟩)
theorem leaves_7 (c : Dev nD) (t : Fin cfg0.N) :
    owns (c : Thread nD τ) (win0_7.stage (cfg0.slots t 7)) fullShare ((stAt m c t.val t.isLt).o7) ⊢ (dats m 0 c).leavesExact 7 t :=
  leaves_of (dats m 0 c) 7 t (fun hi => ⟨fun _ => (Elt.inhabited F _).default, by have g := idle_7 t hi; rw [before_7 m c t (by omega) g, after_7, keep_7 m c t (by omega) g]⟩)
theorem leaves_8 (c : Dev nD) (t : Fin cfg0.N) :
    owns (c : Thread nD τ) (win0_8.stage (cfg0.slots t 8)) fullShare ((stAt m c t.val t.isLt).o8) ⊢ (dats m 0 c).leavesExact 8 t :=
  leaves_of (dats m 0 c) 8 t (idle_in (idle_8 t))
theorem leaves_9 (c : Dev nD) (t : Fin cfg0.N) :
    owns (c : Thread nD τ) (win0_9.stage (cfg0.slots t 9)) fullShare ((stAt m c t.val t.isLt).o9) ⊢ (dats m 0 c).leavesExact 9 t :=
  leaves_of (dats m 0 c) 9 t (idle_in (idle_9 t))
theorem leaves_10 (c : Dev nD) (t : Fin cfg0.N) :
    owns (c : Thread nD τ) (win0_10.stage (cfg0.slots t 10)) fullShare ((stAt m c t.val t.isLt).o10) ⊢ (dats m 0 c).leavesExact 10 t :=
  leaves_of (dats m 0 c) 10 t (idle_in (idle_10 t))
theorem leaves_11 (c : Dev nD) (t : Fin cfg0.N) :
    owns (c : Thread nD τ) (win0_11.stage (cfg0.slots t 11)) fullShare ((stAt m c t.val t.isLt).o11) ⊢ (dats m 0 c).leavesExact 11 t :=
  leaves_of (dats m 0 c) 11 t (idle_in (idle_11 t))
theorem leaves_12 (c : Dev nD) (t : Fin cfg0.N) :
    owns (c : Thread nD τ) (win0_12.stage (cfg0.slots t 12)) fullShare ((stAt m c t.val t.isLt).o12) ⊢ (dats m 0 c).leavesExact 12 t :=
  leaves_of (dats m 0 c) 12 t (fun hi => ⟨fun _ => (Elt.inhabited F _).default, by have g := idle_12 t hi; rw [before_12 m c t (by omega) g, after_12, keep_12 m c t (by omega) g]⟩)
theorem leaves_13 (c : Dev nD) (t : Fin cfg0.N) :
    owns (c : Thread nD τ) (win0_13.stage (cfg0.slots t 13)) fullShare ((stAt m c t.val t.isLt).o13) ⊢ (dats m 0 c).leavesExact 13 t :=
  leaves_of (dats m 0 c) 13 t (fun hi => ⟨fun _ => (Elt.inhabited F _).default, by have g := idle_13 t hi; rw [before_13 m c t (by omega) g, after_13, keep_13 m c t (by omega) g]⟩)
theorem leaves_14 (c : Dev nD) (t : Fin cfg0.N) :
    owns (c : Thread nD τ) (win0_14.stage (cfg0.slots t 14)) fullShare ((stAt m c t.val t.isLt).o14) ⊢ (dats m 0 c).leavesExact 14 t :=
  leaves_of (dats m 0 c) 14 t (fun hi => ⟨fun _ => (Elt.inhabited F _).default, by have g := idle_14 t hi; rw [before_14 m c t (by omega) g, after_14, keep_14 m c t (by omega) g]⟩)

/-- What the body is called with, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d)))
/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- The buffers at the point's contents are what the body returns. -/
theorem post_of (c : Dev nD) (t : Fin cfg0.N) :
    iprop(own c (memsAt t) (insAt m c t) (stAt m c t.val t.isLt) ∗ (∃ r, prngReg c r) ∗ (dats m 0 c).owesAt () t.castSucc) ⊢ bodyPost m c t := by
  unfold bodyPost
  rw [show (dats m 0 c).owesAt () t.succ = (dats m 0 c).owesAt () t.castSucc from rfl]
  rw [show (dats m 0 c).Φ t.succ = PhiS m c (t.val + 1) t.isLt from rfl, PhiS_succ]
  rw [own_memsAt]
  unfold scr
  iintro ⟨⟨H0, H1, H2, H3, H4, H5, H6, H7, H8, H9, H10, H11, H12, H13, H14, S0, S1, S2, S3, S4⟩, Hg, Ho⟩
  isplitl [Hg S0 S1 S2 S3 S4]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iapply (leaves_0 m c t); iexact H0
  isplitl [H1]; · iapply (leaves_1 m c t); iexact H1
  isplitl [H2]; · iapply (leaves_2 m c t); iexact H2
  isplitl [H3]; · iapply (leaves_3 m c t); iexact H3
  isplitl [H4]; · iapply (leaves_4 m c t); iexact H4
  isplitl [H5]; · iapply (leaves_5 m c t); iexact H5
  isplitl [H6]; · iapply (leaves_6 m c t); iexact H6
  isplitl [H7]; · iapply (leaves_7 m c t); iexact H7
  isplitl [H8]; · iapply (leaves_8 m c t); iexact H8
  isplitl [H9]; · iapply (leaves_9 m c t); iexact H9
  isplitl [H10]; · iapply (leaves_10 m c t); iexact H10
  isplitl [H11]; · iapply (leaves_11 m c t); iexact H11
  isplitl [H12]; · iapply (leaves_12 m c t); iexact H12
  isplitl [H13]; · iapply (leaves_13 m c t); iexact H13
  iapply (leaves_14 m c t); iexact H14

/-- The body from contents whose step is the point's. -/
theorem body_core (c : Dev nD) (t : Fin cfg0.N) (S : St F) (hS : step t (insAt m c t) S = stAt m c t.val t.isLt) :
    iprop(own c (memsAt t) (insAt m c t) S ∗ (∃ r, prngReg c r) ∗ (dats m 0 c).owesAt () t.castSucc)
      ⊢ wp frame (wpE (defs₀ (F := F)) Variants.none c none) Set.univ (bodyAt0 t) (fun _ => bodyPost m c t) := by
  refine BIBase.Entails.trans ?_ (body_step c (grid0.coords t) (memsAt t) (insAt m c t) S _ (steps_step t _ S) Set.univ (fun _ => bodyPost m c t))
  rw [hS]
  iintro ⟨Hown, Hg, Ho⟩
  isplitl [Hown]
  · iexact Hown
  iintro Hown
  iapply (post_of m c t)
  isplitl [Hown]; · iexact Hown
  isplitl [Hg]; · iexact Hg
  iexact Ho

theorem sound_body (c : Dev nD) (t : Fin cfg0.N) :
    bodyPre m c t ⊢ wp frame (wpE (defs₀ (F := F)) Variants.none c none) Set.univ (bodyAt0 t) (fun _ => bodyPost m c t) := by
  unfold bodyPre
  simp only [before_0, before_1, before_2, before_3, before_4]
  rw [PhiS_castSucc]
  by_cases ht : t.val = 0
  · rw [PhiS_zero m c _ _ ht, PhiA_eq]
    iintro ⟨⟨⟨⟨%e0, S0⟩, ⟨%e1, S1⟩, ⟨%e2, S2⟩, ⟨%e3, S3⟩, ⟨%e4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body_core m c t ⟨(dats m 0 c).before 5 t d5, (dats m 0 c).before 6 t d6, (dats m 0 c).before 7 t d7, (dats m 0 c).before 8 t d8, (dats m 0 c).before 9 t d9, (dats m 0 c).before 10 t d10, (dats m 0 c).before 11 t d11, (dats m 0 c).before 12 t d12, (dats m 0 c).before 13 t d13, (dats m 0 c).before 14 t d14, e0, e1, e2, e3, e4⟩
      ((step_first t ht _ _ anySt).trans (stAt_first m c t ht).symm))
    isplitl [H0 H1 H2 H3 H4 H5 H6 H7 H8 H9 H10 H11 H12 H13 H14 S0 S1 S2 S3 S4]
    · iapply (own_of c t _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [S0]; · iexact S0
      isplitl [S1]; · iexact S1
      isplitl [S2]; · iexact S2
      isplitl [S3]; · iexact S3
      iexact S4
    isplitl [Hg]; · iexact Hg
    iexact Ho
  · rw [PhiS_pos m c _ _ ht]
    unfold scr
    iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body_core m c t ⟨(dats m 0 c).before 5 t d5, (dats m 0 c).before 6 t d6, (dats m 0 c).before 7 t d7, (dats m 0 c).before 8 t d8, (dats m 0 c).before 9 t d9, (dats m 0 c).before 10 t d10, (dats m 0 c).before 11 t d11, (dats m 0 c).before 12 t d12, (dats m 0 c).before 13 t d13, (dats m 0 c).before 14 t d14, (stAt m c (t.val - 1) (by omega)).s0, (stAt m c (t.val - 1) (by omega)).s1, (stAt m c (t.val - 1) (by omega)).s2, (stAt m c (t.val - 1) (by omega)).s3, (stAt m c (t.val - 1) (by omega)).s4⟩
      ((step_later t ht (insAt m c t) ⟨(dats m 0 c).before 5 t d5, (dats m 0 c).before 6 t d6, (dats m 0 c).before 7 t d7, (dats m 0 c).before 8 t d8, (dats m 0 c).before 9 t d9, (dats m 0 c).before 10 t d10, (dats m 0 c).before 11 t d11, (dats m 0 c).before 12 t d12, (dats m 0 c).before 13 t d13, (dats m 0 c).before 14 t d14, (stAt m c (t.val - 1) (by omega)).s0, (stAt m c (t.val - 1) (by omega)).s1, (stAt m c (t.val - 1) (by omega)).s2, (stAt m c (t.val - 1) (by omega)).s3, (stAt m c (t.val - 1) (by omega)).s4⟩ (stAt m c (t.val - 1) (by omega)) rfl rfl rfl rfl rfl
        (fun g => ⟨before_5 m c t ht g d5, before_6 m c t ht g d6, before_7 m c t ht g d7⟩)
        (fun g => ⟨before_12 m c t ht g d12, before_13 m c t ht g d13, before_14 m c t ht g d14⟩)).trans (stAt_later m c t ht).symm))
    isplitl [H0 H1 H2 H3 H4 H5 H6 H7 H8 H9 H10 H11 H12 H13 H14 S0 S1 S2 S3 S4]
    · iapply (own_of c t _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [S0]; · iexact S0
      isplitl [S1]; · iexact S1
      isplitl [S2]; · iexact S2
      isplitl [S3]; · iexact S3
      iexact S4
    isplitl [Hg]; · iexact Hg
    iexact Ho

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  unfold scr
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 528 := N_0; omega)

/-! ## The run and the frame -/

set_option backward.isDefEq.respectTransparency.types false in
/-- The launch: `run_main`'s statement, and every semaphore counter of the machine at zero at every final state. -/
theorem run_main_quiescent : θ_run defs (onTc (τ := τ) (Cert.Ffn.main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ Cert.Ffn.main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every execution terminates with every array of the pipeline at what the proof data gives. -/
theorem run_main : θ_run defs (onTc (τ := τ) (Cert.Ffn.main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (Cert.Ffn.main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame, over any values. -/
theorem frame : θ_run defs (onTc (τ := τ) (Cert.Ffn.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Ffn.Hand

end
-- ==== Proof.FfnSpec.lean ====
/-
  The feed-forward call's mathematics, entry by entry: the hidden product and the two gradients through the gate and the
  projection, each from sums over the 4096 features, and the scale and code of a column of them.
-/
module

public import proofs.«01_k».proof.Proof.Common

@[expose] public section

noncomputable section

open Idealize.ShloMosaic

namespace Cert.FfnSpec

open Cert.Common

/-- The value every maximum starts from, -/
abbrev start : EReal := Ideal.ofBits .f32 0xFF800000#32

theorem start_le (x : EReal) : start ≤ x := by
  have h : start = ⊥ := by
    show Ideal.ieee 8 23 (0xFF800000#32 : BitVec 32) = ⊥
    unfold Ideal.ieee
    norm_num [(by decide : (4286578688 >>> 23 % 256 : ℕ) = 255), (by decide : BitVec.extractLsb' 31 1 4286578688#32 = 1#1)]
  rw [h]; exact bot_le

/-- an absolute value, -/
def ab (x : EReal) : EReal := max x (-x)

theorem ab_nonneg (x : EReal) : 0 ≤ ab x := by
  unfold ab
  rcases le_total 0 x with h | h
  · exact le_max_of_le_left h
  · exact le_max_of_le_right (EReal.neg_nonneg.mpr h)

/-- the scale of a column whose largest absolute value is `a`, -/
def scl (a : EReal) : EReal := if 0 < a then Ideal.div a (Ideal.ofBits .f32 0x43E00000#32) else 1

/-- the code of an entry at a scale, -/
def cod (v s : EReal) : EReal := min (Ideal.ofBits .f32 0x43E00000#32) (max (Ideal.ofBits .f32 0xC3E00000#32) (Ideal.div v s))

/-- the largest absolute value in a column of a quantity given entry by entry, -/
def amax (v : ℕ → ℕ → EReal) (n : ℕ) : EReal := (Finset.univ : Finset (Fin 6144)).fold max start fun r => ab (v r.val n)

theorem amax_le (v : ℕ → ℕ → EReal) (n : ℕ) (x : EReal) : amax v n ≤ x ↔ ∀ r, r < 6144 → ab (v r n) ≤ x := by
  unfold amax
  rw [Finset.fold_max_le]
  exact ⟨fun h r hr => h.2 ⟨r, hr⟩ (Finset.mem_univ _), fun h => ⟨start_le x, fun r _ => h r.val r.isLt⟩⟩

/-- the column's scale, -/
def sclOf (v : ℕ → ℕ → EReal) (n : ℕ) : EReal := scl (amax v n)

/-- and the code of an entry at its column's scale. -/
def codeAt (v : ℕ → ℕ → EReal) (r n : ℕ) : EReal := cod (v r n) (sclOf v n)

/-- The five arrays the call is given. -/
structure Arrays where
  a : (⟨2, ![6144, 4096]⟩ : Shape).Idx → EReal
  dy : (⟨2, ![6144, 4096]⟩ : Shape).Idx → EReal
  wg : (⟨2, ![4096, 11008]⟩ : Shape).Idx → EReal
  wu : (⟨2, ![4096, 11008]⟩ : Shape).Idx → EReal
  wd : (⟨2, ![11008, 4096]⟩ : Shape).Idx → EReal

variable (A : Arrays)

/-- The gate and the projection at an entry, and the gradient come back through the down projection. -/
def gate (r n : ℕ) : EReal := ∑ k : Fin 4096, at2 A.a r k.val * at2 A.wg k.val n
def up (r n : ℕ) : EReal := ∑ k : Fin 4096, at2 A.a r k.val * at2 A.wu k.val n
def back (r n : ℕ) : EReal := ∑ k : Fin 4096, at2 A.dy r k.val * at2 A.wd n k.val

/-- The hidden product, -/
def hid (r n : ℕ) : EReal := gate A r n * Ideal.logistic (gate A r n) * up A r n
/-- the gradient of the gate, -/
def dgate (r n : ℕ) : EReal :=
  back A r n * up A r n * Ideal.logistic (gate A r n) * (1 + gate A r n * (1 - Ideal.logistic (gate A r n)))
/-- and that of the projection. -/
def dup (r n : ℕ) : EReal := back A r n * gate A r n * Ideal.logistic (gate A r n)

end Cert.FfnSpec

end
-- ==== Proof.FfnMath.lean ====
/-
  The feed-forward call's three quantities, each on its own: the rows kept in scratch, the running maxima of a block of
  columns and the scales of the block before. After every grid point they are what the quantity's entries say
  (`QInv`), by induction on the point.
-/
module

public import proofs.«01_k».proof.Proof.FfnTraj
public import proofs.«01_k».proof.Proof.FfnSpec
public import Idealize.ShloMosaic.Lib.Tactic

@[expose] public section

set_option maxRecDepth 16384

noncomputable section

open Idealize.ShloMosaic Idealize.ShloMosaic.TcCoe Idealize.SL.Sem

namespace Cert.FfnIdeal.Hand

open Cert.FfnIdeal Cert.FfnIdeal.Gen Cert.Common Cert.FfnSpec

/-! ## The body's functions at an entry -/

theorem pay16_apply (M : Vec Ideal S1x8x256 .f32) (y : S1x1x256.Idx) :
    k0_pay16 M y = scl ((Finset.univ : Finset (Fin 8)).fold max start fun b => M (ix3 (0 : Fin 1) b (y 2))) := by
  pointwise [k0_pay16, k0_pay15, scl]

theorem pay36_apply (w : FVec Ideal S512x256 .f32) (M : Vec Ideal S1x8x256 .f32) (y : S1x8x256.Idx) :
    k0_pay36 w M y = max (M y) ((Finset.univ : Finset (Fin 64)).fold max start fun k => ab (at2 (R := 512) (C := 256) w (k.val * 8 + (y 1).val) (y 2).val)) := by
  have e : ∀ k : Fin 64, at2 (R := 512) (C := 256) w (k.val * 8 + (y 1).val) (y 2).val
      = w (ix2 ⟨k.val * 8 + (y 1).val, by have h1 : k.val < 64 := k.isLt; have h2 : (y 1).val < 8 := (y 1).isLt; omega⟩ (y 2)) := fun k =>
    at2_of_lt _ _ (y 2).isLt
  simp only [e]
  pointwise [k0_pay36]
  rfl

theorem pay19_apply (v : Vec Ideal S512x256 .f32) (s : Vec Ideal S1x1x256 .f32) (y : S512x256.Idx) :
    k0_pay19 v s y = cod (v y) (s (ix3 (0 : Fin 1) (0 : Fin 1) (y 1))) := by
  pointwise [k0_pay19, cod]

theorem pay18_apply (v : Vec Ideal S512x256 .f32) (s : Vec Ideal S1x1x256 .f32) (y : S256x512.Idx) :
    k0_pay18 v s y = cod (v (ix2 (y 1) (y 0))) (s (ix3 (0 : Fin 1) (0 : Fin 1) (y 0))) := by
  pointwise [k0_pay18, k0_pay17, cod]

theorem pay30_eq (a : Vec Ideal S512x4096 .bf16) (wg wu : Vec Ideal S4096x256 .bf16) : k0_pay30 a wg wu = k0_pay27 a wg wu := by
  funext y; pointwise [k0_pay30]
theorem pay34_eq (w : FVec Ideal S512x256 .f32) : k0_pay34 w = w := by
  funext y; pointwise [k0_pay34]
theorem pay37_eq (w : FVec Ideal S512x256 .f32) : k0_pay37 w = w := by
  funext y; pointwise [k0_pay37]
theorem pay9_apply (y : S3x8x256.Idx) : k0_pay9 (F := Ideal) y = 0 := by
  pointwise [k0_pay9]
theorem pay31_apply (a : Vec Ideal S512x4096 .bf16) (wg wu : Vec Ideal S4096x256 .bf16) (y : S512x256.Idx) :
    k0_pay31 a wg wu y = k0_pay27 a wg wu y := by
  pointwise [k0_pay31]
theorem pay35_apply (w : FVec Ideal S512x256 .f32) (y : S512x256.Idx) : k0_pay35 w y = w y := by
  pointwise [k0_pay35]
theorem pay38_apply (w : FVec Ideal S512x256 .f32) (y : S512x256.Idx) : k0_pay38 w y = w y := by
  pointwise [k0_pay38]

/-! ## Rows and maxima read -/

theorem mx0_putM (S : Vec Ideal S3x8x256 .f32) (x y z : Vec Ideal S1x8x256 .f32) : mx0 (putM S x y z) = x :=
  (VecWindow.window_put_of_disjoint _ _ _ _ _ _ _ 0 (by decide)).trans
    ((VecWindow.window_put_of_disjoint _ _ _ _ _ _ _ 0 (by decide)).trans (VecWindow.window_put_same _ _ _ _ _))
theorem mx1_putM (S : Vec Ideal S3x8x256 .f32) (x y z : Vec Ideal S1x8x256 .f32) : mx1 (putM S x y z) = y :=
  (VecWindow.window_put_of_disjoint _ _ _ _ _ _ _ 0 (by decide)).trans (VecWindow.window_put_same _ _ _ _ _)
theorem mx2_putM (S : Vec Ideal S3x8x256 .f32) (x y z : Vec Ideal S1x8x256 .f32) : mx2 (putM S x y z) = z :=
  VecWindow.window_put_same _ _ _ _ _

/-- A row of the buffer, after a band is replaced. -/
theorem at2_putW (i : grid0.Coords) (S : Vec Ideal S6144x256 .f32) (v : Vec Ideal S512x256 .f32) (r c : ℕ) (hr : r < 6144) (hc : c < 256) :
    at2 (R := 6144) (C := 256) (putW i S v) r c
      = if 512 * (i 1).val ≤ r ∧ r < 512 * (i 1).val + 512 then at2 (R := 512) (C := 256) v (r - 512 * (i 1).val) c
        else at2 (R := 6144) (C := 256) S r c := by
  rw [at2_of_lt _ hr hc]
  unfold putW VecWindow.put
  by_cases h : 512 * (i 1).val ≤ r ∧ r < 512 * (i 1).val + 512
  · rw [if_pos h, dif_pos]
    · refine eq_at2 (R := 512) (C := 256) v _ ?_ ?_
      · rfl
      · show c - 0 = c; rfl
    · intro a
      match a with
      | ⟨0, _⟩ => exact h
      | ⟨1, _⟩ => show 0 ≤ c ∧ c < 0 + 256; omega
  · rw [if_neg h, dif_neg, at2_of_lt _ hr hc]
    exact fun k => h (k 0)

/-- A band of the buffer. -/
theorem win_apply (i : grid0.Coords) (S : Vec Ideal S6144x256 .f32) (y : S512x256.Idx) :
    win i S y = at2 (R := 6144) (C := 256) S (512 * (i 1).val + (y 0).val) (y 1).val := by
  unfold win VecWindow.window
  refine eq_at2 (R := 6144) (C := 256) S _ ?_ ?_
  · show 512 * (i 1).val + 1 * (y 0).val = _; omega
  · show 0 + 1 * (y 1).val = _; omega

/-! ## One quantity's part of the contents -/

/-- The rows kept, the running maxima, the scales kept and the scales written of one quantity. -/
structure Q where
  s : Vec Ideal S6144x256 .f32
  M : Vec Ideal S1x8x256 .f32
  sc : Vec Ideal S1x1x256 .f32
  o : Vec Ideal S1x1x256 .f32

def q0 (S : St Ideal) : Q := ⟨S.s0, mx0 S.s3, sc0 S.s4, S.o12⟩
def q1 (S : St Ideal) : Q := ⟨S.s1, mx1 S.s3, sc1 S.s4, S.o13⟩
def q2 (S : St Ideal) : Q := ⟨S.s2, mx2 S.s3, sc2 S.s4, S.o14⟩

def qroll (Z : Q) : Q := ⟨Z.s, fun _ => 0, k0_pay16 Z.M, k0_pay16 Z.M⟩
def qmain (i : grid0.Coords) (w : Vec Ideal S512x256 .f32) (Z : Q) : Q := ⟨putW i Z.s w, k0_pay36 w Z.M, Z.sc, Z.o⟩

theorem q0_roll (S : St Ideal) : q0 (roll S) = qroll (q0 S) := by
  have e1 : mx0 (F := Ideal) (k0_pay9 (F := Ideal)) = fun _ => 0 := by
    funext y; unfold mx0 VecWindow.window; exact pay9_apply _
  show Q.mk _ (mx0 (F := Ideal) (k0_pay9 (F := Ideal))) (sc0 (putS _ _ _ _)) _ = Q.mk _ _ _ _
  rw [e1, sc0_putS]; rfl
theorem q1_roll (S : St Ideal) : q1 (roll S) = qroll (q1 S) := by
  have e1 : mx1 (F := Ideal) (k0_pay9 (F := Ideal)) = fun _ => 0 := by
    funext y; unfold mx1 VecWindow.window; exact pay9_apply _
  show Q.mk _ (mx1 (F := Ideal) (k0_pay9 (F := Ideal))) (sc1 (putS _ _ _ _)) _ = Q.mk _ _ _ _
  rw [e1, sc1_putS]; rfl
theorem q2_roll (S : St Ideal) : q2 (roll S) = qroll (q2 S) := by
  have e1 : mx2 (F := Ideal) (k0_pay9 (F := Ideal)) = fun _ => 0 := by
    funext y; unfold mx2 VecWindow.window; exact pay9_apply _
  show Q.mk _ (mx2 (F := Ideal) (k0_pay9 (F := Ideal))) (sc2 (putS _ _ _ _)) _ = Q.mk _ _ _ _
  rw [e1, sc2_putS]; rfl

/-- The band of each quantity that a point computes. -/
def w0 (X : Ins Ideal) : Vec Ideal S512x256 .f32 := k0_pay27 X.x0 X.x2 X.x3
def w1 (X : Ins Ideal) : Vec Ideal S512x256 .f32 := k0_pay28 X.x0 X.x2 X.x3 X.x1 X.x4
def w2 (X : Ins Ideal) : Vec Ideal S512x256 .f32 := k0_pay29 X.x0 X.x2 X.x1 X.x4

theorem q0_main (i : grid0.Coords) (X : Ins Ideal) (S : St Ideal) : q0 (main i X S) = qmain i (w0 X) (q0 S) := by
  show Q.mk (putW i S.s0 (k0_pay30 X.x0 X.x2 X.x3)) (mx0 (putM _ _ _ _)) _ _ = Q.mk _ _ _ _
  rw [mx0_putM, pay30_eq]; rfl
theorem q1_main (i : grid0.Coords) (X : Ins Ideal) (S : St Ideal) : q1 (main i X S) = qmain i (w1 X) (q1 S) := by
  show Q.mk (putW (F := Ideal) i S.s1 (k0_pay34 (F := Ideal) _)) (mx1 (putM _ _ _ _)) _ _ = Q.mk _ _ _ _
  rw [mx1_putM, pay34_eq]; rfl
theorem q2_main (i : grid0.Coords) (X : Ins Ideal) (S : St Ideal) : q2 (main i X S) = qmain i (w2 X) (q2 S) := by
  show Q.mk (putW (F := Ideal) i S.s2 (k0_pay37 (F := Ideal) _)) (mx2 (putM _ _ _ _)) _ _ = Q.mk _ _ _ _
  rw [mx2_putM, pay37_eq]; rfl

/-- The quantity's contents the rest of a point's step works from, -/
def qent (t : Fin cfg0.N) (Z : Q) : Q := if t.val % 12 = 0 then qroll Z else Z
/-- and after the point. -/
def qstep (t : Fin cfg0.N) (w : Vec Ideal S512x256 .f32) (Z : Q) : Q :=
  if t.val < 516 then qmain (grid0.coords t) w (qent t Z) else qent t Z

/-- The whole step, seen from one quantity. -/
theorem q_step (q : St Ideal → Q) (w : Ins Ideal → Vec Ideal S512x256 .f32) (hr : ∀ S, q (roll S) = qroll (q S))
    (hm : ∀ i X S, q (main i X S) = qmain i (w X) (q S)) (ht : ∀ i S, q (tail i S) = q S) (t : Fin cfg0.N) (X : Ins Ideal) (S : St Ideal) :
    ∃ Z, (t.val ≠ 0 → Z = q S) ∧ q (step t X S) = qstep t (w X) Z := by
  unfold step qstep qent
  by_cases h0 : t.val = 0
  · refine ⟨q (init S), fun h => absurd h0 h, ?_⟩
    rw [if_pos h0, if_pos (by omega), if_pos (by omega), hm, hr]
  refine ⟨q S, fun _ => rfl, ?_⟩
  rw [if_neg h0]
  by_cases h1 : t.val < 516
  · rw [if_pos h1, if_pos h1]
    by_cases h2 : t.val % 12 = 0
    · rw [if_pos h2, if_pos h2, hm, hr]
    · rw [if_neg h2, if_neg h2, hm]
  · rw [if_neg h1, if_neg h1]
    by_cases h2 : t.val % 12 = 0
    · rw [if_pos h2, if_pos h2, ht, hr]
    · rw [if_neg h2, if_neg h2, ht]

/-! ## What the contents are -/

/-- After point `n` the rows done hold the current block of columns and the others the block before, the running maxima
    bound exactly the rows done, and the scales are those of the block before. -/
structure QInv (v : ℕ → ℕ → EReal) (n : ℕ) (Z : Q) : Prop where
  rows : n < 516 → ∀ r c, r < 512 * (n % 12 + 1) → c < 256 → at2 (R := 6144) (C := 256) Z.s r c = v r (256 * (n / 12) + c)
  old : 12 ≤ n → n < 516 → ∀ r c, 512 * (n % 12 + 1) ≤ r → r < 6144 → c < 256 →
    at2 (R := 6144) (C := 256) Z.s r c = v r (256 * (n / 12 - 1) + c)
  last : 516 ≤ n → ∀ r c, r < 6144 → c < 256 → at2 (R := 6144) (C := 256) Z.s r c = v r (256 * 42 + c)
  mx : n < 516 → ∀ (b : Fin 8) (c : Fin 256) (x : EReal),
    Z.M (ix3 (0 : Fin 1) b c) ≤ x ↔ 0 ≤ x ∧ ∀ r, r < 512 * (n % 12 + 1) → r % 8 = b.val → ab (v r (256 * (n / 12) + c.val)) ≤ x
  sc : 12 ≤ n → ∀ c : Fin 256, Z.sc (ix3 (0 : Fin 1) (0 : Fin 1) c) = sclOf v (256 * (n / 12 - 1) + c.val)
  o : 12 ≤ n → ∀ c : Fin 256, Z.o (ix3 (0 : Fin 1) (0 : Fin 1) c) = sclOf v (256 * (n / 12 - 1) + c.val)

theorem coords1 (t : Fin cfg0.N) : (grid0.coords t 1).val = t.val % 12 := by
  have e1 : (grid0.coords t 1).val = t.val / 1 % 12 := Pipeline.Grid.coords_val t 1 (by decide) rfl
  rw [e1, Nat.div_one]

/-- The scales read off the maxima of a whole block of columns. -/
theorem scales_of (v : ℕ → ℕ → EReal) (n : ℕ) (Z : Q) (hn : n < 516) (h11 : n % 12 = 11) (h : QInv v n Z) (c : Fin 256) :
    k0_pay16 Z.M (ix3 (0 : Fin 1) (0 : Fin 1) c) = sclOf v (256 * (n / 12) + c.val) := by
  rw [pay16_apply]
  refine congrArg scl (eq_of_forall_ge_iff fun x => ?_)
  rw [amax_le, Finset.fold_max_le]
  constructor
  · intro g r hr
    exact ((h.mx hn ⟨r % 8, by omega⟩ c x).mp (g.2 ⟨r % 8, by omega⟩ (Finset.mem_univ _))).2 r (by omega) rfl
  · intro g
    refine ⟨start_le x, fun b _ => (h.mx hn b c x).mpr ⟨(ab_nonneg _).trans (g 0 (by omega)), fun r hr _ => g r (by omega)⟩⟩

/-- What the step works from: the rows, -/
theorem ent_rows (v : ℕ → ℕ → EReal) (t : Fin cfg0.N) (Z : Q) (ht : 12 ≤ t.val) (h : QInv v (t.val - 1) Z) (r c : ℕ)
    (hr : 512 * (t.val % 12) ≤ r) (hr' : r < 6144) (hc : c < 256) :
    at2 (R := 6144) (C := 256) (qent t Z).s r c = v r (256 * (t.val / 12 - 1) + c) := by
  have hN := lt_528 t
  have e : (qent t Z).s = Z.s := by unfold qent; split <;> rfl
  rw [e]
  by_cases h0 : t.val % 12 = 0
  · rw [h.rows (by omega) r c (by omega) hc]; congr 2; omega
  by_cases h1 : t.val < 516
  · rw [h.old (by omega) (by omega) r c (by omega) hr' hc]; congr 2; omega
  · rw [h.last (by omega) r c hr' hc]; congr 2; omega

/-- and the scales. -/
theorem ent_sc (v : ℕ → ℕ → EReal) (t : Fin cfg0.N) (Z : Q) (ht : 12 ≤ t.val) (h : QInv v (t.val - 1) Z) (c : Fin 256) :
    (qent t Z).sc (ix3 (0 : Fin 1) (0 : Fin 1) c) = sclOf v (256 * (t.val / 12 - 1) + c.val)
      ∧ (qent t Z).o (ix3 (0 : Fin 1) (0 : Fin 1) c) = sclOf v (256 * (t.val / 12 - 1) + c.val) := by
  have hN := lt_528 t
  unfold qent
  by_cases h0 : t.val % 12 = 0
  · have e := scales_of v (t.val - 1) Z (by omega) (by omega) h c
    have e2 : (t.val - 1) / 12 = t.val / 12 - 1 := by omega
    rw [e2] at e
    rw [if_pos h0]; exact ⟨e, e⟩
  · have e1 := h.sc (by omega) c
    have e2 := h.o (by omega) c
    have e3 : (t.val - 1) / 12 = t.val / 12 := by omega
    rw [e3] at e1 e2
    rw [if_neg h0]; exact ⟨e1, e2⟩

/-- The codes a point writes. -/
theorem ent_code (v : ℕ → ℕ → EReal) (t : Fin cfg0.N) (Z : Q) (ht : 12 ≤ t.val) (h : QInv v (t.val - 1) Z) (y : S512x256.Idx) :
    cod (win (grid0.coords t) (qent t Z).s y) ((qent t Z).sc (ix3 (0 : Fin 1) (0 : Fin 1) (y 1)))
      = cod (v (512 * (t.val % 12) + (y 0).val) (256 * (t.val / 12 - 1) + (y 1).val)) (sclOf v (256 * (t.val / 12 - 1) + (y 1).val)) := by
  have h0 : (y 0).val < 512 := (y 0).isLt
  have h1 : (y 1).val < 256 := (y 1).isLt
  rw [win_apply, coords1, ent_rows v t Z ht h _ _ (by omega) (by omega) h1, (ent_sc v t Z ht h (y 1)).1]

/-- The contents after a point from those before it. -/
theorem qinv_step (v : ℕ → ℕ → EReal) (t : Fin cfg0.N) (w : Vec Ideal S512x256 .f32) (Z : Q)
    (hw : t.val < 516 → ∀ r c, r < 512 → c < 256 → at2 (R := 512) (C := 256) w r c = v (512 * (t.val % 12) + r) (256 * (t.val / 12) + c))
    (hp : t.val ≠ 0 → QInv v (t.val - 1) Z) : QInv v t.val (qstep t w Z) := by
  have hN := lt_528 t
  have es : (qent t Z).s = Z.s := by unfold qent; split <;> rfl
  have hsc : (qstep t w Z).sc = (qent t Z).sc := by unfold qstep; split <;> rfl
  have ho : (qstep t w Z).o = (qent t Z).o := by unfold qstep; split <;> rfl
  have hs1 : t.val < 516 → (qstep t w Z).s = putW (grid0.coords t) Z.s w := fun h => by unfold qstep; rw [if_pos h, ← es]; rfl
  have hm1 : t.val < 516 → (qstep t w Z).M = k0_pay36 w (qent t Z).M := fun h => by unfold qstep; rw [if_pos h]; rfl
  constructor
  · intro h r c hr hc
    rw [hs1 h, at2_putW _ _ _ r c (by omega) hc, coords1]
    by_cases hb : 512 * (t.val % 12) ≤ r ∧ r < 512 * (t.val % 12) + 512
    · rw [if_pos hb, hw h _ _ (by omega) hc]; congr 1; omega
    · rw [if_neg hb, (hp (by omega)).rows (by omega) r c (by omega) hc]; congr 2; omega
  · intro h12 h r c hr hr' hc
    have g := ent_rows v t Z h12 (hp (by omega)) r c (by omega) hr' hc
    rw [es] at g
    rw [hs1 h, at2_putW _ _ _ r c hr' hc, coords1, if_neg (by omega), g]
  · intro h r c hr hc
    have e : (qstep t w Z).s = Z.s := by unfold qstep; rw [if_neg (by omega), es]
    rw [e]
    by_cases h0 : t.val % 12 = 0
    · rw [(hp (by omega)).rows (by omega) r c (by omega) hc]; congr 2; omega
    · exact (hp (by omega)).last (by omega) r c hr hc
  · intro h b c x
    have hb := b.isLt
    have hc := c.isLt
    rw [hm1 h, pay36_apply, max_le_iff, Finset.fold_max_le]
    have hband : (start ≤ x ∧ ∀ k ∈ (Finset.univ : Finset (Fin 64)), ab (at2 (R := 512) (C := 256) w (k.val * 8 + b.val) c.val) ≤ x)
        ↔ ∀ r, 512 * (t.val % 12) ≤ r → r < 512 * (t.val % 12 + 1) → r % 8 = b.val → ab (v r (256 * (t.val / 12) + c.val)) ≤ x := by
      constructor
      · intro g r hr hr' h8
        have k := g.2 ⟨(r - 512 * (t.val % 12)) / 8, by omega⟩ (Finset.mem_univ _)
        rw [hw h _ _ (by show (r - 512 * (t.val % 12)) / 8 * 8 + b.val < 512; omega) hc] at k
        have e : 512 * (t.val % 12) + ((r - 512 * (t.val % 12)) / 8 * 8 + b.val) = r := by omega
        rw [show 512 * (t.val % 12) + ((⟨(r - 512 * (t.val % 12)) / 8, by omega⟩ : Fin 64).val * 8 + b.val) = r from e] at k
        exact k
      · intro g
        refine ⟨start_le x, fun k _ => ?_⟩
        have hk := k.isLt
        rw [hw h _ _ (by omega) hc]
        exact g _ (by omega) (by omega) (by omega)
    refine (and_congr_right fun _ => hband).trans ?_
    unfold qent
    by_cases h0 : t.val % 12 = 0
    · rw [if_pos h0]
      exact ⟨fun g => ⟨g.1, fun r hr h8 => g.2 r (by omega) hr h8⟩, fun g => ⟨g.1, fun r _ hr h8 => g.2 r hr h8⟩⟩
    · rw [if_neg h0, (hp (by omega)).mx (by omega) b c x]
      have e3 : (t.val - 1) / 12 = t.val / 12 := by omega
      rw [e3]
      constructor
      · intro g
        refine ⟨g.1.1, fun r hr h8 => ?_⟩
        by_cases hlt : r < 512 * (t.val % 12)
        · exact g.1.2 r (by omega) h8
        · exact g.2 r (by omega) hr h8
      · intro g
        exact ⟨⟨g.1, fun r hr h8 => g.2 r (by omega) h8⟩, fun r _ hr h8 => g.2 r hr h8⟩
  · intro h12 c
    rw [hsc]; exact (ent_sc v t Z h12 (hp (by omega)) c).1
  · intro h12 c
    rw [ho]; exact (ent_sc v t Z h12 (hp (by omega)) c).2

end Cert.FfnIdeal.Hand

end
-- ==== Proof.FfnPoints.lean ====
/-
  The feed-forward call's arrays: what each grid point leaves in its blocks, from the invariant of the three quantities,
  and from it every array after the run.
-/
module

public import proofs.«01_k».proof.Proof.FfnMath
public import proofs.«01_k».proof.Proof.FfnFrame

@[expose] public section

set_option maxRecDepth 16384

noncomputable section

open Idealize.ShloMosaic Idealize.ShloMosaic.TcCoe Idealize.SL.Sem

namespace Cert.FfnIdeal.Hand

open Cert.FfnIdeal Cert.FfnIdeal.Gen Cert.Common Cert.FfnSpec

variable (m : (ℓ : Loc nD τ sig) → Buf (Elt Ideal) ℓ) (ρ : Dev nD → PrngReg)

/-- The arrays of a device. -/
def arrays (c : Dev nD) : Arrays :=
  ⟨m ((c : Thread nD τ).loc main_arg0), m ((c : Thread nD τ).loc main_arg1), m ((c : Thread nD τ).loc main_arg2),
    m ((c : Thread nD τ).loc main_arg3), m ((c : Thread nD τ).loc main_arg4)⟩

/-! ## The blocks read -/

theorem idx0 : ∀ t : Fin cfg0.N, t.val < 516 → win0_0.index t (0 : Fin 2) = t.val % 12 ∧ win0_0.index t (1 : Fin 2) = 0 :=
  (by decide +kernel : ∀ t : Fin grid0.N, _)
theorem blk0 (c : Dev nD) (t : Fin cfg0.N) (h : t.val < 516) (y : S512x4096.Idx) :
    iblk m c 0 t y = at2 (arrays m c).a (512 * (t.val % 12) + (y 0).val) ((y 1).val) := by
  obtain ⟨e0, e1⟩ := idx0 t h
  refine Eq.trans (b := (arrays m c).a (((cfg0.win 0).blk t).view.emb y)) ?_ (eq_at2 _ _ ?_ ?_)
  · show V m c (Pipeline.arrRef spec0 0) _ = _
    rfl
  · show win0_0.index t (0 : Fin 2) * 512 + 1 * (y 0).val = _; rw [e0]; omega
  · show win0_0.index t (1 : Fin 2) * 4096 + 1 * (y 1).val = _; rw [e1]; omega

theorem idx1 : ∀ t : Fin cfg0.N, t.val < 516 → win0_1.index t (0 : Fin 2) = t.val % 12 ∧ win0_1.index t (1 : Fin 2) = 0 :=
  (by decide +kernel : ∀ t : Fin grid0.N, _)
theorem blk1 (c : Dev nD) (t : Fin cfg0.N) (h : t.val < 516) (y : S512x4096.Idx) :
    iblk m c 1 t y = at2 (arrays m c).dy (512 * (t.val % 12) + (y 0).val) ((y 1).val) := by
  obtain ⟨e0, e1⟩ := idx1 t h
  refine Eq.trans (b := (arrays m c).dy (((cfg0.win 1).blk t).view.emb y)) ?_ (eq_at2 _ _ ?_ ?_)
  · show V m c (Pipeline.arrRef spec0 1) _ = _
    rfl
  · show win0_1.index t (0 : Fin 2) * 512 + 1 * (y 0).val = _; rw [e0]; omega
  · show win0_1.index t (1 : Fin 2) * 4096 + 1 * (y 1).val = _; rw [e1]; omega

theorem idx2 : ∀ t : Fin cfg0.N, t.val < 516 → win0_2.index t (0 : Fin 2) = 0 ∧ win0_2.index t (1 : Fin 2) = t.val / 12 :=
  (by decide +kernel : ∀ t : Fin grid0.N, _)
theorem blk2 (c : Dev nD) (t : Fin cfg0.N) (h : t.val < 516) (y : S4096x256.Idx) :
    iblk m c 2 t y = at2 (arrays m c).wg ((y 0).val) (256 * (t.val / 12) + (y 1).val) := by
  obtain ⟨e0, e1⟩ := idx2 t h
  refine Eq.trans (b := (arrays m c).wg (((cfg0.win 2).blk t).view.emb y)) ?_ (eq_at2 _ _ ?_ ?_)
  · show V m c (Pipeline.arrRef spec0 2) _ = _
    rfl
  · show win0_2.index t (0 : Fin 2) * 4096 + 1 * (y 0).val = _; rw [e0]; omega
  · show win0_2.index t (1 : Fin 2) * 256 + 1 * (y 1).val = _; rw [e1]; omega

theorem idx3 : ∀ t : Fin cfg0.N, t.val < 516 → win0_3.index t (0 : Fin 2) = 0 ∧ win0_3.index t (1 : Fin 2) = t.val / 12 :=
  (by decide +kernel : ∀ t : Fin grid0.N, _)
theorem blk3 (c : Dev nD) (t : Fin cfg0.N) (h : t.val < 516) (y : S4096x256.Idx) :
    iblk m c 3 t y = at2 (arrays m c).wu ((y 0).val) (256 * (t.val / 12) + (y 1).val) := by
  obtain ⟨e0, e1⟩ := idx3 t h
  refine Eq.trans (b := (arrays m c).wu (((cfg0.win 3).blk t).view.emb y)) ?_ (eq_at2 _ _ ?_ ?_)
  · show V m c (Pipeline.arrRef spec0 3) _ = _
    rfl
  · show win0_3.index t (0 : Fin 2) * 4096 + 1 * (y 0).val = _; rw [e0]; omega
  · show win0_3.index t (1 : Fin 2) * 256 + 1 * (y 1).val = _; rw [e1]; omega

theorem idx4 : ∀ t : Fin cfg0.N, t.val < 516 → win0_4.index t (0 : Fin 2) = t.val / 12 ∧ win0_4.index t (1 : Fin 2) = 0 :=
  (by decide +kernel : ∀ t : Fin grid0.N, _)
theorem blk4 (c : Dev nD) (t : Fin cfg0.N) (h : t.val < 516) (y : S256x4096.Idx) :
    iblk m c 4 t y = at2 (arrays m c).wd (256 * (t.val / 12) + (y 0).val) ((y 1).val) := by
  obtain ⟨e0, e1⟩ := idx4 t h
  refine Eq.trans (b := (arrays m c).wd (((cfg0.win 4).blk t).view.emb y)) ?_ (eq_at2 _ _ ?_ ?_)
  · show V m c (Pipeline.arrRef spec0 4) _ = _
    rfl
  · show win0_4.index t (0 : Fin 2) * 256 + 1 * (y 0).val = _; rw [e0]; omega
  · show win0_4.index t (1 : Fin 2) * 4096 + 1 * (y 1).val = _; rw [e1]; omega

/-! ## The three bands a point computes -/

variable (a dy : Vec Ideal S512x4096 .bf16) (wg wu : Vec Ideal S4096x256 .bf16) (wd : Vec Ideal S256x4096 .bf16)

theorem pay27_apply (y : S512x256.Idx) :
    k0_pay27 a wg wu y = (∑ k : Fin 4096, a (ix2 (y 0) k) * wg (ix2 k (y 1))) * Ideal.logistic (∑ k : Fin 4096, a (ix2 (y 0) k) * wg (ix2 k (y 1)))
      * ∑ k : Fin 4096, a (ix2 (y 0) k) * wu (ix2 k (y 1)) := by
  pointwise [k0_pay27, k0_pay23, k0_pay24, k0_pay26]

theorem pay28_apply (y : S512x256.Idx) :
    k0_pay28 a wg wu dy wd y = (∑ k : Fin 4096, dy (ix2 (y 0) k) * wd (ix2 (y 1) k)) * (∑ k : Fin 4096, a (ix2 (y 0) k) * wu (ix2 k (y 1)))
      * Ideal.logistic (∑ k : Fin 4096, a (ix2 (y 0) k) * wg (ix2 k (y 1)))
      * (1 + (∑ k : Fin 4096, a (ix2 (y 0) k) * wg (ix2 k (y 1))) * (1 - Ideal.logistic (∑ k : Fin 4096, a (ix2 (y 0) k) * wg (ix2 k (y 1))))) := by
  pointwise [k0_pay28, k0_pay23, k0_pay24, k0_pay26, k0_pay25]

theorem pay29_apply (y : S512x256.Idx) :
    k0_pay29 a wg dy wd y = (∑ k : Fin 4096, dy (ix2 (y 0) k) * wd (ix2 (y 1) k)) * (∑ k : Fin 4096, a (ix2 (y 0) k) * wg (ix2 k (y 1)))
      * Ideal.logistic (∑ k : Fin 4096, a (ix2 (y 0) k) * wg (ix2 k (y 1))) := by
  pointwise [k0_pay29, k0_pay23, k0_pay26, k0_pay25]

theorem gate_blk (c : Dev nD) (t : Fin cfg0.N) (h : t.val < 516) (y : S512x256.Idx) :
    (∑ k : Fin 4096, (insAt m c t).x0 (ix2 (y 0) k) * (insAt m c t).x2 (ix2 k (y 1))) = gate (arrays m c) (512 * (t.val % 12) + (y 0).val) (256 * (t.val / 12) + (y 1).val) :=
  Finset.sum_congr rfl fun k _ => congrArg₂ (· * ·) (blk0 m c t h (ix2 (y 0) k)) (blk2 m c t h (ix2 k (y 1)))
theorem up_blk (c : Dev nD) (t : Fin cfg0.N) (h : t.val < 516) (y : S512x256.Idx) :
    (∑ k : Fin 4096, (insAt m c t).x0 (ix2 (y 0) k) * (insAt m c t).x3 (ix2 k (y 1))) = up (arrays m c) (512 * (t.val % 12) + (y 0).val) (256 * (t.val / 12) + (y 1).val) :=
  Finset.sum_congr rfl fun k _ => congrArg₂ (· * ·) (blk0 m c t h (ix2 (y 0) k)) (blk3 m c t h (ix2 k (y 1)))
theorem back_blk (c : Dev nD) (t : Fin cfg0.N) (h : t.val < 516) (y : S512x256.Idx) :
    (∑ k : Fin 4096, (insAt m c t).x1 (ix2 (y 0) k) * (insAt m c t).x4 (ix2 (y 1) k)) = back (arrays m c) (512 * (t.val % 12) + (y 0).val) (256 * (t.val / 12) + (y 1).val) :=
  Finset.sum_congr rfl fun k _ => congrArg₂ (· * ·) (blk1 m c t h (ix2 (y 0) k)) (blk4 m c t h (ix2 (y 1) k))

theorem w0_apply (c : Dev nD) (t : Fin cfg0.N) (h : t.val < 516) (y : S512x256.Idx) :
    w0 (insAt m c t) y = hid (arrays m c) (512 * (t.val % 12) + (y 0).val) (256 * (t.val / 12) + (y 1).val) := by
  unfold w0 hid
  rw [pay27_apply, gate_blk m c t h y, up_blk m c t h y]
theorem w1_apply (c : Dev nD) (t : Fin cfg0.N) (h : t.val < 516) (y : S512x256.Idx) :
    w1 (insAt m c t) y = dgate (arrays m c) (512 * (t.val % 12) + (y 0).val) (256 * (t.val / 12) + (y 1).val) := by
  unfold w1 dgate
  rw [pay28_apply, gate_blk m c t h y, up_blk m c t h y, back_blk m c t h y]
theorem w2_apply (c : Dev nD) (t : Fin cfg0.N) (h : t.val < 516) (y : S512x256.Idx) :
    w2 (insAt m c t) y = dup (arrays m c) (512 * (t.val % 12) + (y 0).val) (256 * (t.val / 12) + (y 1).val) := by
  unfold w2 dup
  rw [pay29_apply, gate_blk m c t h y, back_blk m c t h y]

/-! ## The invariant along the run -/

theorem inv_all (c : Dev nD) (q : St Ideal → Q) (w : Ins Ideal → Vec Ideal S512x256 .f32) (v : ℕ → ℕ → EReal) (hr : ∀ S, q (roll S) = qroll (q S))
    (hm : ∀ i X S, q (main i X S) = qmain i (w X) (q S)) (ht : ∀ i S, q (tail i S) = q S)
    (hw : ∀ t : Fin cfg0.N, t.val < 516 → ∀ y : S512x256.Idx, w (insAt m c t) y = v (512 * (t.val % 12) + (y 0).val) (256 * (t.val / 12) + (y 1).val)) :
    ∀ (n : ℕ) (h : n < cfg0.N), QInv v n (q (stAt m c n h)) := by
  have hband : ∀ t : Fin cfg0.N, t.val < 516 → ∀ r c', r < 512 → c' < 256 →
      at2 (R := 512) (C := 256) (w (insAt m c t)) r c' = v (512 * (t.val % 12) + r) (256 * (t.val / 12) + c') := fun t h r c' hr hc => by
    rw [at2_of_lt _ hr hc, hw t h]; rfl
  intro n
  induction n with
  | zero =>
    intro h
    obtain ⟨Z, hZ, e⟩ := q_step q w hr hm ht ⟨0, h⟩ (insAt m c ⟨0, h⟩) anySt
    rw [stAt_first m c ⟨0, h⟩ rfl, e]
    exact qinv_step v ⟨0, h⟩ _ Z (hband _) fun g => absurd rfl g
  | succ n ih =>
    intro h
    obtain ⟨Z, hZ, e⟩ := q_step q w hr hm ht ⟨n + 1, h⟩ (insAt m c ⟨n + 1, h⟩) (stAt m c n (by omega))
    rw [stAt_later m c ⟨n + 1, h⟩ (Nat.succ_ne_zero n)]
    refine (congrArg (QInv v (n + 1)) e).mpr (qinv_step v ⟨n + 1, h⟩ _ Z (hband _) fun g => ?_)
    rw [hZ g]
    exact ih (by omega)

theorem inv0 (c : Dev nD) (n : ℕ) (h : n < cfg0.N) : QInv (hid (arrays m c)) n (q0 (stAt m c n h)) :=
  inv_all m c q0 w0 _ q0_roll q0_main (fun _ _ => rfl) (w0_apply m c) n h
theorem inv1 (c : Dev nD) (n : ℕ) (h : n < cfg0.N) : QInv (dgate (arrays m c)) n (q1 (stAt m c n h)) :=
  inv_all m c q1 w1 _ q1_roll q1_main (fun _ _ => rfl) (w1_apply m c) n h
theorem inv2 (c : Dev nD) (n : ℕ) (h : n < cfg0.N) : QInv (dup (arrays m c)) n (q2 (stAt m c n h)) :=
  inv_all m c q2 w2 _ q2_roll q2_main (fun _ _ => rfl) (w2_apply m c) n h

/-! ## What each point leaves in its blocks -/

/-- What the rest of a point's step works from. -/
def entS (t : Fin cfg0.N) (S : St Ideal) : St Ideal := if t.val % 12 = 0 then roll S else S

theorem q_ent (q : St Ideal → Q) (hr : ∀ S, q (roll S) = qroll (q S)) (t : Fin cfg0.N) (S : St Ideal) : q (entS t S) = qent t (q S) := by
  unfold entS qent; split
  · exact hr S
  · rfl

section
variable (v : Vec Ideal S512x256 .f32) (s : Vec Ideal S1x1x256 .f32)
theorem code17 : k0_pay17 v s = k0_pay19 v s := rfl
theorem code41 : k0_pay41 v s = k0_pay19 v s := rfl
theorem code43 : k0_pay43 v s = k0_pay19 v s := rfl
theorem code42 : k0_pay42 v s = k0_pay18 v s := rfl
theorem code22 : k0_pay22 (k0_pay20 v s) (FloatOps.ofBits .f32 0x43E00000#32) k0_pay21 = k0_pay19 v s := rfl
theorem code11 : k0_pay11 (k0_pay44 v s) (FloatOps.ofBits .f32 0x43E00000#32) k0_pay45 = k0_pay19 v s := rfl
end

/-- The codes written over contents `S`. -/
def Codes (i : grid0.Coords) (S R : St Ideal) : Prop :=
  R.o8 = k0_pay19 (win i S.s0) (sc0 S.s4) ∧ R.o9 = k0_pay18 (win i S.s0) (sc0 S.s4)
    ∧ R.o10 = k0_pay19 (win i S.s1) (sc1 S.s4) ∧ R.o11 = k0_pay19 (win i S.s2) (sc2 S.s4)

theorem main_codes (i : grid0.Coords) (X : Ins Ideal) (S : St Ideal) : Codes i S (main i X S) :=
  ⟨code17 _ _, rfl, rfl, code22 _ _⟩
theorem tail_codes (i : grid0.Coords) (S : St Ideal) : Codes i S (tail i S) :=
  ⟨code41 _ _, code42 _ _, code43 _ _, code11 _ _⟩

/-- The codes of a step: either branch writes the same ones. -/
theorem step_codes (t : Fin cfg0.N) (h0 : t.val ≠ 0) (X : Ins Ideal) (S : St Ideal) : Codes (grid0.coords t) (entS t S) (step t X S) := by
  unfold step entS
  rw [if_neg h0]
  by_cases h1 : t.val < 516
  · rw [if_pos h1]
    by_cases h2 : t.val % 12 = 0
    · rw [if_pos h2, if_pos h2]; exact main_codes _ _ _
    · rw [if_neg h2, if_neg h2]; exact main_codes _ _ _
  · rw [if_neg h1]
    by_cases h2 : t.val % 12 = 0
    · rw [if_pos h2, if_pos h2]; exact tail_codes _ _
    · rw [if_neg h2, if_neg h2]; exact tail_codes _ _

/-- The codes after a point are those of the block of columns before the current one. -/
theorem codes_at (c : Dev nD) (t : Fin cfg0.N) (h : 12 ≤ t.val) :
    (∀ y : S512x256.Idx, (stAt m c t.val t.isLt).o8 y = codeAt (hid (arrays m c)) (512 * (t.val % 12) + (y 0).val) (256 * (t.val / 12 - 1) + (y 1).val))
    ∧ (∀ y : S256x512.Idx, (stAt m c t.val t.isLt).o9 y = codeAt (hid (arrays m c)) (512 * (t.val % 12) + (y 1).val) (256 * (t.val / 12 - 1) + (y 0).val))
    ∧ (∀ y : S512x256.Idx, (stAt m c t.val t.isLt).o10 y = codeAt (dgate (arrays m c)) (512 * (t.val % 12) + (y 0).val) (256 * (t.val / 12 - 1) + (y 1).val))
    ∧ (∀ y : S512x256.Idx, (stAt m c t.val t.isLt).o11 y = codeAt (dup (arrays m c)) (512 * (t.val % 12) + (y 0).val) (256 * (t.val / 12 - 1) + (y 1).val)) := by
  have h0 : t.val ≠ 0 := by omega
  rw [stAt_later m c t h0]
  obtain ⟨e8, e9, e10, e11⟩ := step_codes t h0 (insAt m c t) (stAt m c (t.val - 1) (by omega))
  have r0 := q_ent q0 q0_roll t (stAt m c (t.val - 1) (by omega))
  have r1 := q_ent q1 q1_roll t (stAt m c (t.val - 1) (by omega))
  have r2 := q_ent q2 q2_roll t (stAt m c (t.val - 1) (by omega))
  have s0 := congrArg Q.s r0
  have s1 := congrArg Q.s r1
  have s2 := congrArg Q.s r2
  have c0 := congrArg Q.sc r0
  have c1 := congrArg Q.sc r1
  have c2 := congrArg Q.sc r2
  dsimp only [q0, q1, q2] at s0 s1 s2 c0 c1 c2
  rw [e8, e9, e10, e11, s0, s1, s2, c0, c1, c2]
  refine ⟨fun y => ?_, fun y => ?_, fun y => ?_, fun y => ?_⟩
  · exact (pay19_apply _ _ y).trans (ent_code _ t _ h (inv0 m c (t.val - 1) (by omega)) y)
  · exact (pay18_apply _ _ y).trans (ent_code _ t _ h (inv0 m c (t.val - 1) (by omega)) (ix2 (y 1) (y 0)))
  · exact (pay19_apply _ _ y).trans (ent_code _ t _ h (inv1 m c (t.val - 1) (by omega)) y)
  · exact (pay19_apply _ _ y).trans (ent_code _ t _ h (inv2 m c (t.val - 1) (by omega)) y)

/-- The bands a step writes. -/
theorem step_bands (t : Fin cfg0.N) (h1 : t.val < 516) (X : Ins Ideal) (S : St Ideal) :
    (∀ y : S512x256.Idx, (step t X S).o5 y = w0 X y) ∧ (∀ y : S512x256.Idx, (step t X S).o6 y = w1 X y) ∧ (∀ y : S512x256.Idx, (step t X S).o7 y = w2 X y) := by
  have g : ∀ R, (∀ y : S512x256.Idx, (main (grid0.coords t) X R).o5 y = w0 X y) ∧ (∀ y : S512x256.Idx, (main (grid0.coords t) X R).o6 y = w1 X y) ∧ (∀ y : S512x256.Idx, (main (grid0.coords t) X R).o7 y = w2 X y) := fun R =>
    ⟨fun y => pay31_apply _ _ _ y, fun y => pay35_apply _ y, fun y => pay38_apply _ y⟩
  unfold step
  rw [if_pos h1]
  split
  · exact g _
  · split
    · exact g _
    · exact g _

theorem stAt_step (c : Dev nD) (t : Fin cfg0.N) : ∃ S, stAt m c t.val t.isLt = step t (insAt m c t) S := by
  by_cases h : t.val = 0
  · exact ⟨_, stAt_first m c t h⟩
  · exact ⟨_, stAt_later m c t h⟩

/-- What the first three blocks hold after point `n`: the bands of the last point that computed any. -/
def BandsAt (c : Dev nD) (n : ℕ) (h : n < cfg0.N) : Prop :=
    (∀ y : S512x256.Idx, (stAt m c n h).o5 y = hid (arrays m c) (512 * (min n 515 % 12) + (y 0).val) (256 * (min n 515 / 12) + (y 1).val))
    ∧ (∀ y : S512x256.Idx, (stAt m c n h).o6 y = dgate (arrays m c) (512 * (min n 515 % 12) + (y 0).val) (256 * (min n 515 / 12) + (y 1).val))
    ∧ (∀ y : S512x256.Idx, (stAt m c n h).o7 y = dup (arrays m c) (512 * (min n 515 % 12) + (y 0).val) (256 * (min n 515 / 12) + (y 1).val))

theorem bands_direct (c : Dev nD) (t : Fin cfg0.N) (h1 : t.val < 516) : BandsAt m c t.val t.isLt := by
  obtain ⟨S, e⟩ := stAt_step m c t
  have e2 : min t.val 515 = t.val := by omega
  obtain ⟨b0, b1, b2⟩ := step_bands t h1 (insAt m c t) S
  rw [← e] at b0 b1 b2
  unfold BandsAt
  rw [e2]
  exact ⟨fun y => (b0 y).trans (w0_apply m c t h1 y), fun y => (b1 y).trans (w1_apply m c t h1 y), fun y => (b2 y).trans (w2_apply m c t h1 y)⟩

theorem bands_at (c : Dev nD) : ∀ (n : ℕ) (h : n < cfg0.N), BandsAt m c n h := by
  intro n
  induction n with
  | zero => exact fun h => bands_direct m c ⟨0, h⟩ (by show 0 < 516; omega)
  | succ n ih =>
    intro h
    by_cases h1 : n + 1 < 516
    · exact bands_direct m c ⟨n + 1, h⟩ h1
    · have k5 := keep_5 m c ⟨n + 1, h⟩ (Nat.succ_ne_zero n) (by show 516 ≤ n + 1; omega)
      have k6 := keep_6 m c ⟨n + 1, h⟩ (Nat.succ_ne_zero n) (by show 516 ≤ n + 1; omega)
      have k7 := keep_7 m c ⟨n + 1, h⟩ (Nat.succ_ne_zero n) (by show 516 ≤ n + 1; omega)
      have e2 : min (n + 1) 515 = min n 515 := by omega
      unfold BandsAt
      rw [e2, k5, k6, k7]
      exact ih (by omega)

/-- An index of a row of scales. -/
theorem eq_row (y : S1x1x256.Idx) : y = ix3 (0 : Fin 1) (0 : Fin 1) (y 2) := by
  funext k
  match k with
  | 0 => exact Subsingleton.elim (α := Fin 1) _ _
  | 1 => exact Subsingleton.elim (α := Fin 1) _ _
  | 2 => rfl

theorem scales_at (c : Dev nD) (t : Fin cfg0.N) (h : 12 ≤ t.val) (y : S1x1x256.Idx) :
    (stAt m c t.val t.isLt).o12 y = sclOf (hid (arrays m c)) (256 * (t.val / 12 - 1) + (y 2).val)
    ∧ (stAt m c t.val t.isLt).o13 y = sclOf (dgate (arrays m c)) (256 * (t.val / 12 - 1) + (y 2).val)
    ∧ (stAt m c t.val t.isLt).o14 y = sclOf (dup (arrays m c)) (256 * (t.val / 12 - 1) + (y 2).val) := by
  have a0 := (inv0 m c t.val t.isLt).o h (y 2)
  have a1 := (inv1 m c t.val t.isLt).o h (y 2)
  have a2 := (inv2 m c t.val t.isLt).o h (y 2)
  exact ⟨(congrArg (stAt m c t.val t.isLt).o12 (eq_row y)).trans a0, (congrArg (stAt m c t.val t.isLt).o13 (eq_row y)).trans a1,
    (congrArg (stAt m c t.val t.isLt).o14 (eq_row y)).trans a2⟩

end Cert.FfnIdeal.Hand

end
-- ==== Proof.FfnArrays.lean ====
/-
  The feed-forward call's ten results after the run, entry by entry, from what each grid point leaves in its blocks.
-/
module

public import proofs.«01_k».proof.Proof.FfnPoints
public import Idealize.ShloMosaic.Lib.Pipeline.ValueKit.Geometry

@[expose] public section

set_option maxRecDepth 16384

noncomputable section

open Idealize.ShloMosaic Idealize.ShloMosaic.TcCoe Idealize.SL.Sem

namespace Cert.FfnIdeal.Hand

open Cert.FfnIdeal Cert.FfnIdeal.Gen Cert.Common Cert.FfnSpec

variable (m : (ℓ : Loc nD τ sig) → Buf (Elt Ideal) ℓ) (ρ : Dev nD → PrngReg)

theorem at5 : ∀ t : Fin cfg0.N, (cfg0.win 5).flush t = true → win0_5.index t (0 : Fin 2) = min t.val 515 % 12 ∧ win0_5.index t (1 : Fin 2) = min t.val 515 / 12 :=
  (by decide +kernel : ∀ t : Fin grid0.N, _)
/-- Result 0. -/
def R5 (c : Dev nD) : Buf (Elt Ideal) ((c : Thread nD τ).loc main_v0_0) :=
  fun i : S6144x11008.Idx => hid (arrays m c) (i 0).val (i 1).val
theorem array5 (c : Dev nD) : (dats m 0 c).arrAt 5 cfg0.N = R5 m c := by
  refine (dats m 0 c).arrAt_eq_of_covers 5 (R5 m c) (by decide +kernel) fun t hf y => ?_
  refine Eq.trans (b := (dats m 0 c).after 5 t y) rfl ?_
  rw [after_5]
  obtain ⟨e0, e1⟩ := at5 t hf
  refine ((bands_at m c t.val t.isLt).1 y).trans ?_
  refine congrArg₂ (hid (arrays m c)) ?_ ?_
  · show _ = win0_5.index t (0 : Fin 2) * 512 + 1 * (y 0).val; rw [e0]; omega
  · show _ = win0_5.index t (1 : Fin 2) * 256 + 1 * (y 1).val; rw [e1]; omega

theorem at6 : ∀ t : Fin cfg0.N, (cfg0.win 6).flush t = true → win0_6.index t (0 : Fin 2) = min t.val 515 % 12 ∧ win0_6.index t (1 : Fin 2) = min t.val 515 / 12 :=
  (by decide +kernel : ∀ t : Fin grid0.N, _)
/-- Result 1. -/
def R6 (c : Dev nD) : Buf (Elt Ideal) ((c : Thread nD τ).loc main_v0_1) :=
  fun i : S6144x11008.Idx => dgate (arrays m c) (i 0).val (i 1).val
theorem array6 (c : Dev nD) : (dats m 0 c).arrAt 6 cfg0.N = R6 m c := by
  refine (dats m 0 c).arrAt_eq_of_covers 6 (R6 m c) (by decide +kernel) fun t hf y => ?_
  refine Eq.trans (b := (dats m 0 c).after 6 t y) rfl ?_
  rw [after_6]
  obtain ⟨e0, e1⟩ := at6 t hf
  refine ((bands_at m c t.val t.isLt).2.1 y).trans ?_
  refine congrArg₂ (dgate (arrays m c)) ?_ ?_
  · show _ = win0_6.index t (0 : Fin 2) * 512 + 1 * (y 0).val; rw [e0]; omega
  · show _ = win0_6.index t (1 : Fin 2) * 256 + 1 * (y 1).val; rw [e1]; omega

theorem at7 : ∀ t : Fin cfg0.N, (cfg0.win 7).flush t = true → win0_7.index t (0 : Fin 2) = min t.val 515 % 12 ∧ win0_7.index t (1 : Fin 2) = min t.val 515 / 12 :=
  (by decide +kernel : ∀ t : Fin grid0.N, _)
/-- Result 2. -/
def R7 (c : Dev nD) : Buf (Elt Ideal) ((c : Thread nD τ).loc main_v0_2) :=
  fun i : S6144x11008.Idx => dup (arrays m c) (i 0).val (i 1).val
theorem array7 (c : Dev nD) : (dats m 0 c).arrAt 7 cfg0.N = R7 m c := by
  refine (dats m 0 c).arrAt_eq_of_covers 7 (R7 m c) (by decide +kernel) fun t hf y => ?_
  refine Eq.trans (b := (dats m 0 c).after 7 t y) rfl ?_
  rw [after_7]
  obtain ⟨e0, e1⟩ := at7 t hf
  refine ((bands_at m c t.val t.isLt).2.2 y).trans ?_
  refine congrArg₂ (dup (arrays m c)) ?_ ?_
  · show _ = win0_7.index t (0 : Fin 2) * 512 + 1 * (y 0).val; rw [e0]; omega
  · show _ = win0_7.index t (1 : Fin 2) * 256 + 1 * (y 1).val; rw [e1]; omega

theorem at8 : ∀ t : Fin cfg0.N, (cfg0.win 8).flush t = true → 12 ≤ t.val ∧ win0_8.index t (0 : Fin 2) = t.val % 12 ∧ win0_8.index t (1 : Fin 2) = t.val / 12 - 1 :=
  (by decide +kernel : ∀ t : Fin grid0.N, _)
/-- Result 3. -/
def R8 (c : Dev nD) : Buf (Elt Ideal) ((c : Thread nD τ).loc main_v0_3) :=
  fun i : S6144x11008.Idx => codeAt (hid (arrays m c)) (i 0).val (i 1).val
theorem array8 (c : Dev nD) : (dats m 0 c).arrAt 8 cfg0.N = R8 m c := by
  refine (dats m 0 c).arrAt_eq_of_covers 8 (R8 m c) (by decide +kernel) fun t hf y => ?_
  refine Eq.trans (b := (dats m 0 c).after 8 t y) rfl ?_
  rw [after_8]
  obtain ⟨h12, e0, e1⟩ := at8 t hf
  refine ((codes_at m c t h12).1 y).trans ?_
  refine congrArg₂ (codeAt (hid (arrays m c))) ?_ ?_
  · show _ = win0_8.index t (0 : Fin 2) * 512 + 1 * (y 0).val; rw [e0]; omega
  · show _ = win0_8.index t (1 : Fin 2) * 256 + 1 * (y 1).val; rw [e1]; omega

theorem at9 : ∀ t : Fin cfg0.N, (cfg0.win 9).flush t = true → 12 ≤ t.val ∧ win0_9.index t (0 : Fin 2) = t.val / 12 - 1 ∧ win0_9.index t (1 : Fin 2) = t.val % 12 :=
  (by decide +kernel : ∀ t : Fin grid0.N, _)
/-- Result 4. -/
def R9 (c : Dev nD) : Buf (Elt Ideal) ((c : Thread nD τ).loc main_v0_4) :=
  fun i : S11008x6144.Idx => codeAt (hid (arrays m c)) (i 1).val (i 0).val
theorem array9 (c : Dev nD) : (dats m 0 c).arrAt 9 cfg0.N = R9 m c := by
  refine (dats m 0 c).arrAt_eq_of_covers 9 (R9 m c) (by decide +kernel) fun t hf y => ?_
  refine Eq.trans (b := (dats m 0 c).after 9 t y) rfl ?_
  rw [after_9]
  obtain ⟨h12, e0, e1⟩ := at9 t hf
  refine ((codes_at m c t h12).2.1 y).trans ?_
  refine congrArg₂ (codeAt (hid (arrays m c))) ?_ ?_
  · show _ = win0_9.index t (1 : Fin 2) * 512 + 1 * (y 1).val; rw [e1]; omega
  · show _ = win0_9.index t (0 : Fin 2) * 256 + 1 * (y 0).val; rw [e0]; omega

theorem at10 : ∀ t : Fin cfg0.N, (cfg0.win 10).flush t = true → 12 ≤ t.val ∧ win0_10.index t (0 : Fin 2) = t.val % 12 ∧ win0_10.index t (1 : Fin 2) = t.val / 12 - 1 :=
  (by decide +kernel : ∀ t : Fin grid0.N, _)
/-- Result 5. -/
def R10 (c : Dev nD) : Buf (Elt Ideal) ((c : Thread nD τ).loc main_v0_5) :=
  fun i : S6144x11008.Idx => codeAt (dgate (arrays m c)) (i 0).val (i 1).val
theorem array10 (c : Dev nD) : (dats m 0 c).arrAt 10 cfg0.N = R10 m c := by
  refine (dats m 0 c).arrAt_eq_of_covers 10 (R10 m c) (by decide +kernel) fun t hf y => ?_
  refine Eq.trans (b := (dats m 0 c).after 10 t y) rfl ?_
  rw [after_10]
  obtain ⟨h12, e0, e1⟩ := at10 t hf
  refine ((codes_at m c t h12).2.2.1 y).trans ?_
  refine congrArg₂ (codeAt (dgate (arrays m c))) ?_ ?_
  · show _ = win0_10.index t (0 : Fin 2) * 512 + 1 * (y 0).val; rw [e0]; omega
  · show _ = win0_10.index t (1 : Fin 2) * 256 + 1 * (y 1).val; rw [e1]; omega

theorem at11 : ∀ t : Fin cfg0.N, (cfg0.win 11).flush t = true → 12 ≤ t.val ∧ win0_11.index t (0 : Fin 2) = t.val % 12 ∧ win0_11.index t (1 : Fin 2) = t.val / 12 - 1 :=
  (by decide +kernel : ∀ t : Fin grid0.N, _)
/-- Result 6. -/
def R11 (c : Dev nD) : Buf (Elt Ideal) ((c : Thread nD τ).loc main_v0_6) :=
  fun i : S6144x11008.Idx => codeAt (dup (arrays m c)) (i 0).val (i 1).val
theorem array11 (c : Dev nD) : (dats m 0 c).arrAt 11 cfg0.N = R11 m c := by
  refine (dats m 0 c).arrAt_eq_of_covers 11 (R11 m c) (by decide +kernel) fun t hf y => ?_
  refine Eq.trans (b := (dats m 0 c).after 11 t y) rfl ?_
  rw [after_11]
  obtain ⟨h12, e0, e1⟩ := at11 t hf
  refine ((codes_at m c t h12).2.2.2 y).trans ?_
  refine congrArg₂ (codeAt (dup (arrays m c))) ?_ ?_
  · show _ = win0_11.index t (0 : Fin 2) * 512 + 1 * (y 0).val; rw [e0]; omega
  · show _ = win0_11.index t (1 : Fin 2) * 256 + 1 * (y 1).val; rw [e1]; omega

theorem at12 : ∀ t : Fin cfg0.N, (cfg0.win 12).flush t = true → 12 ≤ t.val ∧ win0_12.index t (0 : Fin 3) = t.val / 12 - 1 ∧ win0_12.index t (2 : Fin 3) = 0 :=
  (by decide +kernel : ∀ t : Fin grid0.N, _)
/-- Result 7. -/
def R12 (c : Dev nD) : Buf (Elt Ideal) ((c : Thread nD τ).loc main_v0_7) :=
  fun i : S43x1x256.Idx => sclOf (hid (arrays m c)) (256 * (i 0).val + (i 2).val)
theorem array12 (c : Dev nD) : (dats m 0 c).arrAt 12 cfg0.N = R12 m c := by
  refine (dats m 0 c).arrAt_eq_of_covers 12 (R12 m c) (by decide +kernel) fun t hf y => ?_
  refine Eq.trans (b := (dats m 0 c).after 12 t y) rfl ?_
  rw [after_12]
  obtain ⟨h12, e0, e2⟩ := at12 t hf
  refine ((scales_at m c t h12 y).1).trans ?_
  refine congrArg (sclOf (hid (arrays m c))) ?_
  show _ = 256 * (win0_12.index t (0 : Fin 3) * 1 + 1 * (y 0).val) + (win0_12.index t (2 : Fin 3) * 256 + 1 * (y 2).val)
  have hy : (y 0).val < 1 := (y 0).isLt
  rw [e0, e2]; omega

theorem at13 : ∀ t : Fin cfg0.N, (cfg0.win 13).flush t = true → 12 ≤ t.val ∧ win0_13.index t (0 : Fin 3) = t.val / 12 - 1 ∧ win0_13.index t (2 : Fin 3) = 0 :=
  (by decide +kernel : ∀ t : Fin grid0.N, _)
/-- Result 8. -/
def R13 (c : Dev nD) : Buf (Elt Ideal) ((c : Thread nD τ).loc main_v0_8) :=
  fun i : S43x1x256.Idx => sclOf (dgate (arrays m c)) (256 * (i 0).val + (i 2).val)
theorem array13 (c : Dev nD) : (dats m 0 c).arrAt 13 cfg0.N = R13 m c := by
  refine (dats m 0 c).arrAt_eq_of_covers 13 (R13 m c) (by decide +kernel) fun t hf y => ?_
  refine Eq.trans (b := (dats m 0 c).after 13 t y) rfl ?_
  rw [after_13]
  obtain ⟨h12, e0, e2⟩ := at13 t hf
  refine ((scales_at m c t h12 y).2.1).trans ?_
  refine congrArg (sclOf (dgate (arrays m c))) ?_
  show _ = 256 * (win0_13.index t (0 : Fin 3) * 1 + 1 * (y 0).val) + (win0_13.index t (2 : Fin 3) * 256 + 1 * (y 2).val)
  have hy : (y 0).val < 1 := (y 0).isLt
  rw [e0, e2]; omega

theorem at14 : ∀ t : Fin cfg0.N, (cfg0.win 14).flush t = true → 12 ≤ t.val ∧ win0_14.index t (0 : Fin 3) = t.val / 12 - 1 ∧ win0_14.index t (2 : Fin 3) = 0 :=
  (by decide +kernel : ∀ t : Fin grid0.N, _)
/-- Result 9. -/
def R14 (c : Dev nD) : Buf (Elt Ideal) ((c : Thread nD τ).loc main_v0_9) :=
  fun i : S43x1x256.Idx => sclOf (dup (arrays m c)) (256 * (i 0).val + (i 2).val)
theorem array14 (c : Dev nD) : (dats m 0 c).arrAt 14 cfg0.N = R14 m c := by
  refine (dats m 0 c).arrAt_eq_of_covers 14 (R14 m c) (by decide +kernel) fun t hf y => ?_
  refine Eq.trans (b := (dats m 0 c).after 14 t y) rfl ?_
  rw [after_14]
  obtain ⟨h12, e0, e2⟩ := at14 t hf
  refine ((scales_at m c t h12 y).2.2).trans ?_
  refine congrArg (sclOf (dup (arrays m c))) ?_
  show _ = 256 * (win0_14.index t (0 : Fin 3) * 1 + 1 * (y 0).val) + (win0_14.index t (2 : Fin 3) * 256 + 1 * (y 2).val)
  have hy : (y 0).val < 1 := (y 0).isLt
  rw [e0, e2]; omega

/-- The run, with every result named. -/
theorem run : θ_run defs (onTc (τ := τ) (Cert.FfnIdeal.main (F := Ideal))) ⟨m, fun _ => 0, ρ⟩ fun r => ∀ c : Dev nD,
      r.2.mem ((c : Thread nD τ).loc main_v0_0) = R5 m c
      ∧ r.2.mem ((c : Thread nD τ).loc main_v0_1) = R6 m c
      ∧ r.2.mem ((c : Thread nD τ).loc main_v0_2) = R7 m c
      ∧ r.2.mem ((c : Thread nD τ).loc main_v0_3) = R8 m c
      ∧ r.2.mem ((c : Thread nD τ).loc main_v0_4) = R9 m c
      ∧ r.2.mem ((c : Thread nD τ).loc main_v0_5) = R10 m c
      ∧ r.2.mem ((c : Thread nD τ).loc main_v0_6) = R11 m c
      ∧ r.2.mem ((c : Thread nD τ).loc main_v0_7) = R12 m c
      ∧ r.2.mem ((c : Thread nD τ).loc main_v0_8) = R13 m c
      ∧ r.2.mem ((c : Thread nD τ).loc main_v0_9) = R14 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨
      ((h c).1 5).trans (array5 m c),
      ((h c).1 6).trans (array6 m c),
      ((h c).1 7).trans (array7 m c),
      ((h c).1 8).trans (array8 m c),
      ((h c).1 9).trans (array9 m c),
      ((h c).1 10).trans (array10 m c),
      ((h c).1 11).trans (array11 m c),
      ((h c).1 12).trans (array12 m c),
      ((h c).1 13).trans (array13 m c),
      ((h c).1 14).trans (array14 m c),
      (((h c).1 0).trans ((dats m 0 c).arrAt_in 0 rfl _)).trans (A_eq m c 0),
      (((h c).1 1).trans ((dats m 0 c).arrAt_in 1 rfl _)).trans (A_eq m c 1),
      (((h c).1 2).trans ((dats m 0 c).arrAt_in 2 rfl _)).trans (A_eq m c 2),
      (((h c).1 3).trans ((dats m 0 c).arrAt_in 3 rfl _)).trans (A_eq m c 3),
      (((h c).1 4).trans ((dats m 0 c).arrAt_in 4 rfl _)).trans (A_eq m c 4)⟩)
    (run_main m ρ)

end Cert.FfnIdeal.Hand

end
-- ==== Proof.FfnRefPoint.lean ====
/-
  The feed-forward reference at an entry: the hidden product, the two gradients, and a column's scale and codes.
-/
module

public import proofs.«01_k».proof.Proof.FfnSpec
public import proofs.«01_k».proof.Proof.Gen.FfnRefIdeal.Frame
public import Idealize.ShloMosaic.Lib.Tactic
public import Idealize.ShloMosaic.Lib.ValueLayout

@[expose] public section

set_option maxRecDepth 65536

noncomputable section

open Idealize.ShloMosaic Idealize.ShloMosaic.TcCoe Idealize.SL.Sem
open Idealize.ShloMosaic.ValueIdx (shapeCast_a_1a_apply broadcastTo_1b_ab_apply)

namespace Cert.FfnRefIdeal.Hand

open Cert.FfnRefIdeal Cert.FfnRefIdeal.Gen Cert.Common Cert.FfnSpec

variable (a dy : Vec Ideal S6144x4096 .bf16) (wg wu : Vec Ideal S4096x11008 .bf16) (wd : Vec Ideal S11008x4096 .bf16)

theorem pay7_apply (y : S6144x11008.Idx) :
    k0_pay7 a wg wu y = (∑ k : Fin 4096, a (ix2 (y 0) k) * wg (ix2 k (y 1))) * Ideal.logistic (∑ k : Fin 4096, a (ix2 (y 0) k) * wg (ix2 k (y 1)))
      * ∑ k : Fin 4096, a (ix2 (y 0) k) * wu (ix2 k (y 1)) := by
  pointwise [k0_pay7, k0_pay5, k0_pay6]

theorem pay10_apply (y : S6144x11008.Idx) :
    k0_pay10 a wg wu dy wd y = (∑ k : Fin 4096, dy (ix2 (y 0) k) * wd (ix2 (y 1) k)) * (∑ k : Fin 4096, a (ix2 (y 0) k) * wu (ix2 k (y 1)))
      * Ideal.logistic (∑ k : Fin 4096, a (ix2 (y 0) k) * wg (ix2 k (y 1)))
      * (1 + (∑ k : Fin 4096, a (ix2 (y 0) k) * wg (ix2 k (y 1))) * (1 - Ideal.logistic (∑ k : Fin 4096, a (ix2 (y 0) k) * wg (ix2 k (y 1))))) := by
  pointwise [k0_pay10, k0_pay5, k0_pay6, k0_pay8, k0_pay9]

theorem pay11_apply (y : S6144x11008.Idx) :
    k0_pay11 a wg dy wd y = (∑ k : Fin 4096, dy (ix2 (y 0) k) * wd (ix2 (y 1) k)) * (∑ k : Fin 4096, a (ix2 (y 0) k) * wg (ix2 k (y 1)))
      * Ideal.logistic (∑ k : Fin 4096, a (ix2 (y 0) k) * wg (ix2 k (y 1))) := by
  pointwise [k0_pay11, k0_pay5, k0_pay8, k0_pay9]

variable (v : FVec Ideal S6144x11008 .f32)

/-- The largest absolute values of the columns, -/
def tops : FVec Ideal S1x11008 .f32 :=
  shapeCast S1x11008 (multiReduction .maximumf [0] S11008 (absf v) 0xFF800000#32 reduces_S6144x11008_S11008 (.inl rfl) rfl) shapeCasts_S11008_S1x11008

/-- An index of a column with a row put back. -/
theorem lift_row {a b : ℕ} (h : (⟨2, ![a, b]⟩ : Shape).Reduces [0] (⟨1, ![b]⟩ : Shape)) (n : Fin b) (r : Fin a) :
    h.lift (ix1 n) r = ix2 r n := by
  funext k
  match k with
  | ⟨0, _⟩ => rfl
  | ⟨1, _⟩ => rfl

theorem tops_apply (n : Fin 11008) : tops v (ix2 (0 : Fin 1) n) = (Finset.univ : Finset (Fin 6144)).fold max start fun r => ab (v (ix2 r n)) := by
  unfold tops
  refine (shapeCast_a_1a_apply _ _ 0 n).trans ?_
  refine (Ideal.multiReduction_maximumf_single (absf v) 0xFF800000#32 reduces_S6144x11008_S11008 (.inl rfl) rfl (ix1 n)).trans ?_
  refine congrArg (fun g : Fin 6144 → EReal => (Finset.univ : Finset (Fin 6144)).fold max start g) (funext fun r => ?_)
  exact congrArg (fun i : S6144x11008.Idx => ab (v i)) (lift_row reduces_S6144x11008_S11008 n r)

/-- the scales from them, -/
def scaleRow (x : FVec Ideal S1x11008 .f32) : FVec Ideal S1x11008 .f32 :=
  select (cmpf .ogt x (broadcast S1x11008 (FloatOps.ofBits (F := Ideal) .f32 0x00000000#32))) (divf x (broadcast S1x11008 (FloatOps.ofBits (F := Ideal) .f32 0x43E00000#32)))
    (broadcast S1x11008 (FloatOps.ofBits (F := Ideal) .f32 0x3F800000#32))
theorem scaleRow_apply (x : FVec Ideal S1x11008 .f32) (y : S1x11008.Idx) : scaleRow x y = scl (x y) := by
  pointwise [scaleRow, scl]
theorem pay19_eq : k0_pay19 v = scaleRow (tops v) := rfl
theorem pay19_apply (n : Fin 11008) :
    k0_pay19 v (ix2 (0 : Fin 1) n) = scl ((Finset.univ : Finset (Fin 6144)).fold max start fun r => ab (v (ix2 r n))) := by
  rw [pay19_eq, scaleRow_apply, tops_apply]

/-- and the codes of the entries. -/
def codeAll (s : FVec Ideal S6144x11008 .f32) : FVec Ideal S6144x11008 .fp8e4m3 :=
  truncf .fp8e4m3 (minimumf (broadcast S6144x11008 (FloatOps.ofBits (F := Ideal) .f32 0x43E00000#32)) (maximumf (broadcast S6144x11008 (FloatOps.ofBits (F := Ideal) .f32 0xC3E00000#32)) (divf v s))) bitsLt_fp8e4m3_f32
theorem codeAll_apply (s : FVec Ideal S6144x11008 .f32) (y : S6144x11008.Idx) : codeAll v s y = cod (v y) (s y) := by
  pointwise [codeAll, cod]
theorem pay20_eq : k0_pay20 v = codeAll v (broadcastTo S6144x11008 (k0_pay19 v) broadcasts_S1x11008_S6144x11008) := rfl
theorem pay20_apply (r : Fin 6144) (n : Fin 11008) : k0_pay20 v (ix2 r n) = cod (v (ix2 r n)) (k0_pay19 v (ix2 (0 : Fin 1) n)) := by
  rw [pay20_eq, codeAll_apply]
  exact congrArg (cod _) (broadcastTo_1b_ab_apply _ _ r n)

theorem pay21_eq : k0_pay21 v = k0_pay19 v := rfl
theorem pay22_eq : k0_pay22 v = k0_pay20 v := rfl
theorem pay17_eq : k0_pay17 (k0_pay15 a wg wu) (k0_pay16 a wg wu) (FloatOps.ofBits .f32 0x43E00000#32) = k0_pay19 (k0_pay7 a wg wu) := rfl
theorem pay18_eq : k0_pay18 (k0_pay7 a wg wu) (k0_pay15 a wg wu) (k0_pay16 a wg wu) (FloatOps.ofBits .f32 0x43E00000#32) = k0_pay20 (k0_pay7 a wg wu) := rfl

theorem pay12_apply (y : S6144x11008.Idx) : k0_pay12 a wg wu y = k0_pay7 a wg wu y := by
  pointwise [k0_pay12]
theorem pay13_apply (y : S6144x11008.Idx) : k0_pay13 a wg wu dy wd y = k0_pay10 a wg wu dy wd y := by
  pointwise [k0_pay13]
theorem pay14_apply (y : S6144x11008.Idx) : k0_pay14 a wg dy wd y = k0_pay11 a wg dy wd y := by
  pointwise [k0_pay14]
theorem pay1_apply (w : FVec Ideal S6144x11008 .fp8e4m3) (y : S11008x6144.Idx) : k0_pay1 w y = w (ix2 (y 1) (y 0)) := by
  pointwise [k0_pay1]
theorem pay2_apply (w : FVec Ideal S1x11008 .f32) (y : S43x1x256.Idx) :
    k0_pay2 w y = at2 (R := 1) (C := 11008) w 0 (256 * (y 0).val + (y 2).val) := by
  have h0 : (y 0).val < 43 := (y 0).isLt
  have h1 : (y 1).val < 1 := (y 1).isLt
  have h2 : (y 2).val < 256 := (y 2).isLt
  refine Eq.trans ?_ (eq_at2 (R := 1) (C := 11008) w (ix2 (0 : Fin 1) (⟨(y 0).val * 256 + (y 2).val, by omega⟩ : Fin 11008)) rfl (by show (y 0).val * 256 + (y 2).val = _; omega))
  pointwise [k0_pay2]

end Cert.FfnRefIdeal.Hand

end
-- ==== Proof.FfnRefArrays.lean ====
/-
  The feed-forward reference's ten results, entry by entry.
-/
module

public import proofs.«01_k».proof.Proof.FfnRefPoint
public import Idealize.ShloMosaic.Lib.Pipeline.ValueKit.Geometry
public import Idealize.ShloMosaic.Lib.Pipeline.ValueKit.Acc

@[expose] public section

set_option maxRecDepth 65536

noncomputable section

open Idealize.ShloMosaic Idealize.ShloMosaic.TcCoe Idealize.SL.Sem

namespace Cert.FfnRefIdeal.Hand

open Cert.FfnRefIdeal Cert.FfnRefIdeal.Gen Cert.Common Cert.FfnSpec

variable (m : (ℓ : Loc nD τ sig) → Buf (Elt Ideal) ℓ) (ρ : Dev nD → PrngReg)

/-- The arrays of a device. -/
def arrays (c : Dev nD) : Arrays :=
  ⟨m ((c : Thread nD τ).loc main_arg0), m ((c : Thread nD τ).loc main_arg1), m ((c : Thread nD τ).loc main_arg2),
    m ((c : Thread nD τ).loc main_arg3), m ((c : Thread nD τ).loc main_arg4)⟩

/-! ## The one point reads the whole arrays -/

theorem idx0 : ∀ t : Fin cfg0.N, win0_0.index t (0 : Fin 2) = 0 ∧ win0_0.index t (1 : Fin 2) = 0 :=
  (by decide +kernel : ∀ t : Fin grid0.N, _)
theorem whole0 (c : Dev nD) (t : Fin cfg0.N) : iblk m c 0 t = (arrays m c).a := by
  obtain ⟨e0, e1⟩ := idx0 t
  funext y
  refine Eq.trans (b := (arrays m c).a (((cfg0.win 0).blk t).view.emb y)) ?_ ((eq_at2 _ _ ?_ ?_).trans (at2_idx _ y))
  · show V m c (Pipeline.arrRef spec0 0) _ = _
    rfl
  · show win0_0.index t (0 : Fin 2) * 6144 + 1 * (y 0).val = _; rw [e0]; omega
  · show win0_0.index t (1 : Fin 2) * 4096 + 1 * (y 1).val = _; rw [e1]; omega

theorem idx1 : ∀ t : Fin cfg0.N, win0_1.index t (0 : Fin 2) = 0 ∧ win0_1.index t (1 : Fin 2) = 0 :=
  (by decide +kernel : ∀ t : Fin grid0.N, _)
theorem whole1 (c : Dev nD) (t : Fin cfg0.N) : iblk m c 1 t = (arrays m c).dy := by
  obtain ⟨e0, e1⟩ := idx1 t
  funext y
  refine Eq.trans (b := (arrays m c).dy (((cfg0.win 1).blk t).view.emb y)) ?_ ((eq_at2 _ _ ?_ ?_).trans (at2_idx _ y))
  · show V m c (Pipeline.arrRef spec0 1) _ = _
    rfl
  · show win0_1.index t (0 : Fin 2) * 6144 + 1 * (y 0).val = _; rw [e0]; omega
  · show win0_1.index t (1 : Fin 2) * 4096 + 1 * (y 1).val = _; rw [e1]; omega

theorem idx2 : ∀ t : Fin cfg0.N, win0_2.index t (0 : Fin 2) = 0 ∧ win0_2.index t (1 : Fin 2) = 0 :=
  (by decide +kernel : ∀ t : Fin grid0.N, _)
theorem whole2 (c : Dev nD) (t : Fin cfg0.N) : iblk m c 2 t = (arrays m c).wg := by
  obtain ⟨e0, e1⟩ := idx2 t
  funext y
  refine Eq.trans (b := (arrays m c).wg (((cfg0.win 2).blk t).view.emb y)) ?_ ((eq_at2 _ _ ?_ ?_).trans (at2_idx _ y))
  · show V m c (Pipeline.arrRef spec0 2) _ = _
    rfl
  · show win0_2.index t (0 : Fin 2) * 4096 + 1 * (y 0).val = _; rw [e0]; omega
  · show win0_2.index t (1 : Fin 2) * 11008 + 1 * (y 1).val = _; rw [e1]; omega

theorem idx3 : ∀ t : Fin cfg0.N, win0_3.index t (0 : Fin 2) = 0 ∧ win0_3.index t (1 : Fin 2) = 0 :=
  (by decide +kernel : ∀ t : Fin grid0.N, _)
theorem whole3 (c : Dev nD) (t : Fin cfg0.N) : iblk m c 3 t = (arrays m c).wu := by
  obtain ⟨e0, e1⟩ := idx3 t
  funext y
  refine Eq.trans (b := (arrays m c).wu (((cfg0.win 3).blk t).view.emb y)) ?_ ((eq_at2 _ _ ?_ ?_).trans (at2_idx _ y))
  · show V m c (Pipeline.arrRef spec0 3) _ = _
    rfl
  · show win0_3.index t (0 : Fin 2) * 4096 + 1 * (y 0).val = _; rw [e0]; omega
  · show win0_3.index t (1 : Fin 2) * 11008 + 1 * (y 1).val = _; rw [e1]; omega

theorem idx4 : ∀ t : Fin cfg0.N, win0_4.index t (0 : Fin 2) = 0 ∧ win0_4.index t (1 : Fin 2) = 0 :=
  (by decide +kernel : ∀ t : Fin grid0.N, _)
theorem whole4 (c : Dev nD) (t : Fin cfg0.N) : iblk m c 4 t = (arrays m c).wd := by
  obtain ⟨e0, e1⟩ := idx4 t
  funext y
  refine Eq.trans (b := (arrays m c).wd (((cfg0.win 4).blk t).view.emb y)) ?_ ((eq_at2 _ _ ?_ ?_).trans (at2_idx _ y))
  · show V m c (Pipeline.arrRef spec0 4) _ = _
    rfl
  · show win0_4.index t (0 : Fin 2) * 11008 + 1 * (y 0).val = _; rw [e0]; omega
  · show win0_4.index t (1 : Fin 2) * 4096 + 1 * (y 1).val = _; rw [e1]; omega

/-! ## The three quantities -/

variable (A : Arrays)

theorem hid_eq (i : S6144x11008.Idx) : k0_pay7 (F := Ideal) A.a A.wg A.wu i = hid A (i 0).val (i 1).val := by
  have e1 : (∑ k : Fin 4096, A.a (ix2 (i 0) k) * A.wg (ix2 k (i 1))) = gate A (i 0).val (i 1).val :=
    Finset.sum_congr rfl fun k _ => congrArg₂ (· * ·) (eq_at2 A.a _ rfl rfl) (eq_at2 A.wg _ rfl rfl)
  have e2 : (∑ k : Fin 4096, A.a (ix2 (i 0) k) * A.wu (ix2 k (i 1))) = up A (i 0).val (i 1).val :=
    Finset.sum_congr rfl fun k _ => congrArg₂ (· * ·) (eq_at2 A.a _ rfl rfl) (eq_at2 A.wu _ rfl rfl)
  unfold hid
  rw [pay7_apply, e1, e2]

theorem dgate_eq (i : S6144x11008.Idx) : k0_pay10 (F := Ideal) A.a A.wg A.wu A.dy A.wd i = dgate A (i 0).val (i 1).val := by
  have e1 : (∑ k : Fin 4096, A.a (ix2 (i 0) k) * A.wg (ix2 k (i 1))) = gate A (i 0).val (i 1).val :=
    Finset.sum_congr rfl fun k _ => congrArg₂ (· * ·) (eq_at2 A.a _ rfl rfl) (eq_at2 A.wg _ rfl rfl)
  have e2 : (∑ k : Fin 4096, A.a (ix2 (i 0) k) * A.wu (ix2 k (i 1))) = up A (i 0).val (i 1).val :=
    Finset.sum_congr rfl fun k _ => congrArg₂ (· * ·) (eq_at2 A.a _ rfl rfl) (eq_at2 A.wu _ rfl rfl)
  have e3 : (∑ k : Fin 4096, A.dy (ix2 (i 0) k) * A.wd (ix2 (i 1) k)) = back A (i 0).val (i 1).val :=
    Finset.sum_congr rfl fun k _ => congrArg₂ (· * ·) (eq_at2 A.dy _ rfl rfl) (eq_at2 A.wd _ rfl rfl)
  unfold dgate
  rw [pay10_apply, e1, e2, e3]

theorem dup_eq (i : S6144x11008.Idx) : k0_pay11 (F := Ideal) A.a A.wg A.dy A.wd i = dup A (i 0).val (i 1).val := by
  have e1 : (∑ k : Fin 4096, A.a (ix2 (i 0) k) * A.wg (ix2 k (i 1))) = gate A (i 0).val (i 1).val :=
    Finset.sum_congr rfl fun k _ => congrArg₂ (· * ·) (eq_at2 A.a _ rfl rfl) (eq_at2 A.wg _ rfl rfl)
  have e3 : (∑ k : Fin 4096, A.dy (ix2 (i 0) k) * A.wd (ix2 (i 1) k)) = back A (i 0).val (i 1).val :=
    Finset.sum_congr rfl fun k _ => congrArg₂ (· * ·) (eq_at2 A.dy _ rfl rfl) (eq_at2 A.wd _ rfl rfl)
  unfold dup
  rw [pay11_apply, e1, e3]

/-- The scale and the codes of a quantity known entry by entry. -/
theorem scale_of (v : FVec Ideal S6144x11008 .f32) (f : ℕ → ℕ → EReal) (h : ∀ i : S6144x11008.Idx, v i = f (i 0).val (i 1).val) (n : Fin 11008) :
    k0_pay19 v (ix2 (0 : Fin 1) n) = sclOf f n.val := by
  rw [pay19_apply]
  exact congrArg (fun g : Fin 6144 → EReal => scl ((Finset.univ : Finset (Fin 6144)).fold max start g)) (funext fun r => congrArg ab (h (ix2 r n)))

theorem eq_pair (i : S6144x11008.Idx) : i = ix2 (i 0) (i 1) := by
  funext k
  match k with
  | 0 => rfl
  | 1 => rfl

theorem code_of (v : FVec Ideal S6144x11008 .f32) (f : ℕ → ℕ → EReal) (h : ∀ i : S6144x11008.Idx, v i = f (i 0).val (i 1).val) (r : Fin 6144) (n : Fin 11008) :
    k0_pay20 v (ix2 r n) = codeAt f r.val n.val := by
  rw [pay20_apply, scale_of v f h, h]; rfl

theorem row_of (v : FVec Ideal S6144x11008 .f32) (f : ℕ → ℕ → EReal) (h : ∀ i : S6144x11008.Idx, v i = f (i 0).val (i 1).val) (y : S43x1x256.Idx) :
    k0_pay2 (k0_pay19 v) y = sclOf f (256 * (y 0).val + (y 2).val) := by
  have h0 : (y 0).val < 43 := (y 0).isLt
  have h2 : (y 2).val < 256 := (y 2).isLt
  rw [pay2_apply, at2_of_lt (R := 1) (C := 11008) _ (by omega) (by omega)]
  exact scale_of v f h _

/-! ## The results -/

theorem out5_eq : out0_5 (F := Ideal) A.a A.dy A.wg A.wu A.wd = k0_pay12 (F := Ideal) A.a A.wg A.wu := by
  unfold out0_5
  refine (View.canon_cons_unit_lit _ _ _ (by decide)).trans ?_
  simp (disch := decide) only [View.ld_unit_lit']

theorem out6_eq : out0_6 (F := Ideal) A.a A.dy A.wg A.wu A.wd = k0_pay13 (F := Ideal) A.a A.wg A.wu A.dy A.wd := by
  unfold out0_6
  refine (View.canon_cons_unit_lit _ _ _ (by decide)).trans ?_
  simp (disch := decide) only [View.ld_unit_lit']

theorem out7_eq : out0_7 (F := Ideal) A.a A.dy A.wg A.wu A.wd = k0_pay14 (F := Ideal) A.a A.wg A.dy A.wd := by
  unfold out0_7
  refine (View.canon_cons_unit_lit _ _ _ (by decide)).trans ?_
  simp (disch := decide) only [View.ld_unit_lit']

theorem out8_eq : out0_8 (F := Ideal) A.a A.dy A.wg A.wu A.wd = k0_pay20 (F := Ideal) (k0_pay7 (F := Ideal) A.a A.wg A.wu) := by
  unfold out0_8 k0_pay27 k0_pay25 k0_pay26
  refine (View.canon_cons_unit_lit _ _ _ (by decide)).trans ?_
  simp (disch := decide) only [View.ld_unit_lit']
  exact pay18_eq _ _ _

theorem out9_eq : out0_9 (F := Ideal) A.a A.dy A.wg A.wu A.wd = k0_pay1 (F := Ideal) (k0_pay20 (F := Ideal) (k0_pay7 (F := Ideal) A.a A.wg A.wu)) := by
  unfold out0_9 k0_pay27 k0_pay25 k0_pay26
  refine (View.canon_cons_unit_lit _ _ _ (by decide)).trans ?_
  simp (disch := decide) only [View.ld_unit_lit']
  exact congrArg k0_pay1 (pay18_eq _ _ _)

theorem out10_eq : out0_10 (F := Ideal) A.a A.dy A.wg A.wu A.wd = k0_pay20 (F := Ideal) (k0_pay10 (F := Ideal) A.a A.wg A.wu A.dy A.wd) := by
  unfold out0_10 k0_pay23
  refine (View.canon_cons_unit_lit _ _ _ (by decide)).trans ?_
  simp (disch := decide) only [View.ld_unit_lit']

theorem out11_eq : out0_11 (F := Ideal) A.a A.dy A.wg A.wu A.wd = k0_pay20 (F := Ideal) (k0_pay11 (F := Ideal) A.a A.wg A.dy A.wd) := by
  unfold out0_11 k0_pay24
  refine (View.canon_cons_unit_lit _ _ _ (by decide)).trans ?_
  simp (disch := decide) only [View.ld_unit_lit']
  exact pay22_eq _

theorem out12_eq : out0_12 (F := Ideal) A.a A.dy A.wg A.wu A.wd = k0_pay2 (F := Ideal) (k0_pay19 (F := Ideal) (k0_pay7 (F := Ideal) A.a A.wg A.wu)) := by
  unfold out0_12 k0_pay25 k0_pay26
  refine (View.canon_cons_unit_lit _ _ _ (by decide)).trans ?_
  simp (disch := decide) only [View.ld_unit_lit']
  exact congrArg k0_pay2 (pay17_eq _ _ _)

theorem out13_eq : out0_13 (F := Ideal) A.a A.dy A.wg A.wu A.wd = k0_pay2 (F := Ideal) (k0_pay19 (F := Ideal) (k0_pay10 (F := Ideal) A.a A.wg A.wu A.dy A.wd)) := by
  unfold out0_13 k0_pay23
  refine (View.canon_cons_unit_lit _ _ _ (by decide)).trans ?_
  simp (disch := decide) only [View.ld_unit_lit']
  rfl

theorem out14_eq : out0_14 (F := Ideal) A.a A.dy A.wg A.wu A.wd = k0_pay2 (F := Ideal) (k0_pay19 (F := Ideal) (k0_pay11 (F := Ideal) A.a A.wg A.dy A.wd)) := by
  unfold out0_14 k0_pay24
  refine (View.canon_cons_unit_lit _ _ _ (by decide)).trans ?_
  simp (disch := decide) only [View.ld_unit_lit']
  exact congrArg k0_pay2 (pay21_eq _)

theorem res5 (i : S6144x11008.Idx) : out0_5 (F := Ideal) A.a A.dy A.wg A.wu A.wd i = hid A (i 0).val (i 1).val := by
  rw [out5_eq]
  exact (pay12_apply _ _ _ i).trans (hid_eq A i)
theorem res6 (i : S6144x11008.Idx) : out0_6 (F := Ideal) A.a A.dy A.wg A.wu A.wd i = dgate A (i 0).val (i 1).val := by
  rw [out6_eq]
  exact (pay13_apply _ _ _ _ _ i).trans (dgate_eq A i)
theorem res7 (i : S6144x11008.Idx) : out0_7 (F := Ideal) A.a A.dy A.wg A.wu A.wd i = dup A (i 0).val (i 1).val := by
  rw [out7_eq]
  exact (pay14_apply _ _ _ _ i).trans (dup_eq A i)
theorem res8 (i : S6144x11008.Idx) : out0_8 (F := Ideal) A.a A.dy A.wg A.wu A.wd i = codeAt (hid A) (i 0).val (i 1).val := by
  rw [out8_eq]
  exact (congrArg (k0_pay20 (F := Ideal) _) (eq_pair i)).trans (code_of _ _ (hid_eq A) (i 0) (i 1))
theorem res9 (i : S11008x6144.Idx) : out0_9 (F := Ideal) A.a A.dy A.wg A.wu A.wd i = codeAt (hid A) (i 1).val (i 0).val := by
  rw [out9_eq]
  exact (pay1_apply _ i).trans (code_of _ _ (hid_eq A) (i 1) (i 0))
theorem res10 (i : S6144x11008.Idx) : out0_10 (F := Ideal) A.a A.dy A.wg A.wu A.wd i = codeAt (dgate A) (i 0).val (i 1).val := by
  rw [out10_eq]
  exact (congrArg (k0_pay20 (F := Ideal) _) (eq_pair i)).trans (code_of _ _ (dgate_eq A) (i 0) (i 1))
theorem res11 (i : S6144x11008.Idx) : out0_11 (F := Ideal) A.a A.dy A.wg A.wu A.wd i = codeAt (dup A) (i 0).val (i 1).val := by
  rw [out11_eq]
  exact (congrArg (k0_pay20 (F := Ideal) _) (eq_pair i)).trans (code_of _ _ (dup_eq A) (i 0) (i 1))
theorem res12 (i : S43x1x256.Idx) : out0_12 (F := Ideal) A.a A.dy A.wg A.wu A.wd i = sclOf (hid A) (256 * (i 0).val + (i 2).val) := by
  rw [out12_eq]
  exact row_of _ _ (hid_eq A) i
theorem res13 (i : S43x1x256.Idx) : out0_13 (F := Ideal) A.a A.dy A.wg A.wu A.wd i = sclOf (dgate A) (256 * (i 0).val + (i 2).val) := by
  rw [out13_eq]
  exact row_of _ _ (dgate_eq A) i
theorem res14 (i : S43x1x256.Idx) : out0_14 (F := Ideal) A.a A.dy A.wg A.wu A.wd i = sclOf (dup A) (256 * (i 0).val + (i 2).val) := by
  rw [out14_eq]
  exact row_of _ _ (dup_eq A) i

/-! ## The arrays after the run -/

theorem idx5 : ∀ t : Fin cfg0.N, win0_5.index t (0 : Fin 2) = 0 ∧ win0_5.index t (1 : Fin 2) = 0 :=
  (by decide +kernel : ∀ t : Fin grid0.N, _)
theorem here5 (t : Fin cfg0.N) (y : S6144x11008.Idx) : ((cfg0.win 5).blk t).view.emb y = y := by
  obtain ⟨e0, e1⟩ := idx5 t
  funext a; apply Fin.ext
  match a with
  | 0 => show win0_5.index t (0 : Fin 2) * 6144 + 1 * (y 0).val = (y 0).val; rw [e0]; omega
  | 1 => show win0_5.index t (1 : Fin 2) * 11008 + 1 * (y 1).val = (y 1).val; rw [e1]; omega
/-- Result 0. -/
def R5 (c : Dev nD) : Buf (Elt Ideal) ((c : Thread nD τ).loc main_v0_0) := fun i : S6144x11008.Idx => hid (arrays m c) (i 0).val (i 1).val
theorem array5 (c : Dev nD) : (dats m 0 c).arrAt 5 cfg0.N = R5 m c := by
  refine (dats m 0 c).arrAt_eq_of_covers 5 (R5 m c) (by decide +kernel) fun t hf y => ?_
  refine Eq.trans (b := (dats m 0 c).after 5 t y) rfl ?_
  rw [after0_5, whole0, whole1, whole2, whole3, whole4]
  exact (res5 (arrays m c) y).trans (congrArg (R5 m c) (here5 t y)).symm

theorem idx6 : ∀ t : Fin cfg0.N, win0_6.index t (0 : Fin 2) = 0 ∧ win0_6.index t (1 : Fin 2) = 0 :=
  (by decide +kernel : ∀ t : Fin grid0.N, _)
theorem here6 (t : Fin cfg0.N) (y : S6144x11008.Idx) : ((cfg0.win 6).blk t).view.emb y = y := by
  obtain ⟨e0, e1⟩ := idx6 t
  funext a; apply Fin.ext
  match a with
  | 0 => show win0_6.index t (0 : Fin 2) * 6144 + 1 * (y 0).val = (y 0).val; rw [e0]; omega
  | 1 => show win0_6.index t (1 : Fin 2) * 11008 + 1 * (y 1).val = (y 1).val; rw [e1]; omega
/-- Result 1. -/
def R6 (c : Dev nD) : Buf (Elt Ideal) ((c : Thread nD τ).loc main_v0_1) := fun i : S6144x11008.Idx => dgate (arrays m c) (i 0).val (i 1).val
theorem array6 (c : Dev nD) : (dats m 0 c).arrAt 6 cfg0.N = R6 m c := by
  refine (dats m 0 c).arrAt_eq_of_covers 6 (R6 m c) (by decide +kernel) fun t hf y => ?_
  refine Eq.trans (b := (dats m 0 c).after 6 t y) rfl ?_
  rw [after0_6, whole0, whole1, whole2, whole3, whole4]
  exact (res6 (arrays m c) y).trans (congrArg (R6 m c) (here6 t y)).symm

theorem idx7 : ∀ t : Fin cfg0.N, win0_7.index t (0 : Fin 2) = 0 ∧ win0_7.index t (1 : Fin 2) = 0 :=
  (by decide +kernel : ∀ t : Fin grid0.N, _)
theorem here7 (t : Fin cfg0.N) (y : S6144x11008.Idx) : ((cfg0.win 7).blk t).view.emb y = y := by
  obtain ⟨e0, e1⟩ := idx7 t
  funext a; apply Fin.ext
  match a with
  | 0 => show win0_7.index t (0 : Fin 2) * 6144 + 1 * (y 0).val = (y 0).val; rw [e0]; omega
  | 1 => show win0_7.index t (1 : Fin 2) * 11008 + 1 * (y 1).val = (y 1).val; rw [e1]; omega
/-- Result 2. -/
def R7 (c : Dev nD) : Buf (Elt Ideal) ((c : Thread nD τ).loc main_v0_2) := fun i : S6144x11008.Idx => dup (arrays m c) (i 0).val (i 1).val
theorem array7 (c : Dev nD) : (dats m 0 c).arrAt 7 cfg0.N = R7 m c := by
  refine (dats m 0 c).arrAt_eq_of_covers 7 (R7 m c) (by decide +kernel) fun t hf y => ?_
  refine Eq.trans (b := (dats m 0 c).after 7 t y) rfl ?_
  rw [after0_7, whole0, whole1, whole2, whole3, whole4]
  exact (res7 (arrays m c) y).trans (congrArg (R7 m c) (here7 t y)).symm

theorem idx8 : ∀ t : Fin cfg0.N, win0_8.index t (0 : Fin 2) = 0 ∧ win0_8.index t (1 : Fin 2) = 0 :=
  (by decide +kernel : ∀ t : Fin grid0.N, _)
theorem here8 (t : Fin cfg0.N) (y : S6144x11008.Idx) : ((cfg0.win 8).blk t).view.emb y = y := by
  obtain ⟨e0, e1⟩ := idx8 t
  funext a; apply Fin.ext
  match a with
  | 0 => show win0_8.index t (0 : Fin 2) * 6144 + 1 * (y 0).val = (y 0).val; rw [e0]; omega
  | 1 => show win0_8.index t (1 : Fin 2) * 11008 + 1 * (y 1).val = (y 1).val; rw [e1]; omega
/-- Result 3. -/
def R8 (c : Dev nD) : Buf (Elt Ideal) ((c : Thread nD τ).loc main_v0_3) := fun i : S6144x11008.Idx => codeAt (hid (arrays m c)) (i 0).val (i 1).val
theorem array8 (c : Dev nD) : (dats m 0 c).arrAt 8 cfg0.N = R8 m c := by
  refine (dats m 0 c).arrAt_eq_of_covers 8 (R8 m c) (by decide +kernel) fun t hf y => ?_
  refine Eq.trans (b := (dats m 0 c).after 8 t y) rfl ?_
  rw [after0_8, whole0, whole1, whole2, whole3, whole4]
  exact (res8 (arrays m c) y).trans (congrArg (R8 m c) (here8 t y)).symm

theorem idx9 : ∀ t : Fin cfg0.N, win0_9.index t (0 : Fin 2) = 0 ∧ win0_9.index t (1 : Fin 2) = 0 :=
  (by decide +kernel : ∀ t : Fin grid0.N, _)
theorem here9 (t : Fin cfg0.N) (y : S11008x6144.Idx) : ((cfg0.win 9).blk t).view.emb y = y := by
  obtain ⟨e0, e1⟩ := idx9 t
  funext a; apply Fin.ext
  match a with
  | 0 => show win0_9.index t (0 : Fin 2) * 11008 + 1 * (y 0).val = (y 0).val; rw [e0]; omega
  | 1 => show win0_9.index t (1 : Fin 2) * 6144 + 1 * (y 1).val = (y 1).val; rw [e1]; omega
/-- Result 4. -/
def R9 (c : Dev nD) : Buf (Elt Ideal) ((c : Thread nD τ).loc main_v0_4) := fun i : S11008x6144.Idx => codeAt (hid (arrays m c)) (i 1).val (i 0).val
theorem array9 (c : Dev nD) : (dats m 0 c).arrAt 9 cfg0.N = R9 m c := by
  refine (dats m 0 c).arrAt_eq_of_covers 9 (R9 m c) (by decide +kernel) fun t hf y => ?_
  refine Eq.trans (b := (dats m 0 c).after 9 t y) rfl ?_
  rw [after0_9, whole0, whole1, whole2, whole3, whole4]
  exact (res9 (arrays m c) y).trans (congrArg (R9 m c) (here9 t y)).symm

theorem idx10 : ∀ t : Fin cfg0.N, win0_10.index t (0 : Fin 2) = 0 ∧ win0_10.index t (1 : Fin 2) = 0 :=
  (by decide +kernel : ∀ t : Fin grid0.N, _)
theorem here10 (t : Fin cfg0.N) (y : S6144x11008.Idx) : ((cfg0.win 10).blk t).view.emb y = y := by
  obtain ⟨e0, e1⟩ := idx10 t
  funext a; apply Fin.ext
  match a with
  | 0 => show win0_10.index t (0 : Fin 2) * 6144 + 1 * (y 0).val = (y 0).val; rw [e0]; omega
  | 1 => show win0_10.index t (1 : Fin 2) * 11008 + 1 * (y 1).val = (y 1).val; rw [e1]; omega
/-- Result 5. -/
def R10 (c : Dev nD) : Buf (Elt Ideal) ((c : Thread nD τ).loc main_v0_5) := fun i : S6144x11008.Idx => codeAt (dgate (arrays m c)) (i 0).val (i 1).val
theorem array10 (c : Dev nD) : (dats m 0 c).arrAt 10 cfg0.N = R10 m c := by
  refine (dats m 0 c).arrAt_eq_of_covers 10 (R10 m c) (by decide +kernel) fun t hf y => ?_
  refine Eq.trans (b := (dats m 0 c).after 10 t y) rfl ?_
  rw [after0_10, whole0, whole1, whole2, whole3, whole4]
  exact (res10 (arrays m c) y).trans (congrArg (R10 m c) (here10 t y)).symm

theorem idx11 : ∀ t : Fin cfg0.N, win0_11.index t (0 : Fin 2) = 0 ∧ win0_11.index t (1 : Fin 2) = 0 :=
  (by decide +kernel : ∀ t : Fin grid0.N, _)
theorem here11 (t : Fin cfg0.N) (y : S6144x11008.Idx) : ((cfg0.win 11).blk t).view.emb y = y := by
  obtain ⟨e0, e1⟩ := idx11 t
  funext a; apply Fin.ext
  match a with
  | 0 => show win0_11.index t (0 : Fin 2) * 6144 + 1 * (y 0).val = (y 0).val; rw [e0]; omega
  | 1 => show win0_11.index t (1 : Fin 2) * 11008 + 1 * (y 1).val = (y 1).val; rw [e1]; omega
/-- Result 6. -/
def R11 (c : Dev nD) : Buf (Elt Ideal) ((c : Thread nD τ).loc main_v0_6) := fun i : S6144x11008.Idx => codeAt (dup (arrays m c)) (i 0).val (i 1).val
theorem array11 (c : Dev nD) : (dats m 0 c).arrAt 11 cfg0.N = R11 m c := by
  refine (dats m 0 c).arrAt_eq_of_covers 11 (R11 m c) (by decide +kernel) fun t hf y => ?_
  refine Eq.trans (b := (dats m 0 c).after 11 t y) rfl ?_
  rw [after0_11, whole0, whole1, whole2, whole3, whole4]
  exact (res11 (arrays m c) y).trans (congrArg (R11 m c) (here11 t y)).symm

theorem idx12 : ∀ t : Fin cfg0.N, win0_12.index t (0 : Fin 3) = 0 ∧ win0_12.index t (1 : Fin 3) = 0 ∧ win0_12.index t (2 : Fin 3) = 0 :=
  (by decide +kernel : ∀ t : Fin grid0.N, _)
theorem here12 (t : Fin cfg0.N) (y : S43x1x256.Idx) : ((cfg0.win 12).blk t).view.emb y = y := by
  obtain ⟨e0, e1, e2⟩ := idx12 t
  funext a; apply Fin.ext
  match a with
  | 0 => show win0_12.index t (0 : Fin 3) * 43 + 1 * (y 0).val = (y 0).val; rw [e0]; omega
  | 1 => show win0_12.index t (1 : Fin 3) * 1 + 1 * (y 1).val = (y 1).val; rw [e1]; omega
  | 2 => show win0_12.index t (2 : Fin 3) * 256 + 1 * (y 2).val = (y 2).val; rw [e2]; omega
/-- Result 7. -/
def R12 (c : Dev nD) : Buf (Elt Ideal) ((c : Thread nD τ).loc main_v0_7) := fun i : S43x1x256.Idx => sclOf (hid (arrays m c)) (256 * (i 0).val + (i 2).val)
theorem array12 (c : Dev nD) : (dats m 0 c).arrAt 12 cfg0.N = R12 m c := by
  refine (dats m 0 c).arrAt_eq_of_covers 12 (R12 m c) (by decide +kernel) fun t hf y => ?_
  refine Eq.trans (b := (dats m 0 c).after 12 t y) rfl ?_
  rw [after0_12, whole0, whole1, whole2, whole3, whole4]
  exact (res12 (arrays m c) y).trans (congrArg (R12 m c) (here12 t y)).symm

theorem idx13 : ∀ t : Fin cfg0.N, win0_13.index t (0 : Fin 3) = 0 ∧ win0_13.index t (1 : Fin 3) = 0 ∧ win0_13.index t (2 : Fin 3) = 0 :=
  (by decide +kernel : ∀ t : Fin grid0.N, _)
theorem here13 (t : Fin cfg0.N) (y : S43x1x256.Idx) : ((cfg0.win 13).blk t).view.emb y = y := by
  obtain ⟨e0, e1, e2⟩ := idx13 t
  funext a; apply Fin.ext
  match a with
  | 0 => show win0_13.index t (0 : Fin 3) * 43 + 1 * (y 0).val = (y 0).val; rw [e0]; omega
  | 1 => show win0_13.index t (1 : Fin 3) * 1 + 1 * (y 1).val = (y 1).val; rw [e1]; omega
  | 2 => show win0_13.index t (2 : Fin 3) * 256 + 1 * (y 2).val = (y 2).val; rw [e2]; omega
/-- Result 8. -/
def R13 (c : Dev nD) : Buf (Elt Ideal) ((c : Thread nD τ).loc main_v0_8) := fun i : S43x1x256.Idx => sclOf (dgate (arrays m c)) (256 * (i 0).val + (i 2).val)
theorem array13 (c : Dev nD) : (dats m 0 c).arrAt 13 cfg0.N = R13 m c := by
  refine (dats m 0 c).arrAt_eq_of_covers 13 (R13 m c) (by decide +kernel) fun t hf y => ?_
  refine Eq.trans (b := (dats m 0 c).after 13 t y) rfl ?_
  rw [after0_13, whole0, whole1, whole2, whole3, whole4]
  exact (res13 (arrays m c) y).trans (congrArg (R13 m c) (here13 t y)).symm

theorem idx14 : ∀ t : Fin cfg0.N, win0_14.index t (0 : Fin 3) = 0 ∧ win0_14.index t (1 : Fin 3) = 0 ∧ win0_14.index t (2 : Fin 3) = 0 :=
  (by decide +kernel : ∀ t : Fin grid0.N, _)
theorem here14 (t : Fin cfg0.N) (y : S43x1x256.Idx) : ((cfg0.win 14).blk t).view.emb y = y := by
  obtain ⟨e0, e1, e2⟩ := idx14 t
  funext a; apply Fin.ext
  match a with
  | 0 => show win0_14.index t (0 : Fin 3) * 43 + 1 * (y 0).val = (y 0).val; rw [e0]; omega
  | 1 => show win0_14.index t (1 : Fin 3) * 1 + 1 * (y 1).val = (y 1).val; rw [e1]; omega
  | 2 => show win0_14.index t (2 : Fin 3) * 256 + 1 * (y 2).val = (y 2).val; rw [e2]; omega
/-- Result 9. -/
def R14 (c : Dev nD) : Buf (Elt Ideal) ((c : Thread nD τ).loc main_v0_9) := fun i : S43x1x256.Idx => sclOf (dup (arrays m c)) (256 * (i 0).val + (i 2).val)
theorem array14 (c : Dev nD) : (dats m 0 c).arrAt 14 cfg0.N = R14 m c := by
  refine (dats m 0 c).arrAt_eq_of_covers 14 (R14 m c) (by decide +kernel) fun t hf y => ?_
  refine Eq.trans (b := (dats m 0 c).after 14 t y) rfl ?_
  rw [after0_14, whole0, whole1, whole2, whole3, whole4]
  exact (res14 (arrays m c) y).trans (congrArg (R14 m c) (here14 t y)).symm

/-- The run, with every result named. -/
theorem run : θ_run defs (onTc (τ := τ) (Cert.FfnRefIdeal.main (F := Ideal))) ⟨m, fun _ => 0, ρ⟩ fun r => ∀ c : Dev nD,
      r.2.mem ((c : Thread nD τ).loc main_v0_0) = R5 m c
      ∧ r.2.mem ((c : Thread nD τ).loc main_v0_1) = R6 m c
      ∧ r.2.mem ((c : Thread nD τ).loc main_v0_2) = R7 m c
      ∧ r.2.mem ((c : Thread nD τ).loc main_v0_3) = R8 m c
      ∧ r.2.mem ((c : Thread nD τ).loc main_v0_4) = R9 m c
      ∧ r.2.mem ((c : Thread nD τ).loc main_v0_5) = R10 m c
      ∧ r.2.mem ((c : Thread nD τ).loc main_v0_6) = R11 m c
      ∧ r.2.mem ((c : Thread nD τ).loc main_v0_7) = R12 m c
      ∧ r.2.mem ((c : Thread nD τ).loc main_v0_8) = R13 m c
      ∧ r.2.mem ((c : Thread nD τ).loc main_v0_9) = R14 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨
      ((h c).1 5).trans (array5 m c),
      ((h c).1 6).trans (array6 m c),
      ((h c).1 7).trans (array7 m c),
      ((h c).1 8).trans (array8 m c),
      ((h c).1 9).trans (array9 m c),
      ((h c).1 10).trans (array10 m c),
      ((h c).1 11).trans (array11 m c),
      ((h c).1 12).trans (array12 m c),
      ((h c).1 13).trans (array13 m c),
      ((h c).1 14).trans (array14 m c),
      (((h c).1 0).trans ((dats m 0 c).arrAt_in 0 rfl _)).trans (A_eq m c 0),
      (((h c).1 1).trans ((dats m 0 c).arrAt_in 1 rfl _)).trans (A_eq m c 1),
      (((h c).1 2).trans ((dats m 0 c).arrAt_in 2 rfl _)).trans (A_eq m c 2),
      (((h c).1 3).trans ((dats m 0 c).arrAt_in 3 rfl _)).trans (A_eq m c 3),
      (((h c).1 4).trans ((dats m 0 c).arrAt_in 4 rfl _)).trans (A_eq m c 4)⟩)
    (run_main m ρ)

end Cert.FfnRefIdeal.Hand

end
-- ==== Proof.FfnValue.lean ====
/-
  The feed-forward call and its reference leave the same ten arrays: both are the entries of FfnSpec.lean.
-/
module

public import proofs.«01_k».proof.Proof.FfnArrays
public import proofs.«01_k».proof.Proof.FfnRefArrays
public import proofs.«01_k».proof.Defs

@[expose] public section

set_option maxRecDepth 16384

noncomputable section

open Idealize.ShloMosaic Idealize.ShloMosaic.TcCoe Idealize.SL.Sem

namespace Cert.FfnValue

/-- The claim. -/
theorem algebraic : algebraic_FfnIdeal_FfnRefIdeal :=
  fun m ρ m' ρ' _ hag => ⟨fun c => FfnIdeal.Hand.R5 m c, fun c => FfnIdeal.Hand.R6 m c, fun c => FfnIdeal.Hand.R7 m c, fun c => FfnIdeal.Hand.R8 m c, fun c => FfnIdeal.Hand.R9 m c, fun c => FfnIdeal.Hand.R10 m c, fun c => FfnIdeal.Hand.R11 m c, fun c => FfnIdeal.Hand.R12 m c, fun c => FfnIdeal.Hand.R13 m c, fun c => FfnIdeal.Hand.R14 m c, FfnIdeal.Hand.run m ρ,
    (θ_run _ _ _).mono (fun _ h c => by
      obtain ⟨a0, a1, a2, a3, a4⟩ := hag c
      have e : FfnRefIdeal.Hand.arrays m' c = FfnIdeal.Hand.arrays m c := by
        unfold FfnRefIdeal.Hand.arrays FfnIdeal.Hand.arrays
        rw [a0, a1, a2, a3, a4]
      obtain ⟨h5, h6, h7, h8, h9, h10, h11, h12, h13, h14, hargs⟩ := h c
      refine ⟨h5.trans ?_, h6.trans ?_, h7.trans ?_, h8.trans ?_, h9.trans ?_, h10.trans ?_, h11.trans ?_, h12.trans ?_, h13.trans ?_, h14.trans ?_, hargs⟩
      · unfold FfnRefIdeal.Hand.R5 FfnIdeal.Hand.R5; rw [e]
      · unfold FfnRefIdeal.Hand.R6 FfnIdeal.Hand.R6; rw [e]
      · unfold FfnRefIdeal.Hand.R7 FfnIdeal.Hand.R7; rw [e]
      · unfold FfnRefIdeal.Hand.R8 FfnIdeal.Hand.R8; rw [e]
      · unfold FfnRefIdeal.Hand.R9 FfnIdeal.Hand.R9; rw [e]
      · unfold FfnRefIdeal.Hand.R10 FfnIdeal.Hand.R10; rw [e]
      · unfold FfnRefIdeal.Hand.R11 FfnIdeal.Hand.R11; rw [e]
      · unfold FfnRefIdeal.Hand.R12 FfnIdeal.Hand.R12; rw [e]
      · unfold FfnRefIdeal.Hand.R13 FfnIdeal.Hand.R13; rw [e]
      · unfold FfnRefIdeal.Hand.R14 FfnIdeal.Hand.R14; rw [e]) (FfnRefIdeal.Hand.run m' ρ')⟩

end Cert.FfnValue

end
-- ==== Proof.lean ====
/-
  The certificate of the three calls: the feed-forward call, the gradient through the projections and the normalisation,
  and the down projection. Each keeps its arguments and ends, and each leaves what its reference leaves.
-/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Skeleton
public import proofs.«01_k».proof.Proof.Gen.FfnRefIdeal.Launch
public import proofs.«01_k».proof.Proof.Gen.FfnRefIdeal.Points
public import proofs.«01_k».proof.Proof.Gen.FfnRefIdeal.Frame
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownIdeal.Value
public import proofs.«01_k».proof.Proof.Gen.DxIdeal.Value
public import proofs.«01_k».proof.Proof.Gen.DownRefIdeal.Read
public import proofs.«01_k».proof.Proof.Gen.DxRefIdeal.Read
public import proofs.«01_k».proof.Proof.DownValue
public import proofs.«01_k».proof.Proof.DxValue
public import proofs.«01_k».proof.Proof.FfnFrame
public import proofs.«01_k».proof.Proof.FfnBitsFrame
public import proofs.«01_k».proof.Proof.FfnValue
public import Idealize.ShloMosaic.Adequacy
public import Idealize.ShloMosaic.Lib.Quiescent
public import Idealize.ShloMosaic.Init

@[expose] public section

noncomputable section

namespace Cert.Proof

open Idealize.ShloMosaic Idealize.SL.Sem

theorem claim : Cert.Claim :=
  ⟨Cert.Ffn.Gen.facts, Cert.FfnIdeal.Gen.facts, Cert.FfnRefIdeal.Gen.facts,
    Cert.Dx.Gen.facts, Cert.DxIdeal.Gen.facts, Cert.DxRefIdeal.Gen.facts,
    Cert.Down.Gen.facts, Cert.DownIdeal.Gen.facts, Cert.DownRefIdeal.Gen.facts,
    fun m ρ _ => Cert.Ffn.Hand.frame m ρ,
    fun m ρ _ => Cert.FfnIdeal.Hand.frame m ρ,
    fun m ρ _ => Cert.FfnRefIdeal.Gen.frame m ρ,
    fun m ρ _ => Cert.Dx.Gen.frame m ρ,
    fun m ρ _ => Cert.DxIdeal.Gen.frame m ρ,
    fun m ρ _ => (θ_run _ _ _).mono (fun _ h => ⟨fun c => (h c).2.2, sem_eq_zero_of_no_sems (by decide) _⟩)
      (Cert.DxRefIdeal.Value.run m ρ),
    fun m ρ _ => Cert.Down.Gen.frame m ρ,
    fun m ρ _ => Cert.DownIdeal.Gen.frame m ρ,
    fun m ρ _ => (θ_run _ _ _).mono (fun _ h => ⟨fun c => (h c).2, sem_eq_zero_of_no_sems (by decide) _⟩)
      (Cert.DownRefIdeal.Value.run m ρ),
    trivial,
    Cert.FfnValue.algebraic,
    trivial,
    Cert.DxValue.algebraic,
    trivial,
    Cert.DownValue.algebraic⟩

end Cert.Proof

end
